-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2048x1024 : Shape := ⟨2, ![2048, 1024]⟩
abbrev S1024x2048 : Shape := ⟨2, ![1024, 2048]⟩
abbrev S1x1024 : Shape := ⟨2, ![1, 1024]⟩
abbrev S6144x1024 : Shape := ⟨2, ![6144, 1024]⟩
abbrev S8x768x1024 : Shape := ⟨3, ![8, 768, 1024]⟩
abbrev S8x1024x768 : Shape := ⟨3, ![8, 1024, 768]⟩
abbrev S128 : Shape := ⟨1, ![128]⟩
abbrev S8 : Shape := ⟨1, ![8]⟩
abbrev S4096 : Shape := ⟨1, ![4096]⟩
abbrev S2048x32 : Shape := ⟨2, ![2048, 32]⟩
abbrev S_ : Shape := ⟨0, ![]⟩
abbrev S1 : Shape := ⟨1, ![1]⟩

class Facts : Prop where
  bcast_S_S4096 : S_.BroadcastsInDim S4096 (![] : Fin 0 → Fin S4096.rank)
  slices_S8_S1_0 : S8.Slices ![0] S1
  shapeCasts_S1_S_ : S1.ShapeCasts S_
  reducesTo_S4096_S_d0 : S4096.ReducesTo [0] S_
  h_S_ : 0 < S_.numel
  bcast_S_S128 : S_.BroadcastsInDim S128 (![] : Fin 0 → Fin S128.rank)
  reducesTo_S128_S_d0 : S128.ReducesTo [0] S_

variable [Facts]

def fn_where {F : FTy → Type} [FloatOps F] (arg0 : IVec S4096 1) (arg1 : IVec S4096 32) (arg2 : IVec S4096 32) : IVec S4096 32 :=
  let v0 : IVec S4096 32 := select arg0 arg1 arg2
  v0

def fn_floor_divide {F : FTy → Type} [FloatOps F] (arg0 : IVec S4096 32) (arg1 : IVec S_ 32) : IVec S4096 32 :=
  let v0 : IVec S_ 32 := id arg1
  let v1 : IVec S4096 32 := broadcastInDim S4096 ![] bcast_S_S4096 v0
  let v2 : IVec S4096 32 := Host.divsi arg0 v1
  let v3 : IVec S4096 32 := signi arg0
  let v4 : IVec S_ 32 := signi v0
  let v5 : IVec S4096 32 := broadcastInDim S4096 ![] bcast_S_S4096 v4
  let v6 : IVec S4096 1 := cmpi .ne v3 v5
  let v7 : IVec S4096 32 := broadcastInDim S4096 ![] bcast_S_S4096 v0
  let v8 : IVec S4096 32 := Host.remsi arg0 v7
  let c : IVec S_ 32 := constantI S_ 32 0#32
  let v9 : IVec S4096 32 := broadcastInDim S4096 ![] bcast_S_S4096 c
  let v10 : IVec S4096 1 := cmpi .ne v8 v9
  let v11 : IVec S4096 1 := andi v6 v10
  let c_0 : IVec S_ 32 := constantI S_ 32 1#32
  let v12 : IVec S4096 32 := broadcastInDim S4096 ![] bcast_S_S4096 c_0
  let v13 : IVec S4096 32 := subi v2 v12
  let v14 : IVec S4096 32 := fn_where (F := F) v11 v13 v2
  v14

def fn_part1 {F : FTy → Type} [FloatOps F] (main_v11 : IVec S_ 1) (main_v16 : IVec S128 1) (main_c_5 : IVec S_ 1) : IVec S_ 1 :=
  let main_v17 : IVec S_ 1 := (fun x v => Host.reduce IntOp.andi x v reducesTo_S128_S_d0 h_S_) main_v16 main_c_5
  let main_v18 : IVec S_ 1 := andi main_v11 main_v17
  main_v18

def fn {F : FTy → Type} [FloatOps F] (main_arg0 : FVec F S2048x1024 .f32) (main_arg1 : FVec F S2048x1024 .f32) (main_arg2 : FVec F S2048x1024 .f32) (main_arg3 : FVec F S1024x2048 .f32) (main_arg4 : FVec F S1x1024 .f32) (main_arg5 : FVec F S6144x1024 .f32) (main_arg6 : FVec F S8x768x1024 .f32) (main_arg7 : FVec F S8x768x1024 .f32) (main_arg8 : FVec F S8x1024x768 .f32) (main_arg9 : IVec S128 32) (main_arg10 : IVec S8 32) (main_arg11 : IVec S4096 32) (main_arg12 : FVec F S2048x32 .f32) : IVec S_ 1 :=
  let main_c : IVec S_ 32 := constantI S_ 32 0#32
  let main_v0 : IVec S4096 32 := broadcastInDim S4096 ![] bcast_S_S4096 main_c
  let main_v1 : IVec S4096 1 := cmpi .sge main_arg11 main_v0
  let main_c_0 : IVec S_ 32 := constantI S_ 32 6144#32
  let main_v2 : IVec S4096 32 := broadcastInDim S4096 ![] bcast_S_S4096 main_c_0
  let main_v3 : IVec S4096 1 := cmpi .slt main_arg11 main_v2
  let main_v4 : IVec S4096 1 := andi main_v1 main_v3
  let main_c_1 : IVec S_ 32 := constantI S_ 32 256#32
  let main_v5 : IVec S4096 32 := fn_floor_divide (F := F) main_arg11 main_c_1
  let main_v6 : IVec S1 32 := (extractStridedSlice S1 ![0] · slices_S8_S1_0) main_arg10
  let main_v7 : IVec S_ 32 := shapeCast S_ main_v6 shapeCasts_S1_S_
  let main_v8 : IVec S4096 32 := broadcastInDim S4096 ![] bcast_S_S4096 main_v7
  let main_v9 : IVec S4096 1 := cmpi .slt main_v5 main_v8
  let main_v10 : IVec S4096 1 := andi main_v4 main_v9
  let main_c_2 : IVec S_ 1 := constantI S_ 1 1#1
  let main_v11 : IVec S_ 1 := (fun x v => Host.reduce IntOp.andi x v reducesTo_S4096_S_d0 h_S_) main_v10 main_c_2
  let main_c_3 : IVec S_ 32 := constantI S_ 32 0#32
  let main_v12 : IVec S128 32 := broadcastInDim S128 ![] bcast_S_S128 main_c_3
  let main_v13 : IVec S128 1 := cmpi .sge main_arg9 main_v12
  let main_c_4 : IVec S_ 32 := constantI S_ 32 8#32
  let main_v14 : IVec S128 32 := broadcastInDim S128 ![] bcast_S_S128 main_c_4
  let main_v15 : IVec S128 1 := cmpi .slt main_arg9 main_v14
  let main_v16 : IVec S128 1 := andi main_v13 main_v15
  let main_c_5 : IVec S_ 1 := constantI S_ 1 1#1
  fn_part1 (F := F) main_v11 main_v16 main_c_5
-- ==== Kernel.lean ====
abbrev S2048x1024 : Shape := ⟨2, ![2048, 1024]⟩
abbrev S1024x2048 : Shape := ⟨2, ![1024, 2048]⟩
abbrev S1x1024 : Shape := ⟨2, ![1, 1024]⟩
abbrev S6144x1024 : Shape := ⟨2, ![6144, 1024]⟩
abbrev S8x768x1024 : Shape := ⟨3, ![8, 768, 1024]⟩
abbrev S8x1024x768 : Shape := ⟨3, ![8, 1024, 768]⟩
abbrev S128 : Shape := ⟨1, ![128]⟩
abbrev S8 : Shape := ⟨1, ![8]⟩
abbrev S4096 : Shape := ⟨1, ![4096]⟩
abbrev S2048x32 : Shape := ⟨2, ![2048, 32]⟩
abbrev S256x1024 : Shape := ⟨2, ![256, 1024]⟩
abbrev S256x2048 : Shape := ⟨2, ![256, 2048]⟩
abbrev S256x1 : Shape := ⟨2, ![256, 1]⟩
abbrev S1x768x1024 : Shape := ⟨3, ![1, 768, 1024]⟩
abbrev S1 : Shape := ⟨1, ![1]⟩
abbrev S1x1024x768 : Shape := ⟨3, ![1, 1024, 768]⟩
abbrev S768x1024 : Shape := ⟨2, ![768, 1024]⟩
abbrev S256x768 : Shape := ⟨2, ![256, 768]⟩
abbrev S1024x768 : Shape := ⟨2, ![1024, 768]⟩
abbrev S16 : Shape := ⟨1, ![16]⟩
abbrev S16x32 : Shape := ⟨2, ![16, 32]⟩
abbrev S16x1024 : Shape := ⟨2, ![16, 1024]⟩
abbrev S_ : Shape := ⟨0, ![]⟩
abbrev S16x128 : Shape := ⟨2, ![16, 128]⟩
abbrev S6144x128 : Shape := ⟨2, ![6144, 128]⟩
abbrev S1x16 : Shape := ⟨2, ![1, 16]⟩

abbrev nBuf : Table → Nat
  | .hbm => 14
  | .local .tc .vmem => 18
  | .local .tc .smem => 2
  | .local .scVector .vmem => 12
  | _ => 0

abbrev bufTy : (tb : Table) → Fin (nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x2048, .f32⟩
  | .hbm, ⟨4, _⟩ => ⟨S1x1024, .f32⟩
  | .hbm, ⟨5, _⟩ => ⟨S6144x1024, .f32⟩
  | .hbm, ⟨6, _⟩ => ⟨S8x768x1024, .f32⟩
  | .hbm, ⟨7, _⟩ => ⟨S8x768x1024, .f32⟩
  | .hbm, ⟨8, _⟩ => ⟨S8x1024x768, .f32⟩
  | .hbm, ⟨9, _⟩ => ⟨S4096, .i32⟩
  | .hbm, ⟨10, _⟩ => ⟨S2048x32, .f32⟩
  | .hbm, ⟨11, _⟩ => ⟨S2048x1024, .f32⟩
  | .hbm, ⟨12, _⟩ => ⟨S6144x1024, .f32⟩
  | .hbm, ⟨13, _⟩ => ⟨S2048x1024, .f32⟩
  | .local .tc .vmem, ⟨0, _⟩ => ⟨S256x1024, .f32⟩
  | .local .tc .vmem, ⟨1, _⟩ => ⟨S256x1024, .f32⟩
  | .local .tc .vmem, ⟨2, _⟩ => ⟨S2048x1024, .f32⟩
  | .local .tc .vmem, ⟨3, _⟩ => ⟨S2048x1024, .f32⟩
  | .local .tc .vmem, ⟨4, _⟩ => ⟨S1024x2048, .f32⟩
  | .local .tc .vmem, ⟨5, _⟩ => ⟨S1x1024, .f32⟩
  | .local .tc .vmem, ⟨6, _⟩ => ⟨S256x1024, .f32⟩
  | .local .tc .vmem, ⟨7, _⟩ => ⟨S256x1024, .f32⟩
  | .local .tc .vmem, ⟨8, _⟩ => ⟨S256x1024, .f32⟩
  | .local .tc .vmem, ⟨9, _⟩ => ⟨S256x1024, .f32⟩
  | .local .tc .vmem, ⟨10, _⟩ => ⟨S1x768x1024, .f32⟩
  | .local .tc .vmem, ⟨11, _⟩ => ⟨S1x768x1024, .f32⟩
  | .local .tc .vmem, ⟨12, _⟩ => ⟨S1x768x1024, .f32⟩
  | .local .tc .vmem, ⟨13, _⟩ => ⟨S1x768x1024, .f32⟩
  | .local .tc .vmem, ⟨14, _⟩ => ⟨S1x1024x768, .f32⟩
  | .local .tc .vmem, ⟨15, _⟩ => ⟨S1x1024x768, .f32⟩
  | .local .tc .vmem, ⟨16, _⟩ => ⟨S256x1024, .f32⟩
  | .local .tc .vmem, ⟨17, _⟩ => ⟨S256x1024, .f32⟩
  | .local .tc .smem, ⟨0, _⟩ => ⟨S128, .i32⟩
  | .local .tc .smem, ⟨1, _⟩ => ⟨S8, .i32⟩
  | .local .scVector .vmem, ⟨0, _⟩ => ⟨S16, .i32⟩
  | .local .scVector .vmem, ⟨1, _⟩ => ⟨S16, .i32⟩
  | .local .scVector .vmem, ⟨2, _⟩ => ⟨S16, .i32⟩
  | .local .scVector .vmem, ⟨3, _⟩ => ⟨S16, .i32⟩
  | .local .scVector .vmem, ⟨4, _⟩ => ⟨S16x32, .f32⟩
  | .local .scVector .vmem, ⟨5, _⟩ => ⟨S16x32, .f32⟩
  | .local .scVector .vmem, ⟨6, _⟩ => ⟨S16x1024, .f32⟩
  | .local .scVector .vmem, ⟨7, _⟩ => ⟨S16x1024, .f32⟩
  | .local .scVector .vmem, ⟨8, _⟩ => ⟨S16x1024, .f32⟩
  | .local .scVector .vmem, ⟨9, _⟩ => ⟨S16x1024, .f32⟩
  | .local .scVector .vmem, ⟨10, _⟩ => ⟨S16x1024, .f32⟩
  | .local .scVector .vmem, ⟨11, _⟩ => ⟨S16x1024, .f32⟩
  | _, _ => ⟨S2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg11 : Ref sig .tc := ⟨.hbm, 9, rfl⟩
abbrev main_arg12 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_arg9 : Ref sig .tc := ⟨.smem, 0, rfl⟩
abbrev main_arg10 : Ref sig .tc := ⟨.smem, 1, rfl⟩
abbrev main_v1_scv : Ref sig .scVector := ⟨.hbm, 12, rfl⟩
abbrev main_v0_scv : Ref sig .scVector := ⟨.hbm, 11, rfl⟩
abbrev main_arg11_scv : Ref sig .scVector := ⟨.hbm, 9, rfl⟩
abbrev main_arg12_scv : Ref sig .scVector := ⟨.hbm, 10, rfl⟩
abbrev main_v2_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc2_scratch8 : Ref sig .scVector := ⟨.vmem, 8, rfl⟩
abbrev cc2_scratch9 : Ref sig .scVector := ⟨.vmem, 9, rfl⟩
abbrev cc2_scratch10 : Ref sig .scVector := ⟨.vmem, 10, rfl⟩
abbrev cc2_scratch11 : Ref sig .scVector := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![24], ![false]⟩

abbrev pre1 : Pipeline.Prefetch sig := ⟨2, ![main_arg9.idx, main_arg10.idx], fun | 0 => main_arg9.names | 1 => main_arg10.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x768x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  ![v3.toNat]
def k2_off2 (i : grid2.Coords) (c0_i32 : BitVec 32) : Fin 1 → Nat :=
  let c2048_i32 : BitVec 32 := 2048#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let v6 : BitVec 32 := Scalar.addi c2048_i32 v3
  ![v6.toNat]
def k2_off3 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_0 : BitVec 32 := 0#32
  ![v3.toNat, 0]
def k2_off4 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_2 : BitVec 32 := 0#32
  ![v3.toNat, 0]
@[reducible] def k2_t1_loop : Scf.Loop 32 :=
  let c0_i32_206 : BitVec 32 := 0#32
  let c16_i32_207 : BitVec 32 := 16#32
  let v138 : BitVec 32 := Scalar.addi c0_i32_206 c16_i32_207
  let c1_i32 : BitVec 32 := 1#32
  ⟨c0_i32_206, v138, c1_i32⟩
def k2_off5 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v350 : Index := Scalar.indexCast arg27
  let c0 : Index := 0#32
  ![v350.toNat, 0]
def k2_off6 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v353 : Index := Scalar.indexCast arg27
  let c16 : Index := 16#32
  ![v353.toNat, 16]
def k2_off7 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v356 : Index := Scalar.indexCast arg27
  let c0_570 : Index := 0#32
  ![v356.toNat, 0]
def k2_off8 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v373 : Index := Scalar.indexCast arg27
  let c16_574 : Index := 16#32
  ![v373.toNat, 16]
def k2_off9 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v390 : Index := Scalar.indexCast arg27
  let c32 : Index := 32#32
  ![v390.toNat, 32]
def k2_off10 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v407 : Index := Scalar.indexCast arg27
  let c48 : Index := 48#32
  ![v407.toNat, 48]
def k2_off11 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v424 : Index := Scalar.indexCast arg27
  let c64 : Index := 64#32
  ![v424.toNat, 64]
def k2_off12 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v441 : Index := Scalar.indexCast arg27
  let c80 : Index := 80#32
  ![v441.toNat, 80]
def k2_off13 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v458 : Index := Scalar.indexCast arg27
  let c96 : Index := 96#32
  ![v458.toNat, 96]
def k2_off14 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v475 : Index := Scalar.indexCast arg27
  let c112 : Index := 112#32
  ![v475.toNat, 112]
def k2_off15 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v492 : Index := Scalar.indexCast arg27
  let c128 : Index := 128#32
  ![v492.toNat, 128]
def k2_off16 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v509 : Index := Scalar.indexCast arg27
  let c144 : Index := 144#32
  ![v509.toNat, 144]
def k2_off17 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v526 : Index := Scalar.indexCast arg27
  let c160 : Index := 160#32
  ![v526.toNat, 160]
def k2_off18 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v543 : Index := Scalar.indexCast arg27
  let c176 : Index := 176#32
  ![v543.toNat, 176]
def k2_off19 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v560 : Index := Scalar.indexCast arg27
  let c192 : Index := 192#32
  ![v560.toNat, 192]
def k2_off20 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v577 : Index := Scalar.indexCast arg27
  let c208 : Index := 208#32
  ![v577.toNat, 208]
def k2_off21 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v594 : Index := Scalar.indexCast arg27
  let c224 : Index := 224#32
  ![v594.toNat, 224]
def k2_off22 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v611 : Index := Scalar.indexCast arg27
  let c240 : Index := 240#32
  ![v611.toNat, 240]
def k2_off23 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v628 : Index := Scalar.indexCast arg27
  let c256 : Index := 256#32
  ![v628.toNat, 256]
def k2_off24 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v645 : Index := Scalar.indexCast arg27
  let c272 : Index := 272#32
  ![v645.toNat, 272]
def k2_off25 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v662 : Index := Scalar.indexCast arg27
  let c288 : Index := 288#32
  ![v662.toNat, 288]
def k2_off26 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v679 : Index := Scalar.indexCast arg27
  let c304 : Index := 304#32
  ![v679.toNat, 304]
def k2_off27 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v696 : Index := Scalar.indexCast arg27
  let c320 : Index := 320#32
  ![v696.toNat, 320]
def k2_off28 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v713 : Index := Scalar.indexCast arg27
  let c336 : Index := 336#32
  ![v713.toNat, 336]
def k2_off29 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v730 : Index := Scalar.indexCast arg27
  let c352 : Index := 352#32
  ![v730.toNat, 352]
def k2_off30 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v747 : Index := Scalar.indexCast arg27
  let c368 : Index := 368#32
  ![v747.toNat, 368]
def k2_off31 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v764 : Index := Scalar.indexCast arg27
  let c384 : Index := 384#32
  ![v764.toNat, 384]
def k2_off32 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v781 : Index := Scalar.indexCast arg27
  let c400 : Index := 400#32
  ![v781.toNat, 400]
def k2_off33 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v798 : Index := Scalar.indexCast arg27
  let c416 : Index := 416#32
  ![v798.toNat, 416]
def k2_off34 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v815 : Index := Scalar.indexCast arg27
  let c432 : Index := 432#32
  ![v815.toNat, 432]
def k2_off35 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v832 : Index := Scalar.indexCast arg27
  let c448 : Index := 448#32
  ![v832.toNat, 448]
def k2_off36 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v849 : Index := Scalar.indexCast arg27
  let c464 : Index := 464#32
  ![v849.toNat, 464]
def k2_off37 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v866 : Index := Scalar.indexCast arg27
  let c480 : Index := 480#32
  ![v866.toNat, 480]
def k2_off38 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v883 : Index := Scalar.indexCast arg27
  let c496 : Index := 496#32
  ![v883.toNat, 496]
def k2_off39 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v900 : Index := Scalar.indexCast arg27
  let c512 : Index := 512#32
  ![v900.toNat, 512]
def k2_off40 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v917 : Index := Scalar.indexCast arg27
  let c528 : Index := 528#32
  ![v917.toNat, 528]
def k2_off41 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v934 : Index := Scalar.indexCast arg27
  let c544 : Index := 544#32
  ![v934.toNat, 544]
def k2_off42 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v951 : Index := Scalar.indexCast arg27
  let c560 : Index := 560#32
  ![v951.toNat, 560]
def k2_off43 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v968 : Index := Scalar.indexCast arg27
  let c576 : Index := 576#32
  ![v968.toNat, 576]
def k2_off44 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v985 : Index := Scalar.indexCast arg27
  let c592 : Index := 592#32
  ![v985.toNat, 592]
def k2_off45 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1002 : Index := Scalar.indexCast arg27
  let c608 : Index := 608#32
  ![v1002.toNat, 608]
def k2_off46 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1019 : Index := Scalar.indexCast arg27
  let c624 : Index := 624#32
  ![v1019.toNat, 624]
def k2_off47 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1036 : Index := Scalar.indexCast arg27
  let c640 : Index := 640#32
  ![v1036.toNat, 640]
def k2_off48 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1053 : Index := Scalar.indexCast arg27
  let c656 : Index := 656#32
  ![v1053.toNat, 656]
def k2_off49 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1070 : Index := Scalar.indexCast arg27
  let c672 : Index := 672#32
  ![v1070.toNat, 672]
def k2_off50 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1087 : Index := Scalar.indexCast arg27
  let c688 : Index := 688#32
  ![v1087.toNat, 688]
def k2_off51 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1104 : Index := Scalar.indexCast arg27
  let c704 : Index := 704#32
  ![v1104.toNat, 704]
def k2_off52 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1121 : Index := Scalar.indexCast arg27
  let c720 : Index := 720#32
  ![v1121.toNat, 720]
def k2_off53 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1138 : Index := Scalar.indexCast arg27
  let c736 : Index := 736#32
  ![v1138.toNat, 736]
def k2_off54 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1155 : Index := Scalar.indexCast arg27
  let c752 : Index := 752#32
  ![v1155.toNat, 752]
def k2_off55 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1172 : Index := Scalar.indexCast arg27
  let c768 : Index := 768#32
  ![v1172.toNat, 768]
def k2_off56 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1189 : Index := Scalar.indexCast arg27
  let c784 : Index := 784#32
  ![v1189.toNat, 784]
def k2_off57 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1206 : Index := Scalar.indexCast arg27
  let c800 : Index := 800#32
  ![v1206.toNat, 800]
def k2_off58 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1223 : Index := Scalar.indexCast arg27
  let c816 : Index := 816#32
  ![v1223.toNat, 816]
def k2_off59 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1240 : Index := Scalar.indexCast arg27
  let c832 : Index := 832#32
  ![v1240.toNat, 832]
def k2_off60 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1257 : Index := Scalar.indexCast arg27
  let c848 : Index := 848#32
  ![v1257.toNat, 848]
def k2_off61 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1274 : Index := Scalar.indexCast arg27
  let c864 : Index := 864#32
  ![v1274.toNat, 864]
def k2_off62 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1291 : Index := Scalar.indexCast arg27
  let c880 : Index := 880#32
  ![v1291.toNat, 880]
def k2_off63 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1308 : Index := Scalar.indexCast arg27
  let c896 : Index := 896#32
  ![v1308.toNat, 896]
def k2_off64 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1325 : Index := Scalar.indexCast arg27
  let c912 : Index := 912#32
  ![v1325.toNat, 912]
def k2_off65 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1342 : Index := Scalar.indexCast arg27
  let c928 : Index := 928#32
  ![v1342.toNat, 928]
def k2_off66 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1359 : Index := Scalar.indexCast arg27
  let c944 : Index := 944#32
  ![v1359.toNat, 944]
def k2_off67 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1376 : Index := Scalar.indexCast arg27
  let c960 : Index := 960#32
  ![v1376.toNat, 960]
def k2_off68 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1393 : Index := Scalar.indexCast arg27
  let c976 : Index := 976#32
  ![v1393.toNat, 976]
def k2_off69 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1410 : Index := Scalar.indexCast arg27
  let c992 : Index := 992#32
  ![v1410.toNat, 992]
def k2_off70 (k2_t1 : Fin k2_t1_loop.trips) : Fin 2 → Nat :=
  let c0_i32_206 : BitVec 32 := 0#32
  let c1_i32 : BitVec 32 := 1#32
  let arg27 : BitVec 32 := Scf.iv c0_i32_206 c1_i32 k2_t1
  let v1427 : Index := Scalar.indexCast arg27
  let c1008 : Index := 1008#32
  ![v1427.toNat, 1008]
@[reducible] def k2_t2_loop : Scf.Loop 32 :=
  let c0_i32_350 : BitVec 32 := 0#32
  let c16_i32_351 : BitVec 32 := 16#32
  let v225 : BitVec 32 := Scalar.addi c0_i32_350 c16_i32_351
  let c1_i32_352 : BitVec 32 := 1#32
  ⟨c0_i32_350, v225, c1_i32_352⟩
def k2_off71 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v350 : Index := Scalar.indexCast arg27
  let c0 : Index := 0#32
  ![v350.toNat, 0]
def k2_off72 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v353 : Index := Scalar.indexCast arg27
  let c16 : Index := 16#32
  ![v353.toNat, 16]
def k2_off73 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v356 : Index := Scalar.indexCast arg27
  let c0_570 : Index := 0#32
  ![v356.toNat, 0]
def k2_off74 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v373 : Index := Scalar.indexCast arg27
  let c16_574 : Index := 16#32
  ![v373.toNat, 16]
def k2_off75 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v390 : Index := Scalar.indexCast arg27
  let c32 : Index := 32#32
  ![v390.toNat, 32]
def k2_off76 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v407 : Index := Scalar.indexCast arg27
  let c48 : Index := 48#32
  ![v407.toNat, 48]
def k2_off77 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v424 : Index := Scalar.indexCast arg27
  let c64 : Index := 64#32
  ![v424.toNat, 64]
def k2_off78 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v441 : Index := Scalar.indexCast arg27
  let c80 : Index := 80#32
  ![v441.toNat, 80]
def k2_off79 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v458 : Index := Scalar.indexCast arg27
  let c96 : Index := 96#32
  ![v458.toNat, 96]
def k2_off80 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v475 : Index := Scalar.indexCast arg27
  let c112 : Index := 112#32
  ![v475.toNat, 112]
def k2_off81 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v492 : Index := Scalar.indexCast arg27
  let c128 : Index := 128#32
  ![v492.toNat, 128]
def k2_off82 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v509 : Index := Scalar.indexCast arg27
  let c144 : Index := 144#32
  ![v509.toNat, 144]
def k2_off83 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v526 : Index := Scalar.indexCast arg27
  let c160 : Index := 160#32
  ![v526.toNat, 160]
def k2_off84 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v543 : Index := Scalar.indexCast arg27
  let c176 : Index := 176#32
  ![v543.toNat, 176]
def k2_off85 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v560 : Index := Scalar.indexCast arg27
  let c192 : Index := 192#32
  ![v560.toNat, 192]
def k2_off86 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v577 : Index := Scalar.indexCast arg27
  let c208 : Index := 208#32
  ![v577.toNat, 208]
def k2_off87 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v594 : Index := Scalar.indexCast arg27
  let c224 : Index := 224#32
  ![v594.toNat, 224]
def k2_off88 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v611 : Index := Scalar.indexCast arg27
  let c240 : Index := 240#32
  ![v611.toNat, 240]
def k2_off89 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v628 : Index := Scalar.indexCast arg27
  let c256 : Index := 256#32
  ![v628.toNat, 256]
def k2_off90 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v645 : Index := Scalar.indexCast arg27
  let c272 : Index := 272#32
  ![v645.toNat, 272]
def k2_off91 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v662 : Index := Scalar.indexCast arg27
  let c288 : Index := 288#32
  ![v662.toNat, 288]
def k2_off92 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v679 : Index := Scalar.indexCast arg27
  let c304 : Index := 304#32
  ![v679.toNat, 304]
def k2_off93 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v696 : Index := Scalar.indexCast arg27
  let c320 : Index := 320#32
  ![v696.toNat, 320]
def k2_off94 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v713 : Index := Scalar.indexCast arg27
  let c336 : Index := 336#32
  ![v713.toNat, 336]
def k2_off95 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v730 : Index := Scalar.indexCast arg27
  let c352 : Index := 352#32
  ![v730.toNat, 352]
def k2_off96 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v747 : Index := Scalar.indexCast arg27
  let c368 : Index := 368#32
  ![v747.toNat, 368]
def k2_off97 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v764 : Index := Scalar.indexCast arg27
  let c384 : Index := 384#32
  ![v764.toNat, 384]
def k2_off98 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v781 : Index := Scalar.indexCast arg27
  let c400 : Index := 400#32
  ![v781.toNat, 400]
def k2_off99 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v798 : Index := Scalar.indexCast arg27
  let c416 : Index := 416#32
  ![v798.toNat, 416]
def k2_off100 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v815 : Index := Scalar.indexCast arg27
  let c432 : Index := 432#32
  ![v815.toNat, 432]
def k2_off101 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v832 : Index := Scalar.indexCast arg27
  let c448 : Index := 448#32
  ![v832.toNat, 448]
def k2_off102 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v849 : Index := Scalar.indexCast arg27
  let c464 : Index := 464#32
  ![v849.toNat, 464]
def k2_off103 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v866 : Index := Scalar.indexCast arg27
  let c480 : Index := 480#32
  ![v866.toNat, 480]
def k2_off104 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v883 : Index := Scalar.indexCast arg27
  let c496 : Index := 496#32
  ![v883.toNat, 496]
def k2_off105 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v900 : Index := Scalar.indexCast arg27
  let c512 : Index := 512#32
  ![v900.toNat, 512]
def k2_off106 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v917 : Index := Scalar.indexCast arg27
  let c528 : Index := 528#32
  ![v917.toNat, 528]
def k2_off107 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v934 : Index := Scalar.indexCast arg27
  let c544 : Index := 544#32
  ![v934.toNat, 544]
def k2_off108 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v951 : Index := Scalar.indexCast arg27
  let c560 : Index := 560#32
  ![v951.toNat, 560]
def k2_off109 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v968 : Index := Scalar.indexCast arg27
  let c576 : Index := 576#32
  ![v968.toNat, 576]
def k2_off110 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v985 : Index := Scalar.indexCast arg27
  let c592 : Index := 592#32
  ![v985.toNat, 592]
def k2_off111 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1002 : Index := Scalar.indexCast arg27
  let c608 : Index := 608#32
  ![v1002.toNat, 608]
def k2_off112 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1019 : Index := Scalar.indexCast arg27
  let c624 : Index := 624#32
  ![v1019.toNat, 624]
def k2_off113 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1036 : Index := Scalar.indexCast arg27
  let c640 : Index := 640#32
  ![v1036.toNat, 640]
def k2_off114 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1053 : Index := Scalar.indexCast arg27
  let c656 : Index := 656#32
  ![v1053.toNat, 656]
def k2_off115 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1070 : Index := Scalar.indexCast arg27
  let c672 : Index := 672#32
  ![v1070.toNat, 672]
def k2_off116 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1087 : Index := Scalar.indexCast arg27
  let c688 : Index := 688#32
  ![v1087.toNat, 688]
def k2_off117 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1104 : Index := Scalar.indexCast arg27
  let c704 : Index := 704#32
  ![v1104.toNat, 704]
def k2_off118 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1121 : Index := Scalar.indexCast arg27
  let c720 : Index := 720#32
  ![v1121.toNat, 720]
def k2_off119 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1138 : Index := Scalar.indexCast arg27
  let c736 : Index := 736#32
  ![v1138.toNat, 736]
def k2_off120 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1155 : Index := Scalar.indexCast arg27
  let c752 : Index := 752#32
  ![v1155.toNat, 752]
def k2_off121 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1172 : Index := Scalar.indexCast arg27
  let c768 : Index := 768#32
  ![v1172.toNat, 768]
def k2_off122 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1189 : Index := Scalar.indexCast arg27
  let c784 : Index := 784#32
  ![v1189.toNat, 784]
def k2_off123 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1206 : Index := Scalar.indexCast arg27
  let c800 : Index := 800#32
  ![v1206.toNat, 800]
def k2_off124 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1223 : Index := Scalar.indexCast arg27
  let c816 : Index := 816#32
  ![v1223.toNat, 816]
def k2_off125 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1240 : Index := Scalar.indexCast arg27
  let c832 : Index := 832#32
  ![v1240.toNat, 832]
def k2_off126 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1257 : Index := Scalar.indexCast arg27
  let c848 : Index := 848#32
  ![v1257.toNat, 848]
def k2_off127 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1274 : Index := Scalar.indexCast arg27
  let c864 : Index := 864#32
  ![v1274.toNat, 864]
def k2_off128 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1291 : Index := Scalar.indexCast arg27
  let c880 : Index := 880#32
  ![v1291.toNat, 880]
def k2_off129 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1308 : Index := Scalar.indexCast arg27
  let c896 : Index := 896#32
  ![v1308.toNat, 896]
def k2_off130 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1325 : Index := Scalar.indexCast arg27
  let c912 : Index := 912#32
  ![v1325.toNat, 912]
def k2_off131 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1342 : Index := Scalar.indexCast arg27
  let c928 : Index := 928#32
  ![v1342.toNat, 928]
def k2_off132 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1359 : Index := Scalar.indexCast arg27
  let c944 : Index := 944#32
  ![v1359.toNat, 944]
def k2_off133 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1376 : Index := Scalar.indexCast arg27
  let c960 : Index := 960#32
  ![v1376.toNat, 960]
def k2_off134 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1393 : Index := Scalar.indexCast arg27
  let c976 : Index := 976#32
  ![v1393.toNat, 976]
def k2_off135 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1410 : Index := Scalar.indexCast arg27
  let c992 : Index := 992#32
  ![v1410.toNat, 992]
def k2_off136 (k2_t2 : Fin k2_t2_loop.trips) : Fin 2 → Nat :=
  let c0_i32_350 : BitVec 32 := 0#32
  let c1_i32_352 : BitVec 32 := 1#32
  let arg27 : BitVec 32 := Scf.iv c0_i32_350 c1_i32_352 k2_t2
  let v1427 : Index := Scalar.indexCast arg27
  let c1008 : Index := 1008#32
  ![v1427.toNat, 1008]
@[reducible] def k2_t3_loop : Scf.Loop 32 :=
  let c0_i32_495 : BitVec 32 := 0#32
  let c16_i32_496 : BitVec 32 := 16#32
  let v312 : BitVec 32 := Scalar.addi c0_i32_495 c16_i32_496
  let c1_i32_497 : BitVec 32 := 1#32
  ⟨c0_i32_495, v312, c1_i32_497⟩
def k2_off137 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v350 : Index := Scalar.indexCast arg27
  let c0 : Index := 0#32
  ![v350.toNat, 0]
def k2_off138 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v353 : Index := Scalar.indexCast arg27
  let c16 : Index := 16#32
  ![v353.toNat, 16]
def k2_off139 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v356 : Index := Scalar.indexCast arg27
  let c0_570 : Index := 0#32
  ![v356.toNat, 0]
def k2_off140 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v373 : Index := Scalar.indexCast arg27
  let c16_574 : Index := 16#32
  ![v373.toNat, 16]
def k2_off141 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v390 : Index := Scalar.indexCast arg27
  let c32 : Index := 32#32
  ![v390.toNat, 32]
def k2_off142 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v407 : Index := Scalar.indexCast arg27
  let c48 : Index := 48#32
  ![v407.toNat, 48]
def k2_off143 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v424 : Index := Scalar.indexCast arg27
  let c64 : Index := 64#32
  ![v424.toNat, 64]
def k2_off144 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v441 : Index := Scalar.indexCast arg27
  let c80 : Index := 80#32
  ![v441.toNat, 80]
def k2_off145 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v458 : Index := Scalar.indexCast arg27
  let c96 : Index := 96#32
  ![v458.toNat, 96]
def k2_off146 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v475 : Index := Scalar.indexCast arg27
  let c112 : Index := 112#32
  ![v475.toNat, 112]
def k2_off147 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v492 : Index := Scalar.indexCast arg27
  let c128 : Index := 128#32
  ![v492.toNat, 128]
def k2_off148 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v509 : Index := Scalar.indexCast arg27
  let c144 : Index := 144#32
  ![v509.toNat, 144]
def k2_off149 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v526 : Index := Scalar.indexCast arg27
  let c160 : Index := 160#32
  ![v526.toNat, 160]
def k2_off150 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v543 : Index := Scalar.indexCast arg27
  let c176 : Index := 176#32
  ![v543.toNat, 176]
def k2_off151 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v560 : Index := Scalar.indexCast arg27
  let c192 : Index := 192#32
  ![v560.toNat, 192]
def k2_off152 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v577 : Index := Scalar.indexCast arg27
  let c208 : Index := 208#32
  ![v577.toNat, 208]
def k2_off153 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v594 : Index := Scalar.indexCast arg27
  let c224 : Index := 224#32
  ![v594.toNat, 224]
def k2_off154 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v611 : Index := Scalar.indexCast arg27
  let c240 : Index := 240#32
  ![v611.toNat, 240]
def k2_off155 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v628 : Index := Scalar.indexCast arg27
  let c256 : Index := 256#32
  ![v628.toNat, 256]
def k2_off156 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v645 : Index := Scalar.indexCast arg27
  let c272 : Index := 272#32
  ![v645.toNat, 272]
def k2_off157 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v662 : Index := Scalar.indexCast arg27
  let c288 : Index := 288#32
  ![v662.toNat, 288]
def k2_off158 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v679 : Index := Scalar.indexCast arg27
  let c304 : Index := 304#32
  ![v679.toNat, 304]
def k2_off159 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v696 : Index := Scalar.indexCast arg27
  let c320 : Index := 320#32
  ![v696.toNat, 320]
def k2_off160 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v713 : Index := Scalar.indexCast arg27
  let c336 : Index := 336#32
  ![v713.toNat, 336]
def k2_off161 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v730 : Index := Scalar.indexCast arg27
  let c352 : Index := 352#32
  ![v730.toNat, 352]
def k2_off162 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v747 : Index := Scalar.indexCast arg27
  let c368 : Index := 368#32
  ![v747.toNat, 368]
def k2_off163 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v764 : Index := Scalar.indexCast arg27
  let c384 : Index := 384#32
  ![v764.toNat, 384]
def k2_off164 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v781 : Index := Scalar.indexCast arg27
  let c400 : Index := 400#32
  ![v781.toNat, 400]
def k2_off165 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v798 : Index := Scalar.indexCast arg27
  let c416 : Index := 416#32
  ![v798.toNat, 416]
def k2_off166 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v815 : Index := Scalar.indexCast arg27
  let c432 : Index := 432#32
  ![v815.toNat, 432]
def k2_off167 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v832 : Index := Scalar.indexCast arg27
  let c448 : Index := 448#32
  ![v832.toNat, 448]
def k2_off168 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v849 : Index := Scalar.indexCast arg27
  let c464 : Index := 464#32
  ![v849.toNat, 464]
def k2_off169 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v866 : Index := Scalar.indexCast arg27
  let c480 : Index := 480#32
  ![v866.toNat, 480]
def k2_off170 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v883 : Index := Scalar.indexCast arg27
  let c496 : Index := 496#32
  ![v883.toNat, 496]
def k2_off171 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v900 : Index := Scalar.indexCast arg27
  let c512 : Index := 512#32
  ![v900.toNat, 512]
def k2_off172 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v917 : Index := Scalar.indexCast arg27
  let c528 : Index := 528#32
  ![v917.toNat, 528]
def k2_off173 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v934 : Index := Scalar.indexCast arg27
  let c544 : Index := 544#32
  ![v934.toNat, 544]
def k2_off174 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v951 : Index := Scalar.indexCast arg27
  let c560 : Index := 560#32
  ![v951.toNat, 560]
def k2_off175 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v968 : Index := Scalar.indexCast arg27
  let c576 : Index := 576#32
  ![v968.toNat, 576]
def k2_off176 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v985 : Index := Scalar.indexCast arg27
  let c592 : Index := 592#32
  ![v985.toNat, 592]
def k2_off177 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1002 : Index := Scalar.indexCast arg27
  let c608 : Index := 608#32
  ![v1002.toNat, 608]
def k2_off178 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1019 : Index := Scalar.indexCast arg27
  let c624 : Index := 624#32
  ![v1019.toNat, 624]
def k2_off179 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1036 : Index := Scalar.indexCast arg27
  let c640 : Index := 640#32
  ![v1036.toNat, 640]
def k2_off180 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1053 : Index := Scalar.indexCast arg27
  let c656 : Index := 656#32
  ![v1053.toNat, 656]
def k2_off181 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1070 : Index := Scalar.indexCast arg27
  let c672 : Index := 672#32
  ![v1070.toNat, 672]
def k2_off182 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1087 : Index := Scalar.indexCast arg27
  let c688 : Index := 688#32
  ![v1087.toNat, 688]
def k2_off183 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1104 : Index := Scalar.indexCast arg27
  let c704 : Index := 704#32
  ![v1104.toNat, 704]
def k2_off184 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1121 : Index := Scalar.indexCast arg27
  let c720 : Index := 720#32
  ![v1121.toNat, 720]
def k2_off185 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1138 : Index := Scalar.indexCast arg27
  let c736 : Index := 736#32
  ![v1138.toNat, 736]
def k2_off186 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1155 : Index := Scalar.indexCast arg27
  let c752 : Index := 752#32
  ![v1155.toNat, 752]
def k2_off187 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1172 : Index := Scalar.indexCast arg27
  let c768 : Index := 768#32
  ![v1172.toNat, 768]
def k2_off188 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1189 : Index := Scalar.indexCast arg27
  let c784 : Index := 784#32
  ![v1189.toNat, 784]
def k2_off189 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1206 : Index := Scalar.indexCast arg27
  let c800 : Index := 800#32
  ![v1206.toNat, 800]
def k2_off190 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1223 : Index := Scalar.indexCast arg27
  let c816 : Index := 816#32
  ![v1223.toNat, 816]
def k2_off191 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1240 : Index := Scalar.indexCast arg27
  let c832 : Index := 832#32
  ![v1240.toNat, 832]
def k2_off192 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1257 : Index := Scalar.indexCast arg27
  let c848 : Index := 848#32
  ![v1257.toNat, 848]
def k2_off193 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1274 : Index := Scalar.indexCast arg27
  let c864 : Index := 864#32
  ![v1274.toNat, 864]
def k2_off194 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1291 : Index := Scalar.indexCast arg27
  let c880 : Index := 880#32
  ![v1291.toNat, 880]
def k2_off195 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1308 : Index := Scalar.indexCast arg27
  let c896 : Index := 896#32
  ![v1308.toNat, 896]
def k2_off196 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1325 : Index := Scalar.indexCast arg27
  let c912 : Index := 912#32
  ![v1325.toNat, 912]
def k2_off197 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1342 : Index := Scalar.indexCast arg27
  let c928 : Index := 928#32
  ![v1342.toNat, 928]
def k2_off198 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1359 : Index := Scalar.indexCast arg27
  let c944 : Index := 944#32
  ![v1359.toNat, 944]
def k2_off199 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1376 : Index := Scalar.indexCast arg27
  let c960 : Index := 960#32
  ![v1376.toNat, 960]
def k2_off200 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1393 : Index := Scalar.indexCast arg27
  let c976 : Index := 976#32
  ![v1393.toNat, 976]
def k2_off201 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1410 : Index := Scalar.indexCast arg27
  let c992 : Index := 992#32
  ![v1410.toNat, 992]
def k2_off202 (k2_t3 : Fin k2_t3_loop.trips) : Fin 2 → Nat :=
  let c0_i32_495 : BitVec 32 := 0#32
  let c1_i32_497 : BitVec 32 := 1#32
  let arg27 : BitVec 32 := Scf.iv c0_i32_495 c1_i32_497 k2_t3
  let v1427 : Index := Scalar.indexCast arg27
  let c1008 : Index := 1008#32
  ![v1427.toNat, 1008]
@[reducible] def k2_t4_loop : Scf.Loop 32 :=
  let c0_i32_566 : BitVec 32 := 0#32
  let c16_i32_567 : BitVec 32 := 16#32
  let v348 : BitVec 32 := Scalar.addi c0_i32_566 c16_i32_567
  let c1_i32_568 : BitVec 32 := 1#32
  ⟨c0_i32_566, v348, c1_i32_568⟩
def k2_off203 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v350 : Index := Scalar.indexCast arg27
  let c0 : Index := 0#32
  ![v350.toNat, 0]
def k2_off204 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v353 : Index := Scalar.indexCast arg27
  let c16 : Index := 16#32
  ![v353.toNat, 16]
def k2_off205 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v356 : Index := Scalar.indexCast arg27
  let c0_570 : Index := 0#32
  ![v356.toNat, 0]
def k2_off206 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v373 : Index := Scalar.indexCast arg27
  let c16_574 : Index := 16#32
  ![v373.toNat, 16]
def k2_off207 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v390 : Index := Scalar.indexCast arg27
  let c32 : Index := 32#32
  ![v390.toNat, 32]
def k2_off208 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v407 : Index := Scalar.indexCast arg27
  let c48 : Index := 48#32
  ![v407.toNat, 48]
def k2_off209 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v424 : Index := Scalar.indexCast arg27
  let c64 : Index := 64#32
  ![v424.toNat, 64]
def k2_off210 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v441 : Index := Scalar.indexCast arg27
  let c80 : Index := 80#32
  ![v441.toNat, 80]
def k2_off211 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v458 : Index := Scalar.indexCast arg27
  let c96 : Index := 96#32
  ![v458.toNat, 96]
def k2_off212 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v475 : Index := Scalar.indexCast arg27
  let c112 : Index := 112#32
  ![v475.toNat, 112]
def k2_off213 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v492 : Index := Scalar.indexCast arg27
  let c128 : Index := 128#32
  ![v492.toNat, 128]
def k2_off214 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v509 : Index := Scalar.indexCast arg27
  let c144 : Index := 144#32
  ![v509.toNat, 144]
def k2_off215 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v526 : Index := Scalar.indexCast arg27
  let c160 : Index := 160#32
  ![v526.toNat, 160]
def k2_off216 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v543 : Index := Scalar.indexCast arg27
  let c176 : Index := 176#32
  ![v543.toNat, 176]
def k2_off217 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v560 : Index := Scalar.indexCast arg27
  let c192 : Index := 192#32
  ![v560.toNat, 192]
def k2_off218 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v577 : Index := Scalar.indexCast arg27
  let c208 : Index := 208#32
  ![v577.toNat, 208]
def k2_off219 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v594 : Index := Scalar.indexCast arg27
  let c224 : Index := 224#32
  ![v594.toNat, 224]
def k2_off220 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v611 : Index := Scalar.indexCast arg27
  let c240 : Index := 240#32
  ![v611.toNat, 240]
def k2_off221 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v628 : Index := Scalar.indexCast arg27
  let c256 : Index := 256#32
  ![v628.toNat, 256]
def k2_off222 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v645 : Index := Scalar.indexCast arg27
  let c272 : Index := 272#32
  ![v645.toNat, 272]
def k2_off223 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v662 : Index := Scalar.indexCast arg27
  let c288 : Index := 288#32
  ![v662.toNat, 288]
def k2_off224 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v679 : Index := Scalar.indexCast arg27
  let c304 : Index := 304#32
  ![v679.toNat, 304]
def k2_off225 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v696 : Index := Scalar.indexCast arg27
  let c320 : Index := 320#32
  ![v696.toNat, 320]
def k2_off226 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v713 : Index := Scalar.indexCast arg27
  let c336 : Index := 336#32
  ![v713.toNat, 336]
def k2_off227 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v730 : Index := Scalar.indexCast arg27
  let c352 : Index := 352#32
  ![v730.toNat, 352]
def k2_off228 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v747 : Index := Scalar.indexCast arg27
  let c368 : Index := 368#32
  ![v747.toNat, 368]
def k2_off229 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v764 : Index := Scalar.indexCast arg27
  let c384 : Index := 384#32
  ![v764.toNat, 384]
def k2_off230 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v781 : Index := Scalar.indexCast arg27
  let c400 : Index := 400#32
  ![v781.toNat, 400]
def k2_off231 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v798 : Index := Scalar.indexCast arg27
  let c416 : Index := 416#32
  ![v798.toNat, 416]
def k2_off232 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v815 : Index := Scalar.indexCast arg27
  let c432 : Index := 432#32
  ![v815.toNat, 432]
def k2_off233 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v832 : Index := Scalar.indexCast arg27
  let c448 : Index := 448#32
  ![v832.toNat, 448]
def k2_off234 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v849 : Index := Scalar.indexCast arg27
  let c464 : Index := 464#32
  ![v849.toNat, 464]
def k2_off235 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v866 : Index := Scalar.indexCast arg27
  let c480 : Index := 480#32
  ![v866.toNat, 480]
def k2_off236 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v883 : Index := Scalar.indexCast arg27
  let c496 : Index := 496#32
  ![v883.toNat, 496]
def k2_off237 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v900 : Index := Scalar.indexCast arg27
  let c512 : Index := 512#32
  ![v900.toNat, 512]
def k2_off238 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v917 : Index := Scalar.indexCast arg27
  let c528 : Index := 528#32
  ![v917.toNat, 528]
def k2_off239 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v934 : Index := Scalar.indexCast arg27
  let c544 : Index := 544#32
  ![v934.toNat, 544]
def k2_off240 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v951 : Index := Scalar.indexCast arg27
  let c560 : Index := 560#32
  ![v951.toNat, 560]
def k2_off241 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v968 : Index := Scalar.indexCast arg27
  let c576 : Index := 576#32
  ![v968.toNat, 576]
def k2_off242 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v985 : Index := Scalar.indexCast arg27
  let c592 : Index := 592#32
  ![v985.toNat, 592]
def k2_off243 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1002 : Index := Scalar.indexCast arg27
  let c608 : Index := 608#32
  ![v1002.toNat, 608]
def k2_off244 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1019 : Index := Scalar.indexCast arg27
  let c624 : Index := 624#32
  ![v1019.toNat, 624]
def k2_off245 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1036 : Index := Scalar.indexCast arg27
  let c640 : Index := 640#32
  ![v1036.toNat, 640]
def k2_off246 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1053 : Index := Scalar.indexCast arg27
  let c656 : Index := 656#32
  ![v1053.toNat, 656]
def k2_off247 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1070 : Index := Scalar.indexCast arg27
  let c672 : Index := 672#32
  ![v1070.toNat, 672]
def k2_off248 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1087 : Index := Scalar.indexCast arg27
  let c688 : Index := 688#32
  ![v1087.toNat, 688]
def k2_off249 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1104 : Index := Scalar.indexCast arg27
  let c704 : Index := 704#32
  ![v1104.toNat, 704]
def k2_off250 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1121 : Index := Scalar.indexCast arg27
  let c720 : Index := 720#32
  ![v1121.toNat, 720]
def k2_off251 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1138 : Index := Scalar.indexCast arg27
  let c736 : Index := 736#32
  ![v1138.toNat, 736]
def k2_off252 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1155 : Index := Scalar.indexCast arg27
  let c752 : Index := 752#32
  ![v1155.toNat, 752]
def k2_off253 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1172 : Index := Scalar.indexCast arg27
  let c768 : Index := 768#32
  ![v1172.toNat, 768]
def k2_off254 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1189 : Index := Scalar.indexCast arg27
  let c784 : Index := 784#32
  ![v1189.toNat, 784]
def k2_off255 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1206 : Index := Scalar.indexCast arg27
  let c800 : Index := 800#32
  ![v1206.toNat, 800]
def k2_off256 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1223 : Index := Scalar.indexCast arg27
  let c816 : Index := 816#32
  ![v1223.toNat, 816]
def k2_off257 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1240 : Index := Scalar.indexCast arg27
  let c832 : Index := 832#32
  ![v1240.toNat, 832]
def k2_off258 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1257 : Index := Scalar.indexCast arg27
  let c848 : Index := 848#32
  ![v1257.toNat, 848]
def k2_off259 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1274 : Index := Scalar.indexCast arg27
  let c864 : Index := 864#32
  ![v1274.toNat, 864]
def k2_off260 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1291 : Index := Scalar.indexCast arg27
  let c880 : Index := 880#32
  ![v1291.toNat, 880]
def k2_off261 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1308 : Index := Scalar.indexCast arg27
  let c896 : Index := 896#32
  ![v1308.toNat, 896]
def k2_off262 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1325 : Index := Scalar.indexCast arg27
  let c912 : Index := 912#32
  ![v1325.toNat, 912]
def k2_off263 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1342 : Index := Scalar.indexCast arg27
  let c928 : Index := 928#32
  ![v1342.toNat, 928]
def k2_off264 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1359 : Index := Scalar.indexCast arg27
  let c944 : Index := 944#32
  ![v1359.toNat, 944]
def k2_off265 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1376 : Index := Scalar.indexCast arg27
  let c960 : Index := 960#32
  ![v1376.toNat, 960]
def k2_off266 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1393 : Index := Scalar.indexCast arg27
  let c976 : Index := 976#32
  ![v1393.toNat, 976]
def k2_off267 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1410 : Index := Scalar.indexCast arg27
  let c992 : Index := 992#32
  ![v1410.toNat, 992]
def k2_off268 (k2_t4 : Fin k2_t4_loop.trips) : Fin 2 → Nat :=
  let c0_i32_566 : BitVec 32 := 0#32
  let c1_i32_568 : BitVec 32 := 1#32
  let arg27 : BitVec 32 := Scf.iv c0_i32_566 c1_i32_568 k2_t4
  let v1427 : Index := Scalar.indexCast arg27
  let c1008 : Index := 1008#32
  ![v1427.toNat, 1008]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x1024 : Shape := ⟨2, ![2048, 1024]⟩
abbrev S1024x2048 : Shape := ⟨2, ![1024, 2048]⟩
abbrev S1x1024 : Shape := ⟨2, ![1, 1024]⟩
abbrev S6144x1024 : Shape := ⟨2, ![6144, 1024]⟩
abbrev S8x768x1024 : Shape := ⟨3, ![8, 768, 1024]⟩
abbrev S8x1024x768 : Shape := ⟨3, ![8, 1024, 768]⟩
abbrev S128 : Shape := ⟨1, ![128]⟩
abbrev S8 : Shape := ⟨1, ![8]⟩
abbrev S4096 : Shape := ⟨1, ![4096]⟩
abbrev S2048x32 : Shape := ⟨2, ![2048, 32]⟩
abbrev S24 : Shape := ⟨1, ![24]⟩
abbrev S24x256 : Shape := ⟨2, ![24, 256]⟩
abbrev S6144 : Shape := ⟨1, ![6144]⟩
abbrev S_ : Shape := ⟨0, ![]⟩
abbrev S1x768x1024 : Shape := ⟨3, ![1, 768, 1024]⟩
abbrev S768x1024 : Shape := ⟨2, ![768, 1024]⟩
abbrev S1024x768 : Shape := ⟨2, ![1024, 768]⟩
abbrev S6144x768 : Shape := ⟨2, ![6144, 768]⟩
abbrev S1x1024x768 : Shape := ⟨3, ![1, 1024, 768]⟩
abbrev S6144x1 : Shape := ⟨2, ![6144, 1]⟩
abbrev S2x2048 : Shape := ⟨2, ![2, 2048]⟩
abbrev S2048x16 : Shape := ⟨2, ![2048, 16]⟩
abbrev S1x2048x1x16 : Shape := ⟨4, ![1, 2048, 1, 16]⟩
abbrev S1x2048x64x16 : Shape := ⟨4, ![1, 2048, 64, 16]⟩
abbrev S1x2048 : Shape := ⟨2, ![1, 2048]⟩
abbrev S2048 : Shape := ⟨1, ![2048]⟩
abbrev S2048x1 : Shape := ⟨2, ![2048, 1]⟩
abbrev S2048x2048 : Shape := ⟨2, ![2048, 2048]⟩
abbrev S1024x1 : Shape := ⟨2, ![1024, 1]⟩

abbrev nBuf : Space → Nat
  | .hbm => 364
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S1024x2048, .f32⟩
  | 4 => ⟨S1x1024, .f32⟩
  | 5 => ⟨S6144x1024, .f32⟩
  | 6 => ⟨S8x768x1024, .f32⟩
  | 7 => ⟨S8x768x1024, .f32⟩
  | 8 => ⟨S8x1024x768, .f32⟩
  | 9 => ⟨S128, .i32⟩
  | 10 => ⟨S8, .i32⟩
  | 11 => ⟨S4096, .i32⟩
  | 12 => ⟨S2048x32, .f32⟩
  | 13 => ⟨S24, .i32⟩
  | 14 => ⟨S24x256, .i32⟩
  | 15 => ⟨S6144, .i32⟩
  | 16 => ⟨S_, .f32⟩
  | 17 => ⟨S6144x1024, .f32⟩
  | 18 => ⟨S1x768x1024, .f32⟩
  | 19 => ⟨S768x1024, .f32⟩
  | 20 => ⟨S1024x768, .f32⟩
  | 21 => ⟨S6144x768, .f32⟩
  | 22 => ⟨S6144x768, .f32⟩
  | 23 => ⟨S6144x768, .f32⟩
  | 24 => ⟨S_, .f32⟩
  | 25 => ⟨S6144x768, .f32⟩
  | 26 => ⟨S6144x768, .f32⟩
  | 27 => ⟨S_, .f32⟩
  | 28 => ⟨S6144x768, .f32⟩
  | 29 => ⟨S6144x768, .f32⟩
  | 30 => ⟨S6144x768, .f32⟩
  | 31 => ⟨S1x768x1024, .f32⟩
  | 32 => ⟨S768x1024, .f32⟩
  | 33 => ⟨S1024x768, .f32⟩
  | 34 => ⟨S6144x768, .f32⟩
  | 35 => ⟨S6144x768, .f32⟩
  | 36 => ⟨S1x1024x768, .f32⟩
  | 37 => ⟨S1024x768, .f32⟩
  | 38 => ⟨S768x1024, .f32⟩
  | 39 => ⟨S6144x1024, .f32⟩
  | 40 => ⟨S_, .i32⟩
  | 41 => ⟨S6144, .i32⟩
  | 42 => ⟨S6144, .i1⟩
  | 43 => ⟨S_, .f32⟩
  | 44 => ⟨S_, .f32⟩
  | 45 => ⟨S6144, .f32⟩
  | 46 => ⟨S6144, .f32⟩
  | 47 => ⟨S6144, .f32⟩
  | 48 => ⟨S6144x1, .f32⟩
  | 49 => ⟨S6144x1, .f32⟩
  | 50 => ⟨S6144x1024, .f32⟩
  | 51 => ⟨S6144x1024, .f32⟩
  | 52 => ⟨S6144x1024, .f32⟩
  | 53 => ⟨S1x768x1024, .f32⟩
  | 54 => ⟨S768x1024, .f32⟩
  | 55 => ⟨S1024x768, .f32⟩
  | 56 => ⟨S6144x768, .f32⟩
  | 57 => ⟨S6144x768, .f32⟩
  | 58 => ⟨S6144x768, .f32⟩
  | 59 => ⟨S_, .f32⟩
  | 60 => ⟨S6144x768, .f32⟩
  | 61 => ⟨S6144x768, .f32⟩
  | 62 => ⟨S_, .f32⟩
  | 63 => ⟨S6144x768, .f32⟩
  | 64 => ⟨S6144x768, .f32⟩
  | 65 => ⟨S6144x768, .f32⟩
  | 66 => ⟨S1x768x1024, .f32⟩
  | 67 => ⟨S768x1024, .f32⟩
  | 68 => ⟨S1024x768, .f32⟩
  | 69 => ⟨S6144x768, .f32⟩
  | 70 => ⟨S6144x768, .f32⟩
  | 71 => ⟨S1x1024x768, .f32⟩
  | 72 => ⟨S1024x768, .f32⟩
  | 73 => ⟨S768x1024, .f32⟩
  | 74 => ⟨S6144x1024, .f32⟩
  | 75 => ⟨S_, .i32⟩
  | 76 => ⟨S6144, .i32⟩
  | 77 => ⟨S6144, .i1⟩
  | 78 => ⟨S_, .f32⟩
  | 79 => ⟨S_, .f32⟩
  | 80 => ⟨S6144, .f32⟩
  | 81 => ⟨S6144, .f32⟩
  | 82 => ⟨S6144, .f32⟩
  | 83 => ⟨S6144x1, .f32⟩
  | 84 => ⟨S6144x1, .f32⟩
  | 85 => ⟨S6144x1024, .f32⟩
  | 86 => ⟨S6144x1024, .f32⟩
  | 87 => ⟨S6144x1024, .f32⟩
  | 88 => ⟨S1x768x1024, .f32⟩
  | 89 => ⟨S768x1024, .f32⟩
  | 90 => ⟨S1024x768, .f32⟩
  | 91 => ⟨S6144x768, .f32⟩
  | 92 => ⟨S6144x768, .f32⟩
  | 93 => ⟨S6144x768, .f32⟩
  | 94 => ⟨S_, .f32⟩
  | 95 => ⟨S6144x768, .f32⟩
  | 96 => ⟨S6144x768, .f32⟩
  | 97 => ⟨S_, .f32⟩
  | 98 => ⟨S6144x768, .f32⟩
  | 99 => ⟨S6144x768, .f32⟩
  | 100 => ⟨S6144x768, .f32⟩
  | 101 => ⟨S1x768x1024, .f32⟩
  | 102 => ⟨S768x1024, .f32⟩
  | 103 => ⟨S1024x768, .f32⟩
  | 104 => ⟨S6144x768, .f32⟩
  | 105 => ⟨S6144x768, .f32⟩
  | 106 => ⟨S1x1024x768, .f32⟩
  | 107 => ⟨S1024x768, .f32⟩
  | 108 => ⟨S768x1024, .f32⟩
  | 109 => ⟨S6144x1024, .f32⟩
  | 110 => ⟨S_, .i32⟩
  | 111 => ⟨S6144, .i32⟩
  | 112 => ⟨S6144, .i1⟩
  | 113 => ⟨S_, .f32⟩
  | 114 => ⟨S_, .f32⟩
  | 115 => ⟨S6144, .f32⟩
  | 116 => ⟨S6144, .f32⟩
  | 117 => ⟨S6144, .f32⟩
  | 118 => ⟨S6144x1, .f32⟩
  | 119 => ⟨S6144x1, .f32⟩
  | 120 => ⟨S6144x1024, .f32⟩
  | 121 => ⟨S6144x1024, .f32⟩
  | 122 => ⟨S6144x1024, .f32⟩
  | 123 => ⟨S1x768x1024, .f32⟩
  | 124 => ⟨S768x1024, .f32⟩
  | 125 => ⟨S1024x768, .f32⟩
  | 126 => ⟨S6144x768, .f32⟩
  | 127 => ⟨S6144x768, .f32⟩
  | _ => ⟨S2048x1024, .f32⟩

abbrev hbmTy0_1 (i : Nat) : BufTy := match i % 128 with
  | 0 => ⟨S6144x768, .f32⟩
  | 1 => ⟨S_, .f32⟩
  | 2 => ⟨S6144x768, .f32⟩
  | 3 => ⟨S6144x768, .f32⟩
  | 4 => ⟨S_, .f32⟩
  | 5 => ⟨S6144x768, .f32⟩
  | 6 => ⟨S6144x768, .f32⟩
  | 7 => ⟨S6144x768, .f32⟩
  | 8 => ⟨S1x768x1024, .f32⟩
  | 9 => ⟨S768x1024, .f32⟩
  | 10 => ⟨S1024x768, .f32⟩
  | 11 => ⟨S6144x768, .f32⟩
  | 12 => ⟨S6144x768, .f32⟩
  | 13 => ⟨S1x1024x768, .f32⟩
  | 14 => ⟨S1024x768, .f32⟩
  | 15 => ⟨S768x1024, .f32⟩
  | 16 => ⟨S6144x1024, .f32⟩
  | 17 => ⟨S_, .i32⟩
  | 18 => ⟨S6144, .i32⟩
  | 19 => ⟨S6144, .i1⟩
  | 20 => ⟨S_, .f32⟩
  | 21 => ⟨S_, .f32⟩
  | 22 => ⟨S6144, .f32⟩
  | 23 => ⟨S6144, .f32⟩
  | 24 => ⟨S6144, .f32⟩
  | 25 => ⟨S6144x1, .f32⟩
  | 26 => ⟨S6144x1, .f32⟩
  | 27 => ⟨S6144x1024, .f32⟩
  | 28 => ⟨S6144x1024, .f32⟩
  | 29 => ⟨S6144x1024, .f32⟩
  | 30 => ⟨S1x768x1024, .f32⟩
  | 31 => ⟨S768x1024, .f32⟩
  | 32 => ⟨S1024x768, .f32⟩
  | 33 => ⟨S6144x768, .f32⟩
  | 34 => ⟨S6144x768, .f32⟩
  | 35 => ⟨S6144x768, .f32⟩
  | 36 => ⟨S_, .f32⟩
  | 37 => ⟨S6144x768, .f32⟩
  | 38 => ⟨S6144x768, .f32⟩
  | 39 => ⟨S_, .f32⟩
  | 40 => ⟨S6144x768, .f32⟩
  | 41 => ⟨S6144x768, .f32⟩
  | 42 => ⟨S6144x768, .f32⟩
  | 43 => ⟨S1x768x1024, .f32⟩
  | 44 => ⟨S768x1024, .f32⟩
  | 45 => ⟨S1024x768, .f32⟩
  | 46 => ⟨S6144x768, .f32⟩
  | 47 => ⟨S6144x768, .f32⟩
  | 48 => ⟨S1x1024x768, .f32⟩
  | 49 => ⟨S1024x768, .f32⟩
  | 50 => ⟨S768x1024, .f32⟩
  | 51 => ⟨S6144x1024, .f32⟩
  | 52 => ⟨S_, .i32⟩
  | 53 => ⟨S6144, .i32⟩
  | 54 => ⟨S6144, .i1⟩
  | 55 => ⟨S_, .f32⟩
  | 56 => ⟨S_, .f32⟩
  | 57 => ⟨S6144, .f32⟩
  | 58 => ⟨S6144, .f32⟩
  | 59 => ⟨S6144, .f32⟩
  | 60 => ⟨S6144x1, .f32⟩
  | 61 => ⟨S6144x1, .f32⟩
  | 62 => ⟨S6144x1024, .f32⟩
  | 63 => ⟨S6144x1024, .f32⟩
  | 64 => ⟨S6144x1024, .f32⟩
  | 65 => ⟨S1x768x1024, .f32⟩
  | 66 => ⟨S768x1024, .f32⟩
  | 67 => ⟨S1024x768, .f32⟩
  | 68 => ⟨S6144x768, .f32⟩
  | 69 => ⟨S6144x768, .f32⟩
  | 70 => ⟨S6144x768, .f32⟩
  | 71 => ⟨S_, .f32⟩
  | 72 => ⟨S6144x768, .f32⟩
  | 73 => ⟨S6144x768, .f32⟩
  | 74 => ⟨S_, .f32⟩
  | 75 => ⟨S6144x768, .f32⟩
  | 76 => ⟨S6144x768, .f32⟩
  | 77 => ⟨S6144x768, .f32⟩
  | 78 => ⟨S1x768x1024, .f32⟩
  | 79 => ⟨S768x1024, .f32⟩
  | 80 => ⟨S1024x768, .f32⟩
  | 81 => ⟨S6144x768, .f32⟩
  | 82 => ⟨S6144x768, .f32⟩
  | 83 => ⟨S1x1024x768, .f32⟩
  | 84 => ⟨S1024x768, .f32⟩
  | 85 => ⟨S768x1024, .f32⟩
  | 86 => ⟨S6144x1024, .f32⟩
  | 87 => ⟨S_, .i32⟩
  | 88 => ⟨S6144, .i32⟩
  | 89 => ⟨S6144, .i1⟩
  | 90 => ⟨S_, .f32⟩
  | 91 => ⟨S_, .f32⟩
  | 92 => ⟨S6144, .f32⟩
  | 93 => ⟨S6144, .f32⟩
  | 94 => ⟨S6144, .f32⟩
  | 95 => ⟨S6144x1, .f32⟩
  | 96 => ⟨S6144x1, .f32⟩
  | 97 => ⟨S6144x1024, .f32⟩
  | 98 => ⟨S6144x1024, .f32⟩
  | 99 => ⟨S6144x1024, .f32⟩
  | 100 => ⟨S1x768x1024, .f32⟩
  | 101 => ⟨S768x1024, .f32⟩
  | 102 => ⟨S1024x768, .f32⟩
  | 103 => ⟨S6144x768, .f32⟩
  | 104 => ⟨S6144x768, .f32⟩
  | 105 => ⟨S6144x768, .f32⟩
  | 106 => ⟨S_, .f32⟩
  | 107 => ⟨S6144x768, .f32⟩
  | 108 => ⟨S6144x768, .f32⟩
  | 109 => ⟨S_, .f32⟩
  | 110 => ⟨S6144x768, .f32⟩
  | 111 => ⟨S6144x768, .f32⟩
  | 112 => ⟨S6144x768, .f32⟩
  | 113 => ⟨S1x768x1024, .f32⟩
  | 114 => ⟨S768x1024, .f32⟩
  | 115 => ⟨S1024x768, .f32⟩
  | 116 => ⟨S6144x768, .f32⟩
  | 117 => ⟨S6144x768, .f32⟩
  | 118 => ⟨S1x1024x768, .f32⟩
  | 119 => ⟨S1024x768, .f32⟩
  | 120 => ⟨S768x1024, .f32⟩
  | 121 => ⟨S6144x1024, .f32⟩
  | 122 => ⟨S_, .i32⟩
  | 123 => ⟨S6144, .i32⟩
  | 124 => ⟨S6144, .i1⟩
  | 125 => ⟨S_, .f32⟩
  | 126 => ⟨S_, .f32⟩
  | 127 => ⟨S6144, .f32⟩
  | _ => ⟨S2048x1024, .f32⟩

abbrev hbmTy0_2 (i : Nat) : BufTy := match i % 128 with
  | 0 => ⟨S6144, .f32⟩
  | 1 => ⟨S6144, .f32⟩
  | 2 => ⟨S6144x1, .f32⟩
  | 3 => ⟨S6144x1, .f32⟩
  | 4 => ⟨S6144x1024, .f32⟩
  | 5 => ⟨S6144x1024, .f32⟩
  | 6 => ⟨S6144x1024, .f32⟩
  | 7 => ⟨S1x768x1024, .f32⟩
  | 8 => ⟨S768x1024, .f32⟩
  | 9 => ⟨S1024x768, .f32⟩
  | 10 => ⟨S6144x768, .f32⟩
  | 11 => ⟨S6144x768, .f32⟩
  | 12 => ⟨S6144x768, .f32⟩
  | 13 => ⟨S_, .f32⟩
  | 14 => ⟨S6144x768, .f32⟩
  | 15 => ⟨S6144x768, .f32⟩
  | 16 => ⟨S_, .f32⟩
  | 17 => ⟨S6144x768, .f32⟩
  | 18 => ⟨S6144x768, .f32⟩
  | 19 => ⟨S6144x768, .f32⟩
  | 20 => ⟨S1x768x1024, .f32⟩
  | 21 => ⟨S768x1024, .f32⟩
  | 22 => ⟨S1024x768, .f32⟩
  | 23 => ⟨S6144x768, .f32⟩
  | 24 => ⟨S6144x768, .f32⟩
  | 25 => ⟨S1x1024x768, .f32⟩
  | 26 => ⟨S1024x768, .f32⟩
  | 27 => ⟨S768x1024, .f32⟩
  | 28 => ⟨S6144x1024, .f32⟩
  | 29 => ⟨S_, .i32⟩
  | 30 => ⟨S6144, .i32⟩
  | 31 => ⟨S6144, .i1⟩
  | 32 => ⟨S_, .f32⟩
  | 33 => ⟨S_, .f32⟩
  | 34 => ⟨S6144, .f32⟩
  | 35 => ⟨S6144, .f32⟩
  | 36 => ⟨S6144, .f32⟩
  | 37 => ⟨S6144x1, .f32⟩
  | 38 => ⟨S6144x1, .f32⟩
  | 39 => ⟨S6144x1024, .f32⟩
  | 40 => ⟨S6144x1024, .f32⟩
  | 41 => ⟨S6144x1024, .f32⟩
  | 42 => ⟨S2x2048, .i32⟩
  | 43 => ⟨S_, .f32⟩
  | 44 => ⟨S2048x1024, .f32⟩
  | 45 => ⟨S2048x16, .f32⟩
  | 46 => ⟨S1x2048x1x16, .f32⟩
  | 47 => ⟨S1x2048x64x16, .f32⟩
  | 48 => ⟨S2048x1024, .f32⟩
  | 49 => ⟨S1x2048, .i32⟩
  | 50 => ⟨S2048, .i32⟩
  | 51 => ⟨S_, .i32⟩
  | 52 => ⟨S2048, .i32⟩
  | 53 => ⟨S2048, .i1⟩
  | 54 => ⟨S_, .i32⟩
  | 55 => ⟨S2048, .i32⟩
  | 56 => ⟨S2048, .i32⟩
  | 57 => ⟨S2048, .i32⟩
  | 58 => ⟨S2048x1, .i32⟩
  | 59 => ⟨S2048x1024, .f32⟩
  | 60 => ⟨S2048x1024, .f32⟩
  | 61 => ⟨S2048x1024, .f32⟩
  | 62 => ⟨S2048x16, .f32⟩
  | 63 => ⟨S1x2048x1x16, .f32⟩
  | 64 => ⟨S1x2048x64x16, .f32⟩
  | 65 => ⟨S2048x1024, .f32⟩
  | 66 => ⟨S1x2048, .i32⟩
  | 67 => ⟨S2048, .i32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S2048x1, .i32⟩
  | 76 => ⟨S2048x1024, .f32⟩
  | 77 => ⟨S2048x1024, .f32⟩
  | 78 => ⟨S2048x1024, .f32⟩
  | 79 => ⟨S1024x2048, .f32⟩
  | 80 => ⟨S2048x2048, .f32⟩
  | 81 => ⟨S2048x2048, .f32⟩
  | 82 => ⟨S2048x2048, .f32⟩
  | 83 => ⟨S_, .f32⟩
  | 84 => ⟨S2048x2048, .f32⟩
  | 85 => ⟨S2048x2048, .f32⟩
  | 86 => ⟨S_, .f32⟩
  | 87 => ⟨S2048x2048, .f32⟩
  | 88 => ⟨S2048x2048, .f32⟩
  | 89 => ⟨S2048x2048, .f32⟩
  | 90 => ⟨S1024x2048, .f32⟩
  | 91 => ⟨S2048x2048, .f32⟩
  | 92 => ⟨S2048x2048, .f32⟩
  | 93 => ⟨S2048x1024, .f32⟩
  | 94 => ⟨S2048x1024, .f32⟩
  | 95 => ⟨S1024x1, .f32⟩
  | 96 => ⟨S2048x1, .f32⟩
  | 97 => ⟨S2048x1, .f32⟩
  | 98 => ⟨S2048x1, .f32⟩
  | 99 => ⟨S_, .f32⟩
  | 100 => ⟨S2048x1, .f32⟩
  | 101 => ⟨S2048x1, .f32⟩
  | 102 => ⟨S_, .f32⟩
  | 103 => ⟨S2048x1, .f32⟩
  | 104 => ⟨S2048x1, .f32⟩
  | 105 => ⟨S2048x1024, .f32⟩
  | 106 => ⟨S2048x1024, .f32⟩
  | 107 => ⟨S2048x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_cst_0 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_2 : Ref sig .tc := ⟨.hbm, 75, rfl⟩
abbrev main_v40 : Ref sig .tc := ⟨.hbm, 76, rfl⟩
abbrev main_v41 : Ref sig .tc := ⟨.hbm, 77, rfl⟩
abbrev main_cst_3 : Ref sig .tc := ⟨.hbm, 78, rfl⟩
abbrev main_cst_4 : Ref sig .tc := ⟨.hbm, 79, rfl⟩
abbrev main_call3_v0 : Ref sig .tc := ⟨.hbm, 80, rfl⟩
abbrev main_call3_v1 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_call4_v0 : Ref sig .tc := ⟨.hbm, 92, rfl⟩
abbrev main_call4_v1 : Ref sig .tc := ⟨.hbm, 93, rfl⟩
abbrev main_call4_cst : Ref sig .tc := ⟨.hbm, 94, rfl⟩
abbrev main_call4_v2 : Ref sig .tc := ⟨.hbm, 95, rfl⟩
abbrev main_call4_v3 : Ref sig .tc := ⟨.hbm, 96, rfl⟩
abbrev main_call4_cst_0 : Ref sig .tc := ⟨.hbm, 97, rfl⟩
abbrev main_call4_v4 : Ref sig .tc := ⟨.hbm, 98, rfl⟩
abbrev main_call4_v5 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_c_5 : Ref sig .tc := ⟨.hbm, 110, rfl⟩
abbrev main_v62 : Ref sig .tc := ⟨.hbm, 111, rfl⟩
abbrev main_v63 : Ref sig .tc := ⟨.hbm, 112, rfl⟩
abbrev main_cst_6 : Ref sig .tc := ⟨.hbm, 113, rfl⟩
abbrev main_cst_7 : Ref sig .tc := ⟨.hbm, 114, rfl⟩
abbrev main_call5_v0 : Ref sig .tc := ⟨.hbm, 115, rfl⟩
abbrev main_call5_v1 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_call6_v0 : Ref sig .tc := ⟨.hbm, 127, rfl⟩
abbrev main_call6_v1 : Ref sig .tc := ⟨.hbm, 128, rfl⟩
abbrev main_call6_cst : Ref sig .tc := ⟨.hbm, 129, rfl⟩
abbrev main_call6_v2 : Ref sig .tc := ⟨.hbm, 130, rfl⟩
abbrev main_call6_v3 : Ref sig .tc := ⟨.hbm, 131, rfl⟩
abbrev main_call6_cst_0 : Ref sig .tc := ⟨.hbm, 132, rfl⟩
abbrev main_call6_v4 : Ref sig .tc := ⟨.hbm, 133, rfl⟩
abbrev main_call6_v5 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_c_8 : Ref sig .tc := ⟨.hbm, 145, rfl⟩
abbrev main_v84 : Ref sig .tc := ⟨.hbm, 146, rfl⟩
abbrev main_v85 : Ref sig .tc := ⟨.hbm, 147, rfl⟩
abbrev main_cst_9 : Ref sig .tc := ⟨.hbm, 148, rfl⟩
abbrev main_cst_10 : Ref sig .tc := ⟨.hbm, 149, rfl⟩
abbrev main_call7_v0 : Ref sig .tc := ⟨.hbm, 150, rfl⟩
abbrev main_call7_v1 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_call8_v0 : Ref sig .tc := ⟨.hbm, 162, rfl⟩
abbrev main_call8_v1 : Ref sig .tc := ⟨.hbm, 163, rfl⟩
abbrev main_call8_cst : Ref sig .tc := ⟨.hbm, 164, rfl⟩
abbrev main_call8_v2 : Ref sig .tc := ⟨.hbm, 165, rfl⟩
abbrev main_call8_v3 : Ref sig .tc := ⟨.hbm, 166, rfl⟩
abbrev main_call8_cst_0 : Ref sig .tc := ⟨.hbm, 167, rfl⟩
abbrev main_call8_v4 : Ref sig .tc := ⟨.hbm, 168, rfl⟩
abbrev main_call8_v5 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_c_11 : Ref sig .tc := ⟨.hbm, 180, rfl⟩
abbrev main_v106 : Ref sig .tc := ⟨.hbm, 181, rfl⟩
abbrev main_v107 : Ref sig .tc := ⟨.hbm, 182, rfl⟩
abbrev main_cst_12 : Ref sig .tc := ⟨.hbm, 183, rfl⟩
abbrev main_cst_13 : Ref sig .tc := ⟨.hbm, 184, rfl⟩
abbrev main_call9_v0 : Ref sig .tc := ⟨.hbm, 185, rfl⟩
abbrev main_call9_v1 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_call10_v0 : Ref sig .tc := ⟨.hbm, 197, rfl⟩
abbrev main_call10_v1 : Ref sig .tc := ⟨.hbm, 198, rfl⟩
abbrev main_call10_cst : Ref sig .tc := ⟨.hbm, 199, rfl⟩
abbrev main_call10_v2 : Ref sig .tc := ⟨.hbm, 200, rfl⟩
abbrev main_call10_v3 : Ref sig .tc := ⟨.hbm, 201, rfl⟩
abbrev main_call10_cst_0 : Ref sig .tc := ⟨.hbm, 202, rfl⟩
abbrev main_call10_v4 : Ref sig .tc := ⟨.hbm, 203, rfl⟩
abbrev main_call10_v5 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_c_14 : Ref sig .tc := ⟨.hbm, 215, rfl⟩
abbrev main_v128 : Ref sig .tc := ⟨.hbm, 216, rfl⟩
abbrev main_v129 : Ref sig .tc := ⟨.hbm, 217, rfl⟩
abbrev main_cst_15 : Ref sig .tc := ⟨.hbm, 218, rfl⟩
abbrev main_cst_16 : Ref sig .tc := ⟨.hbm, 219, rfl⟩
abbrev main_call11_v0 : Ref sig .tc := ⟨.hbm, 220, rfl⟩
abbrev main_call11_v1 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_call12_v0 : Ref sig .tc := ⟨.hbm, 232, rfl⟩
abbrev main_call12_v1 : Ref sig .tc := ⟨.hbm, 233, rfl⟩
abbrev main_call12_cst : Ref sig .tc := ⟨.hbm, 234, rfl⟩
abbrev main_call12_v2 : Ref sig .tc := ⟨.hbm, 235, rfl⟩
abbrev main_call12_v3 : Ref sig .tc := ⟨.hbm, 236, rfl⟩
abbrev main_call12_cst_0 : Ref sig .tc := ⟨.hbm, 237, rfl⟩
abbrev main_call12_v4 : Ref sig .tc := ⟨.hbm, 238, rfl⟩
abbrev main_call12_v5 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_c_17 : Ref sig .tc := ⟨.hbm, 250, rfl⟩
abbrev main_v150 : Ref sig .tc := ⟨.hbm, 251, rfl⟩
abbrev main_v151 : Ref sig .tc := ⟨.hbm, 252, rfl⟩
abbrev main_cst_18 : Ref sig .tc := ⟨.hbm, 253, rfl⟩
abbrev main_cst_19 : Ref sig .tc := ⟨.hbm, 254, rfl⟩
abbrev main_call13_v0 : Ref sig .tc := ⟨.hbm, 255, rfl⟩
abbrev main_call13_v1 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_call14_v0 : Ref sig .tc := ⟨.hbm, 267, rfl⟩
abbrev main_call14_v1 : Ref sig .tc := ⟨.hbm, 268, rfl⟩
abbrev main_call14_cst : Ref sig .tc := ⟨.hbm, 269, rfl⟩
abbrev main_call14_v2 : Ref sig .tc := ⟨.hbm, 270, rfl⟩
abbrev main_call14_v3 : Ref sig .tc := ⟨.hbm, 271, rfl⟩
abbrev main_call14_cst_0 : Ref sig .tc := ⟨.hbm, 272, rfl⟩
abbrev main_call14_v4 : Ref sig .tc := ⟨.hbm, 273, rfl⟩
abbrev main_call14_v5 : Ref sig .tc := ⟨.hbm, 274, rfl⟩
abbrev main_v162 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_c_20 : Ref sig .tc := ⟨.hbm, 285, rfl⟩
abbrev main_v172 : Ref sig .tc := ⟨.hbm, 286, rfl⟩
abbrev main_v173 : Ref sig .tc := ⟨.hbm, 287, rfl⟩
abbrev main_cst_21 : Ref sig .tc := ⟨.hbm, 288, rfl⟩
abbrev main_cst_22 : Ref sig .tc := ⟨.hbm, 289, rfl⟩
abbrev main_call15_v0 : Ref sig .tc := ⟨.hbm, 290, rfl⟩
abbrev main_call15_v1 : Ref sig .tc := ⟨.hbm, 291, rfl⟩
abbrev main_v174 : Ref sig .tc := ⟨.hbm, 292, rfl⟩
abbrev main_v175 : Ref sig .tc := ⟨.hbm, 293, rfl⟩
abbrev main_v176 : Ref sig .tc := ⟨.hbm, 294, rfl⟩
abbrev main_v177 : Ref sig .tc := ⟨.hbm, 295, rfl⟩
abbrev main_v178 : Ref sig .tc := ⟨.hbm, 296, rfl⟩
abbrev main_v179 : Ref sig .tc := ⟨.hbm, 297, rfl⟩
abbrev main_v180 : Ref sig .tc := ⟨.hbm, 298, rfl⟩
abbrev main_cst_23 : Ref sig .tc := ⟨.hbm, 299, rfl⟩
abbrev main_v181 : Ref sig .tc := ⟨.hbm, 300, rfl⟩
abbrev main_v182 : Ref sig .tc := ⟨.hbm, 301, rfl⟩
abbrev main_v183 : Ref sig .tc := ⟨.hbm, 302, rfl⟩
abbrev main_v184 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩
abbrev main_c_24 : Ref sig .tc := ⟨.hbm, 307, rfl⟩
abbrev main_v188 : Ref sig .tc := ⟨.hbm, 308, rfl⟩
abbrev main_v189 : Ref sig .tc := ⟨.hbm, 309, rfl⟩
abbrev main_c_25 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_v195 : Ref sig .tc := ⟨.hbm, 316, rfl⟩
abbrev main_v196 : Ref sig .tc := ⟨.hbm, 317, rfl⟩
abbrev main_v197 : Ref sig .tc := ⟨.hbm, 318, rfl⟩
abbrev main_v198 : Ref sig .tc := ⟨.hbm, 319, rfl⟩
abbrev main_v199 : Ref sig .tc := ⟨.hbm, 320, rfl⟩
abbrev main_v200 : Ref sig .tc := ⟨.hbm, 321, rfl⟩
abbrev main_v201 : Ref sig .tc := ⟨.hbm, 322, rfl⟩
abbrev main_v202 : Ref sig .tc := ⟨.hbm, 323, rfl⟩
abbrev main_c_26 : Ref sig .tc := ⟨.hbm, 324, rfl⟩
abbrev main_v203 : Ref sig .tc := ⟨.hbm, 325, rfl⟩
abbrev main_v204 : Ref sig .tc := ⟨.hbm, 326, rfl⟩
abbrev main_c_27 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_call16_v0 : Ref sig .tc := ⟨.hbm, 337, rfl⟩
abbrev main_call16_v1 : Ref sig .tc := ⟨.hbm, 338, rfl⟩
abbrev main_call16_cst : Ref sig .tc := ⟨.hbm, 339, rfl⟩
abbrev main_call16_v2 : Ref sig .tc := ⟨.hbm, 340, rfl⟩
abbrev main_call16_v3 : Ref sig .tc := ⟨.hbm, 341, rfl⟩
abbrev main_call16_cst_0 : Ref sig .tc := ⟨.hbm, 342, rfl⟩
abbrev main_call16_v4 : Ref sig .tc := ⟨.hbm, 343, rfl⟩
abbrev main_call16_v5 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_cst_28 : Ref sig .tc := ⟨.hbm, 355, rfl⟩
abbrev main_v224 : Ref sig .tc := ⟨.hbm, 356, rfl⟩
abbrev main_v225 : Ref sig .tc := ⟨.hbm, 357, rfl⟩
abbrev main_cst_29 : Ref sig .tc := ⟨.hbm, 358, rfl⟩
abbrev main_v226 : Ref sig .tc := ⟨.hbm, 359, rfl⟩
abbrev main_v227 : Ref sig .tc := ⟨.hbm, 360, rfl⟩
abbrev main_v228 : Ref sig .tc := ⟨.hbm, 361, rfl⟩
abbrev main_v229 : Ref sig .tc := ⟨.hbm, 362, rfl⟩
abbrev main_v230 : Ref sig .tc := ⟨.hbm, 363, rfl⟩

abbrev nD : Nat := 1
abbrev τ : Topo := Topo.v7x

variable {F : FTy → Type} [FloatOps F]
-- ==== Proof.Body.lean ====
/- The tile program of the combining kernel, restated over a set of buffers.

   The kernel keeps two sets of vector memory buffers and works four chunks of sixteen tokens through them,
   alternately: while one chunk is weighed and summed the next one's rows are gathered. Here a set is a record
   (`Bufs`), each phase of a chunk is one program over a set and a chunk number, and `cc2_k_eq` says the printed tile
   program is those phases in order. -/
module

public import proofs.«01_k».proof.Proof.Gen.KernelIdeal.Skeleton

@[expose] public section

noncomputable section

namespace Cert.KernelIdeal.Combine

open Idealize.ShloMosaic Idealize.SL.Sem Cert.KernelIdeal Cert.KernelIdeal.Gen

variable {F : FTy → Type} [FloatOps F]

/-- A program of the tile at `i` of the kernel's grid. -/
abbrev Tile (F : FTy → Type) (i : grid2.Coords) (α : Type) :=
  Prog (TpuEff nD τ sig (Elt F) Λ₀ (.scVector ((i 0).castLE hcore2) ((i 1).castLE hsub2))) α

/-- One of the tile's two sets of buffers: the two index lists, the weights, the two gathered blocks of rows (the first
    of which the sum overwrites), the shared-expert rows, and the semaphores of the lists' copies, of the weights' copy,
    of the shared-expert rows' copy and of the gathers. -/
structure Bufs where
  idx : Fin 2 → Memref sig .scVector .vmem S16 .i32
  we : Memref sig .scVector .vmem S16x32 .f32
  rows : Fin 2 → Memref sig .scVector .vmem S16x1024 .f32
  gsv : Memref sig .scVector .vmem S16x1024 .f32
  lsem : DmaSems sig S_
  wsem : DmaSems sig S_
  bsem : DmaSems sig S_
  gsem : DmaSems sig S_
  hidx : ∀ l, (idx l).IsWhole
  hwe : we.IsWhole
  hrows : ∀ l, (rows l).IsWhole
  hgsv : gsv.IsWhole

/-- The arrays in the device memory: the expert rows, the shared-expert rows, the positions, the weights and the output. -/
abbrev hs : Memref sig .scVector .hbm S6144x1024 .f32 := Memref.whole main_v1_scv
abbrev gs : Memref sig .scVector .hbm S2048x1024 .f32 := Memref.whole main_v0_scv
abbrev pos : Memref sig .scVector .hbm S4096 .i32 := Memref.whole main_arg11_scv
abbrev wexp : Memref sig .scVector .hbm S2048x32 .f32 := Memref.whole main_arg12_scv
abbrev out : Memref sig .scVector .hbm S2048x1024 .f32 := Memref.whole main_v2_scv

/-- A chunk's first token within its tile, as the word the kernel computes with. -/
abbrev chunkW (n : Fin 4) : BitVec 32 := BitVec.ofNat 32 (16 * n.val)

/-- Where a chunk's sixteen first positions and its sixteen second positions lie in the list of all positions. -/
abbrev posOff (i : grid2.Coords) (n : Fin 4) : Fin 2 → Fin 1 → Nat
  | 0 => k2_off1 i (chunkW n)
  | 1 => k2_off2 i (chunkW n)

theorem posInb (i : grid2.Coords) (n : Fin 4) : ∀ (l : Fin 2) (a : Fin 1), posOff i n l a + S16.size a ≤ S4096.size a
  | 0 => k2_off1_inb i n
  | 1 => k2_off2_inb i n

/-- A chunk's positions, -/
abbrev posAt (i : grid2.Coords) (n : Fin 4) (l : Fin 2) : Memref sig .scVector .hbm S16 .i32 :=
  pos.slice (Rect.unit (s := S4096) (posOff i n l) S16.size (posInb i n l)) (fun _ => rfl)

/-- its weights, its shared-expert rows and its rows of the output. -/
abbrev wexpAt (i : grid2.Coords) (n : Fin 4) : Memref sig .scVector .hbm S16x32 .f32 :=
  wexp.slice (Rect.unit (s := S2048x32) (k2_off3 i (chunkW n)) S16x32.size (k2_off3_inb i n)) (fun _ => rfl)
abbrev gsAt (i : grid2.Coords) (n : Fin 4) : Memref sig .scVector .hbm S16x1024 .f32 :=
  gs.slice (Rect.unit (s := S2048x1024) (k2_off4 i (chunkW n)) S16x1024.size (k2_off4_inb i n)) (fun _ => rfl)
abbrev outAt (i : grid2.Coords) (n : Fin 4) : Memref sig .scVector .hbm S16x1024 .f32 :=
  out.slice (Rect.unit (s := S2048x1024) (k2_off4 i (chunkW n)) S16x1024.size (k2_off4_inb i n)) (fun _ => rfl)

/-- The eight blocks of 128 columns: they are inside a block of rows and inside the table. -/
theorem colInb (c : Fin 8) : ∀ a, (![0, 128 * c.val] : Fin 2 → Nat) a + S16x128.size a ≤ S16x1024.size a := by
  revert c; decide
theorem tabInb (c : Fin 8) : ∀ a, (![0, 128 * c.val] : Fin 2 → Nat) a + S6144x128.size a ≤ S6144x1024.size a := by
  revert c; decide

/-- Columns `128 c …` of a block of rows, and of the whole table. -/
abbrev colsOf (r : Memref sig .scVector .vmem S16x1024 .f32) (c : Fin 8) : Memref sig .scVector .vmem S16x128 .f32 :=
  r.slice (Rect.unit (s := S16x1024) ![0, 128 * c.val] S16x128.size (colInb c)) (fun _ => rfl)
abbrev tabCols (c : Fin 8) : Memref sig .scVector .hbm S6144x128 .f32 :=
  hs.slice (Rect.unit (s := S6144x1024) ![0, 128 * c.val] S6144x128.size (tabInb c)) (fun _ => rfl)

/-- Programs `f 0, …, f (n-1)`, in order. -/
def seqN {E : Type → Type} : (n : Nat) → (Fin n → Prog E PUnit) → Prog E PUnit
  | 0, _ => pure ⟨⟩
  | n + 1, f => f 0 >>= fun _ => seqN n fun k => f k.succ

/-- Start the chunk's four copies into the set. -/
def startLoads (i : grid2.Coords) (B : Bufs) (n : Fin 4) : Tile F i PUnit := do
  Prog.lift (.enqueueDma (posAt i n 0) (.here (B.idx 0)) (.dma B.lsem.sem) (View.wordExact_bits rfl) (B.hidx 0).wordExact ⟨Or.inl rfl, trivial⟩)
  Prog.lift (.enqueueDma (posAt i n 1) (.here (B.idx 1)) (.dma B.lsem.sem) (View.wordExact_bits rfl) (B.hidx 1).wordExact ⟨Or.inl rfl, trivial⟩)
  Prog.lift (.enqueueDma (wexpAt i n) (.here B.we) (.dma B.wsem.sem) (View.wordExact_bits rfl) B.hwe.wordExact ⟨Or.inl rfl, trivial⟩)
  Prog.lift (.enqueueDma (gsAt i n) (.here B.gsv) (.dma B.bsem.sem) (View.wordExact_bits rfl) B.hgsv.wordExact ⟨Or.inl rfl, trivial⟩)

/-- Wait for them. -/
def waitLoads (i : grid2.Coords) (B : Bufs) (n : Fin 4) : Tile F i PUnit := do
  Prog.lift (.waitDma2 B.lsem.sem (posAt i n 0) (B.idx 0) (View.wordExact_bits rfl) (B.hidx 0).wordExact)
  Prog.lift (.waitDma2 B.lsem.sem (posAt i n 1) (B.idx 1) (View.wordExact_bits rfl) (B.hidx 1).wordExact)
  Prog.lift (.waitDma2 B.wsem.sem (wexpAt i n) B.we (View.wordExact_bits rfl) B.hwe.wordExact)
  Prog.lift (.waitDma2 B.bsem.sem (gsAt i n) B.gsv (View.wordExact_bits rfl) B.hgsv.wordExact)

/-- Start the gather of 128 columns of the rows one list names, -/
def gather (i : grid2.Coords) (B : Bufs) (l : Fin 2) (c : Fin 8) : Tile F i PUnit :=
  SparseCore.enqueueIndirectGather rfl (tabCols c) (colsOf (B.rows l) c) gathers_S6144x128_S16x128 (B.idx l) rfl B.gsem.sem
    (View.wordExact_bits rfl) rfl (Or.inl rfl)

/-- and wait for as many words. -/
def waitGather (i : grid2.Coords) (B : Bufs) (l : Fin 2) (c : Fin 8) : Tile F i PUnit :=
  SparseCore.waitIndirectGather B.gsem.sem (tabCols c) (colsOf (B.rows l) c) (View.wordExact_bits rfl) (View.wordExact_bits rfl)

/-- All sixteen gathers of a chunk: eight per list. -/
def gathers (i : grid2.Coords) (B : Bufs) : Tile F i PUnit := seqN (2 * 8) fun s => gather i B s.divNat s.modNat
def waitGathers (i : grid2.Coords) (B : Bufs) : Tile F i PUnit := seqN (2 * 8) fun s => waitGather i B s.divNat s.modNat

/-- Sixteen weighed and summed columns: `w₀ r₀ + w₁ r₁ + g`. -/
def pay (w0 w1 r0 r1 g : Vec F S1x16 .f32) : FVec F S1x16 .f32 :=
  shapeCast S1x16 (addf (addf (mulf (shapeCast S16 w0 shapeCasts_S1x16_S16) (shapeCast S16 r0 shapeCasts_S1x16_S16))
    (mulf (shapeCast S16 w1 shapeCasts_S1x16_S16) (shapeCast S16 r1 shapeCasts_S1x16_S16))) (shapeCast S16 g shapeCasts_S1x16_S16))
    shapeCasts_S16_S1x16

/-- Row `t`, columns from `x`: where a trip's accesses go. -/
abbrev offRow (t : Fin k2_t1_loop.trips) (x : Nat) : Fin 2 → Nat :=
  ![(Scalar.indexCast (Scf.iv 0#32 1#32 t)).toNat, x]

theorem trips_eq : k2_t1_loop.trips = 16 := by decide

theorem row_lt (t : Fin k2_t1_loop.trips) : (Scalar.indexCast (Scf.iv 0#32 1#32 t)).toNat = t.val := by
  revert t; decide

theorem rowInb (t : Fin k2_t1_loop.trips) (j : Fin 64) : ∀ a, offRow t (16 * j.val) a + S1x16.size a ≤ S16x1024.size a := by
  have ht : t.val < 16 := t.isLt
  have hj := j.isLt
  refine Fin.forall_fin_two.2 ⟨?_, ?_⟩
  · show (Scalar.indexCast (Scf.iv 0#32 1#32 t)).toNat + 1 ≤ 16
    rw [row_lt]; omega
  · show 16 * j.val + 16 ≤ 1024
    omega

theorem weInb (t : Fin k2_t1_loop.trips) (k : Fin 2) : ∀ a, offRow t (16 * k.val) a + S1x16.size a ≤ S16x32.size a := by
  have ht : t.val < 16 := t.isLt
  have hk := k.isLt
  refine Fin.forall_fin_two.2 ⟨?_, ?_⟩
  · show (Scalar.indexCast (Scf.iv 0#32 1#32 t)).toNat + 1 ≤ 16
    rw [row_lt]; omega
  · show 16 * k.val + 16 ≤ 32
    omega

/-- The rectangle of sixteen columns of a row. -/
abbrev rowRect (t : Fin k2_t1_loop.trips) (j : Fin 64) : Rect S16x1024 :=
  Rect.unit (s := S16x1024) (offRow t (16 * j.val)) S1x16.size (rowInb t j)
abbrev weRect (t : Fin k2_t1_loop.trips) (k : Fin 2) : Rect S16x32 :=
  Rect.unit (s := S16x32) (offRow t (16 * k.val)) S1x16.size (weInb t k)

/-- Sixteen columns of a row. -/
def colStep (i : grid2.Coords) (B : Bufs) (t : Fin k2_t1_loop.trips) (w0 w1 : Vec F S1x16 .f32) (j : Fin 64) : Tile F i PUnit := do
  let r0 : Vec F S1x16 .f32 ← Prog.lift (.load (B.rows 0) (rowRect t j).toLoadRect (View.loadsAt_vmem h_S1x16))
  let r1 : Vec F S1x16 .f32 ← Prog.lift (.load (B.rows 1) (rowRect t j).toLoadRect (View.loadsAt_vmem h_S1x16))
  let g : Vec F S1x16 .f32 ← Prog.lift (.load B.gsv (rowRect t j).toLoadRect (View.loadsAt_vmem h_S1x16))
  let _ : Vec F S1x16 .f32 ← Prog.lift (.load (B.rows 0) (rowRect t j).toLoadRect (View.loadsAt_vmem h_S1x16))
  Prog.lift (.store (B.rows 0) (rowRect t j) (pay w0 w1 r0 r1 g) Finset.univ (View.stores_vmem_bits_univ h_S1x16 rfl) (.inl rfl))

/-- One row: its two sixteen-fold weights, then its 64 groups of columns. -/
def rowStep (i : grid2.Coords) (B : Bufs) (t : Fin k2_t1_loop.trips) : Tile F i PUnit := do
  let w0 : Vec F S1x16 .f32 ← Prog.lift (.load B.we (weRect t 0).toLoadRect (View.loadsAt_vmem h_S1x16))
  let w1 : Vec F S1x16 .f32 ← Prog.lift (.load B.we (weRect t 1).toLoadRect (View.loadsAt_vmem h_S1x16))
  seqN 64 (colStep i B t w0 w1)

/-- The chunk's rows. -/
def rowsLoop (i : grid2.Coords) (B : Bufs) : Tile F i (BitVec 32) :=
  Scf.Loop.for k2_t1_loop k2_t1_ok 0#32 fun t _ => rowStep i B t >>= fun _ => pure 0#32

/-- The chunk's rows leave for the output. -/
def copyOut (i : grid2.Coords) (B : Bufs) (n : Fin 4) (sm : DmaSems sig S_) : Tile F i PUnit := do
  Prog.lift (.enqueueDma (B.rows 0) (.here (outAt i n)) (.dma sm.sem) (B.hrows 0).wordExact (View.wordExact_bits rfl) ⟨Or.inl rfl, trivial⟩)
  Prog.lift (.waitDma2 sm.sem (B.rows 0) (outAt i n) (B.hrows 0).wordExact (View.wordExact_bits rfl))

/-- The tile's program over its two sets and its four output semaphores. -/
def body (i : grid2.Coords) (A B : Bufs) (sm : Fin 4 → DmaSems sig S_) : Tile F i PUnit := do
  startLoads i A 0
  startLoads i B 1
  waitLoads i A 0
  gathers i A
  waitLoads i B 1
  gathers i B
  waitGathers i A
  let _ ← rowsLoop i A
  copyOut i A 0 (sm 0)
  startLoads i A 2
  waitLoads i A 2
  gathers i A
  waitGathers i B
  let _ ← rowsLoop i B
  copyOut i B 1 (sm 1)
  startLoads i B 3
  waitLoads i B 3
  gathers i B
  waitGathers i A
  let _ ← rowsLoop i A
  copyOut i A 2 (sm 2)
  waitGathers i B
  let _ ← rowsLoop i B
  copyOut i B 3 (sm 3)

/-- The two sets. -/
def setA : Bufs where
  idx := fun | 0 => Memref.whole cc2_scratch0 | 1 => Memref.whole cc2_scratch2
  we := Memref.whole cc2_scratch4
  rows := fun | 0 => Memref.whole cc2_scratch6 | 1 => Memref.whole cc2_scratch8
  gsv := Memref.whole cc2_scratch10
  lsem := cc2_scratch12
  wsem := cc2_scratch14
  bsem := cc2_scratch16
  gsem := cc2_scratch18
  hidx := fun | 0 => Memref.isWhole_whole _ | 1 => Memref.isWhole_whole _
  hwe := Memref.isWhole_whole _
  hrows := fun | 0 => Memref.isWhole_whole _ | 1 => Memref.isWhole_whole _
  hgsv := Memref.isWhole_whole _
def setB : Bufs where
  idx := fun | 0 => Memref.whole cc2_scratch1 | 1 => Memref.whole cc2_scratch3
  we := Memref.whole cc2_scratch5
  rows := fun | 0 => Memref.whole cc2_scratch7 | 1 => Memref.whole cc2_scratch9
  gsv := Memref.whole cc2_scratch11
  lsem := cc2_scratch13
  wsem := cc2_scratch15
  bsem := cc2_scratch17
  gsem := cc2_scratch19
  hidx := fun | 0 => Memref.isWhole_whole _ | 1 => Memref.isWhole_whole _
  hwe := Memref.isWhole_whole _
  hrows := fun | 0 => Memref.isWhole_whole _ | 1 => Memref.isWhole_whole _
  hgsv := Memref.isWhole_whole _

/-- The four chunks' output semaphores. -/
def outSem : Fin 4 → DmaSems sig S_
  | 0 => cc2_scoped0
  | 1 => cc2_scoped1
  | 2 => cc2_scoped2
  | 3 => cc2_scoped3

/-- The printed tile program at the buffers the launch calls it with. -/
def printed (i : grid2.Coords) : Tile F i PUnit :=
  cc2_k i (Memref.whole main_v1_scv) (Memref.isWhole_whole _) (Memref.whole main_v0_scv) (Memref.isWhole_whole _) (Memref.whole main_arg11_scv) (Memref.isWhole_whole _) (Memref.whole main_arg12_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) cc2_scratch12 cc2_scratch13 cc2_scratch14 cc2_scratch15 cc2_scratch16 cc2_scratch17 cc2_scratch18 cc2_scratch19 cc2_scoped0 cc2_scoped1 cc2_scoped2 cc2_scoped3

set_option maxRecDepth 65536 in
set_option maxHeartbeats 4000000 in
theorem printed_eq (i : grid2.Coords) : printed (F := F) i = body i setA setB outSem := by
  unfold printed
  rw [cc2_k_eq_skeleton]
  unfold cc2_k_skel
  rw [k2_part115_eq_skeleton]
  unfold k2_part115_skel
  rw [k2_part104_eq_skeleton, k2_part108_eq_skeleton, k2_part113_eq_skeleton]
  unfold k2_part104_skel k2_part108_skel k2_part113_skel
  unfold body
  simp only [bind_assoc, pure_bind]
  rfl

end Cert.KernelIdeal.Combine

end
-- ==== Proof.StreamBatch.lean ====
/- Several indirect gathers outstanding on one semaphore.

   A gather is a stream of row copies, all of the same size. Sixteen gathers are started on one semaphore before the
   first is waited for, so the rows of all of them are one batch of copies on that semaphore: gather number `m` issues
   the batch's next `o` copies, `o` the number of its rows. -/
module

public import Idealize.ShloMosaic.Lib.Batch
public import Idealize.ShloMosaic.Lib.SparseCore.Stream

@[expose] public section

noncomputable section

namespace Cert.StreamBatch

open Idealize.ShloMosaic Idealize.ShloMosaic.SparseCore
open Idealize.SL Idealize.SL.RA
open Idealize.SL.BI (sProp Storable bigSep bigSep_insert bigSep_empty)
open scoped Idealize.SL.BI
open Idealize.SL.BI.BIBase Idealize.SL.BI.Laws Idealize.SL.Sem Idealize.SL.ProofMode
open Transfers

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

omit [Preorder Lvl] in
/-- What is pending from transfer `j` is the next `o` transfers and what is pending after them. -/
theorem pending_block {n : ℕ} (Φ : Fin n → sProp 𝕄) : ∀ (o j : ℕ) (h : j + o ≤ n),
    bigSep (pending j) Φ = iprop((bigSep Finset.univ fun k : Fin o => Φ ⟨j + k.val, by omega⟩) ∗ bigSep (pending (j + o)) Φ)
  | 0, j, h => by
    rw [Finset.univ_eq_empty, bigSep_empty]
    exact (BI.equiv_iff.mp BI.emp_sep).symm
  | o + 1, j, h => by
    have he : j + 1 + o = j + (o + 1) := by omega
    rw [bigSep_pending_step Φ j (by omega), pending_block Φ o (j + 1) (by omega), bigSep_univ_succ]
    simp only [he]
    have hk : (fun k : Fin o => Φ ⟨j + 1 + k.val, by omega⟩) = fun k : Fin o => Φ ⟨j + k.succ.val, by have := k.isLt; simp only [Fin.val_succ]; omega⟩ := by
      funext k; congr 2; simp only [Fin.val_succ]; omega
    rw [hk]
    exact (BI.equiv_iff.mp ⟨BI.sep_assoc, BI.sep_assoc'⟩).symm

variable (EC : UEmb Counters (MT nD τ sig Ix (Elt F) Name U Lvl))
variable {defs : Defs nD τ sig (Elt F) Λ} (𝒱 : Variants) (c : Thread nD τ) (bd : Option 𝒱.V)
variable {sp : Space} {s₀ s si : Shape} {e : EltTy} {a : Nat} {α : Type} {Q : α → sProp (MT nD τ sig Ix (Elt F) Name U Lvl)}

/-- What row `k` of a gather hands back: its row of the destination at contents `G`, the share of the list's entry that
    named it, and its piece of the source's share. -/
def rowLanded (src : Memref sig c.2.kind sp s₀ e) (dst : Memref sig c.2.kind .vmem s e) (hg : s₀.Gathers a s)
    (offs : Memref sig c.2.kind .vmem si .i32) (hn : si.numel = s.size hg.axis') (ho : 0 < s.size hg.axis')
    (Ss : Finset (Idx (src.view.loc c))) (q qo : PosShare TreeShare)
    (fs : Buf (Elt F) (src.view.loc c)) (G : Buf (Elt F) (dst.view.loc c)) (fo : Buf (Elt F) (offs.view.loc c))
    (k : Fin (s.size hg.axis')) : sProp 𝕄 :=
  iprop(((dst.view.loc c ↦[(dst.view.slice (s.rowRect hg.axis' k)).set]{fullShare} G)
      ∗ (offs.view.loc c ↦[{offs.view.emb (si.rowMajor.symm (k.cast hn.symm))}]{qo} fo))
    ∗ (src.view.loc c ↦[Ss]{pieceOf q _ ho k} fs))

instance rowLanded_storable {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {Ss : Finset (Idx (src.view.loc c))} {q qo : PosShare TreeShare}
    {fs : Buf (Elt F) (src.view.loc c)} {G : Buf (Elt F) (dst.view.loc c)} {fo : Buf (Elt F) (offs.view.loc c)} (k : Fin (s.size hg.axis')) :
    Storable (upEmb : UEmb _ 𝕄) (rowLanded c src dst hg offs hn ho Ss q qo fs G fo k) := by
  unfold rowLanded; infer_instance

omit [Preorder Lvl] in
/-- A list's entries, one for each row, are the list. -/
theorem entry_bijective (si : Shape) {o : ℕ} (hn : si.numel = o) :
    Function.Bijective fun k : Fin o => si.rowMajor.symm (k.cast hn.symm) :=
  si.rowMajor.symm.bijective.comp (finCongr hn.symm).bijective

omit [Preorder Lvl] in
/-- The rows of one gather, all landed, are the destination at `G` and the list's and the source's shares. -/
theorem rows_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (Ss : Finset (Idx (src.view.loc c))) (q qo : PosShare TreeShare)
    (fs : Buf (Elt F) (src.view.loc c)) (G : Buf (Elt F) (dst.view.loc c)) (fo : Buf (Elt F) (offs.view.loc c)) :
    bigSep Finset.univ (rowLanded (Ix := Ix) (Name := Name) (U := U) (Lvl := Lvl) c src dst hg offs hn ho Ss q qo fs G fo)
      ⊢ (iprop((dst.view.loc c ↦[dst.view.set]{fullShare} G) ∗ (offs.view.loc c ↦[offs.view.set]{qo} fo)
          ∗ (src.view.loc c ↦[Ss]{q} fs)) : sProp 𝕄) := by
  unfold rowLanded
  iintro H
  ihave H1 := Transfers.bigSep_sep_out _ _ _ $$ H
  icases H1 with ⟨H2, Hsrc⟩
  ihave H3 := Transfers.bigSep_sep_out _ _ _ $$ H2
  icases H3 with ⟨Hrows, Hoffs⟩
  isplitl [Hrows]; · iapply (Entails.of_eq (pointsTo_rows c dst.view hg.axis' fullShare G).symm) $$ Hrows
  isplitl [Hoffs]; · iapply (Entails.of_eq (pointsTo_entries c offs.view _ (entry_bijective si hn) qo fo).symm) $$ Hoffs
  iapply (Entails.of_eq (pointsTo_piecesOf Ss fs ho q).symm) $$ Hsrc

/-- A gather's start, its rows the batch's next ones. Held: a share of elements `Ss` of the source's array covering the
    view read, the destination, a share of the list, whose words are all in range, and the batch with `j` copies issued.
    The batch's deliveries for the gather's rows follow from what the rows hand back (`hD`), at destination contents `G`
    which on the destination's elements are the old ones overwritten with the gather's payload. Afterwards the batch has
    `j + o` issued. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd G : Buf (Elt F) (dst.view.loc c)} {fo : Buf (Elt F) (offs.view.loc c)}
    {Ss : Finset (Idx (src.view.loc c))} (hSs : src.view.set ⊆ Ss) (ho : 0 < s.size hg.axis')
    (ι : Ix) (N : ℕ) (hN : ∀ k, (dst.slice (s.rowRect hg.axis' k) (s.stride_rowRect hg.axis' k)).view.dmaCredit = N)
    (hin : ∀ x, (offs.view.read (Elt F) fo x).toNat < s₀.size hg.axis)
    (hG : ∀ i ∈ dst.view.set, dst.view.write (Elt F) fd (gatherPayload hg (src.view.read (Elt F) fs) (rows (offs.view.read (Elt F) fo) hn hin)) Finset.univ i = G i)
    {n : ℕ} {D : Fin n → sProp 𝕄} {j u : ℕ} (hj : j + s.size hg.axis' ≤ n) (hu : u ≤ j * N)
    (hD : ∀ k : Fin (s.size hg.axis'), rowLanded c src dst hg offs hn ho Ss q qo fs G fo k ⊢ D ⟨j + k.val, by omega⟩) :
    iprop((src.view.loc c ↦[Ss]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun k => gatherRow c src dst hg sem hsrc he hsp hr k (r k)
  let row : Fin (s.size hg.axis') → View sig c.2.kind .vmem (s.rowShape hg.axis') e := fun k => dst.view.slice (s.rowRect hg.axis' k)
  let w : (k : Fin (s.size hg.axis')) → (s.rowShape hg.axis').Idx → Elt F e := fun k i => src.view.read (Elt F) fs (hg.rowIdx (r k) i)
  have hA : S.RowsAgree := by
    intro k x x' ρ ρ' h h'
    obtain ⟨_, _, rfl⟩ := Option.map_eq_some_iff.mp h
    obtain ⟨_, _, rfl⟩ := Option.map_eq_some_iff.mp h'
    rfl
  have hrd : ∀ k, S.row k (S.word fo k) = some (rd k) := fun k => by
    change (rowOf (s₀.size hg.axis) (offs.view.read (Elt F) fo (S.entry k))).map _ = _
    rw [rowOf_of_lt (hin _)]; rfl
  -- on its own row, what the row's copy writes is what `G` has there
  have hrow : ∀ k, ∀ i ∈ (row k).set, (row k).write (Elt F) fd (w k) Finset.univ i = G i := fun k i hi => by
    obtain ⟨x, -, rfl⟩ := Finset.mem_map.mp hi
    have hx : dst.view.emb ((s.rowRect hg.axis' k).emb x) ∈ dst.view.set := Finset.mem_map.mpr ⟨_, Finset.mem_univ _, rfl⟩
    have h1 := View.write_emb_of_mem (Val := Elt F) (v := row k) fd (w k) (M := Finset.univ) (Finset.mem_univ x)
    have h2 := View.write_emb_of_mem (Val := Elt F) (v := dst.view) fd
      (gatherPayload hg (src.view.read (Elt F) fs) r) (M := Finset.univ) (Finset.mem_univ ((s.rowRect hg.axis' k).emb x))
    refine (h1.trans ?_).trans (hG _ hx)
    refine Eq.trans ?_ h2.symm
    simp only [gatherPayload, Shape.Gathers.idx_rowRect_emb]
    rfl
  unfold Batch
  iintro ⟨Hs, Hd, Ho, ⟨%γ, %γ₀, %κ, #Hinv, HI, H0, Hcred⟩⟩ Hk
  ihave HI' := (Entails.of_eq (pending_block (fun t => count EC (γ t) 0) (s.size hg.axis') j hj)) $$ HI
  icases HI' with ⟨Hγ, HI⟩
  ihave Hd' := (Entails.of_eq (pointsTo_rows c dst.view hg.axis' fullShare fd)) $$ Hd
  ihave Ho' := (Entails.of_eq (pointsTo_entries c offs.view S.entry (entry_bijective si hn) qo fo)) $$ Ho
  ihave Hs' := (Entails.of_eq (pointsTo_piecesOf Ss fs ho q)) $$ Hs
  iapply (wp_enqueueIndirectDma 𝒱 c bd Set.univ (qo := qo) (fo := fo) (rd := rd) ι (∑ _k : Fin (s.size hg.axis'), N) hA hrd (Finset.sum_congr rfl fun k _ => hN k)) $$ [Hd' Ho' Hs' Hγ]
  · have hres : ∀ k, iprop(inv κ (batchBody EC (c, SemLoc.dma sem) N D γ γ₀)
          ∗ ((((dst.view.loc c ↦[(row k).set]{fullShare} fd) ∗ S.heldEntry qo fo k)
          ∗ (src.view.loc c ↦[Ss]{pieceOf q _ ho k} fs)) ∗ count EC (γ ⟨j + k.val, by omega⟩) 0))
        ⊢ iprop(S.heldEntry qo fo k ∗ (S.heldEntry qo fo k -∗ rowRes c (rd k))) := fun k => by
      have hsub : (rd k).src.view.set ⊆ Ss := Finset.Subset.trans (by
        intro i hi
        obtain ⟨x, -, rfl⟩ := Finset.mem_map.mp hi
        exact Finset.mem_map.mpr ⟨_, Finset.mem_univ _, rfl⟩) hSs
      have hsplit := (pointsTo_split_subset (Ix := Ix) (Val := Elt F) (Name := Name) (U := U) (Lvl := Lvl) (ℓ := src.view.loc c) (q := pieceOf q _ ho k) (f := fs) hsub)
      have hback : iprop((((dst.view.loc c ↦[(row k).set]{fullShare} ((row k).write (Elt F) fd (w k) Finset.univ))
            ∗ (S.heldEntry qo fo k ∗ (src.view.loc c ↦[Ss \ (rd k).src.view.set]{pieceOf q _ ho k} fs))))
            ∗ (src.view.loc c ↦[(rd k).src.view.set]{pieceOf q _ ho k} fs)) ⊢ D ⟨j + k.val, by omega⟩ := by
        refine Entails.trans ?_ (hD k)
        unfold rowLanded
        iintro ⟨⟨Hr, He, Hrest⟩, Hs⟩
        isplitl [Hr He]
        · isplitl [Hr]
          · iapply (Entails.of_eq (pointsTo_congr (hrow k))) $$ Hr
          · iexact He
        · iapply (hsplit.2)
          isplitl [Hs] <;> iassumption
      iintro ⟨#Hinv, ⟨⟨Hr, He⟩, Hsq⟩, Hγk⟩
      isplitl [He]; · iexact He
      iintro He
      ihave Hsq' := (hsplit.1) $$ Hsq
      icases Hsq' with ⟨Hsq, Hrest⟩
      unfold rowRes
      iexists pieceOf q _ ho k, fs, iprop((dst.view.loc c ↦[(row k).set]{fullShare} ((row k).write (Elt F) fd (w k) Finset.univ))
        ∗ (S.heldEntry qo fo k ∗ (src.view.loc c ↦[Ss \ (rd k).src.view.set]{pieceOf q _ ho k} fs)))
      isplitl [Hsq]; · iexact Hsq
      isplitl [Hr He Hrest]
      · iapply writeUpdate_frame
        isplitl [Hr]
        · iapply (pointsTo_writeUpdate c (v := row k) subset_rfl) $$ Hr
        · isplitl [He] <;> iassumption
      · have hamt : (rd k).dst.view.amount (.dma sem) = N := hN k
        rw [hamt]
        iapply (batch_creditUpdate EC ⟨j + k.val, by omega⟩ hback)
        isplitr; · iexact Hinv
        iexact Hγk
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun k _ => hres k)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + ∑ _k : Fin (s.size hg.axis'), N by
    rw [Finset.sum_const, Finset.card_univ, Fintype.card_fin, smul_eq_mul, Nat.add_mul]; omega, ← tallyAt_add]
  icombine Hcred Hcred' as H
  iexact H

end Cert.StreamBatch

end
-- ==== Proof.Moves.lean ====
/- What a tile holds of one set of buffers between the phases of a chunk, and the phases that move data: the copies that
   load a chunk, their waits, the copy that takes the finished rows out. Each phase is a theorem over a set of buffers and
   a chunk number, with the values the buffers then hold. -/
module

public import proofs.«01_k».proof.Proof.Body
public import proofs.«01_k».proof.Proof.StreamBatch
public import Idealize.ShloMosaic.Lib.SparseCore.Quiescent
public import Idealize.ShloMosaic.Lib.Pipeline.Kit
public import Idealize.ShloMosaic.Lib.Tactic
public import Idealize.ShloMosaic.Lib.ValueIdxCore

@[expose] public section

noncomputable section

namespace Cert.KernelIdeal.Combine

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix1 eq_ix2)

variable {F : FTy → Type}

/-- The ghost state: the launch's handshakes beside the copies' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EC : UEmb Counters (MT nD τ sig (HIx 1) (Elt F) ℕ UU ℕ) := countersEmb

abbrev 𝒱₀ : Variants := Variants.none

/-- The tile's SparseCore, its number there, and its thread. -/
abbrev cV (i : grid2.Coords) : Fin τ.nSC := (i 0).castLE hcore2
abbrev jV (i : grid2.Coords) : Fin τ.nSub := (i 1).castLE hsub2
abbrev thr (d : Dev nD) (i : grid2.Coords) : Thread nD τ := V d (cV i) (jV i)

/-- The wait tag of the tile's own copies. -/
abbrev tag : HIx 1 := default

variable (m : (ℓ : Loc nD τ sig) → Buf (Elt F) ℓ) (d : Dev nD) (i : grid2.Coords)

/-- The arrays on device `d`. -/
abbrev hLoc : Loc nD τ sig := (SparseCore.T d).loc main_v1
abbrev gLoc : Loc nD τ sig := (SparseCore.T d).loc main_v0
abbrev pLoc : Loc nD τ sig := (SparseCore.T d).loc main_arg11
abbrev wLoc : Loc nD τ sig := (SparseCore.T d).loc main_arg12
abbrev oLoc : Loc nD τ sig := (SparseCore.T d).loc main_v2

/-- A buffer's view held outright at some contents, -/
def Own {sp : Space} {s : Shape} {e : EltTy} (v : Memref sig .scVector sp s e) : sProp 𝕄 :=
  iprop(∃ f, v.view.loc (thr d i) ↦[v.view.set]{fullShare} f)

/-- and at contents that read `g` through the view. -/
def Holds {sp : Space} {s : Shape} {e : EltTy} (v : Memref sig .scVector sp s e) (g : s.Idx → Elt F e) : sProp 𝕄 :=
  iprop(∃ f, (v.view.loc (thr d i) ↦[v.view.set]{fullShare} f) ∗ ⌜v.view.read (Elt F) f = g⌝)

instance Holds_storable {sp : Space} {s : Shape} {e : EltTy} (v : Memref sig .scVector sp s e) (g : s.Idx → Elt F e) :
    Storable (upEmb : UEmb _ 𝕄) (Holds d i v g) := by unfold Holds; infer_instance

theorem Holds_own {sp : Space} {s : Shape} {e : EltTy} (v : Memref sig .scVector sp s e) (g : s.Idx → Elt F e) :
    Holds d i v g ⊢ Own (F := F) d i v := by
  unfold Holds Own
  iintro ⟨%f, H, -⟩
  iexists f; iexact H

/-- Elements written through a view with `w` are held at `w`. -/
theorem Holds_write {sp : Space} {s : Shape} {e : EltTy} (v : Memref sig .scVector sp s e) (w : s.Idx → Elt F e)
    (f : Buf (Elt F) (v.view.loc (thr d i))) :
    (v.view.loc (thr d i) ↦[v.view.set]{fullShare} (v.view.write (Elt F) f w Finset.univ)) ⊢ Holds d i v w := by
  unfold Holds
  iintro H
  iexists _
  isplitl [H]; · iexact H
  ipureintro; exact View.read_write_univ f w

/-- The tile's counter of a semaphore at zero. -/
abbrev Zero (s : DmaSems sig S_) : sProp 𝕄 := semVal (thr d i, SemLoc.dma s.sem) 0

/-- What the tile owes, its waits recorded: those of before, and waits for its own copies. -/
def Ow (O : CellTallies nD τ sig (HIx 1)) (W : Waits sig (HIx 1)) : sProp 𝕄 :=
  iprop(Transfers.MayWaits (thr d i) tag O ∗ ∃ W', ⌜∀ p ∈ W', p ∈ W ∨ p.2 = none⌝ ∗ owes (thr d i) O W')

variable {O : CellTallies nD τ sig (HIx 1)} {W : Waits sig (HIx 1)}

/-- A wait for one of the tile's own copies adds nothing but itself to what is recorded. -/
theorem recorded {W' : Waits sig (HIx 1)} (h : ∀ p ∈ W', p ∈ W ∨ p.2 = none) (sm : SemLoc sig) :
    ∀ p ∈ insert (sm, tag) W', p ∈ W ∨ p.2 = none := fun p hp => by
  rcases Finset.mem_insert.mp hp with hp | hp
  · exact .inr (hp ▸ rfl)
  · exact h p hp

variable [FloatOps F]

/-- The weakest precondition of a tile's program. -/
abbrev wpT {α : Type} (p : Tile F i α) (Q : α → sProp 𝕄) : sProp 𝕄 :=
  wp frame (wpE (defs₀ (F := F)) 𝒱₀ (thr d i) none) Set.univ p Q

/-- A program runs to what a first run of it runs to, whatever else is held. -/
theorem wp_then {α : Type} {p : Tile F i α} {P R : sProp 𝕄} {Q Q' : α → sProp 𝕄} (h : P ⊢ wpT d i p Q)
    (hk : ∀ x, iprop(Q x ∗ R) ⊢ Q' x) : iprop(P ∗ R) ⊢ wpT d i p Q' :=
  (sep_mono_left h).trans ((wp_frame_r frame _ _).trans (wp_mono frame _ _ hk))

/-- A numbered run of programs keeps a numbered assertion. -/
theorem wp_seqN : ∀ (n : ℕ) (f : Fin n → Tile F i PUnit) (I : ℕ → sProp 𝕄)
    (_ : ∀ k : Fin n, I k.val ⊢ wpT d i (f k) fun _ => I (k.val + 1)), I 0 ⊢ wpT d i (seqN n f) fun _ => I n
  | 0, f, I, _ => by
    unfold seqN
    unfold wpT
    rw [wp_pure]
    exact fupd_intro
  | n + 1, f, I, h => by
    unfold seqN
    unfold wpT
    rw [wp_bind]
    refine (h 0).trans (wp_mono frame _ _ fun _ => ?_)
    exact wp_seqN n (fun k => f k.succ) (fun k => I (k + 1)) fun k => h k.succ

/-! ## One copy on a semaphore of its own -/

/-- A copy in flight: at the wait it delivers the destination at what the source held and the elements of the source it
    reads; the rest of the source's elements `Ss` stays here. -/
def Moving {sp sp' : Space} {s : Shape} {e : EltTy} (src : Memref sig .scVector sp s e) (dst : Memref sig .scVector sp' s e)
    (sm : DmaSems sig S_) (Ss : Finset (Idx (src.view.loc (thr d i)))) (q : PosShare TreeShare) (f : Buf (Elt F) (src.view.loc (thr d i))) : sProp 𝕄 :=
  iprop(Transfers.Flight EC (thr d i) (.dma sm.sem) tag dst.view.dmaCredit
      iprop(Holds d i dst (src.view.read (Elt F) f) ∗ (src.view.loc (thr d i) ↦[src.view.set]{q} f))
    ∗ (src.view.loc (thr d i) ↦[Ss \ src.view.set]{q} f))

variable {sp sp' : Space} {s : Shape} {e : EltTy} {src : Memref sig .scVector sp s e} {dst : Memref sig .scVector sp' s e}
  {sm : DmaSems sig S_} {Ss : Finset (Idx (src.view.loc (thr d i)))} {q : PosShare TreeShare} {f : Buf (Elt F) (src.view.loc (thr d i))}

/-- Its start. -/
theorem wp_move {h1 h2 h3} (hs : 0 < s.numel) (hSs : src.view.set ⊆ Ss) :
    iprop((src.view.loc (thr d i) ↦[Ss]{q} f) ∗ Own d i dst ∗ Zero d i sm)
      ⊢ wpT d i (Prog.lift (.enqueueDma src (.here dst) (.dma sm.sem) h1 h2 h3)) fun _ => Moving d i src dst sm Ss q f := by
  unfold Own Moving
  iintro ⟨Hs, ⟨%fd, Hd⟩, Hv⟩
  ihave Hs' := (pointsTo_split_subset (q := q) (f := f) hSs).1 $$ Hs
  icases Hs' with ⟨Hs, Hr⟩
  iapply (Transfers.wp_dmaLocal EC 𝒱₀ (thr d i) none (src := src) (dst := dst) (via := .same) (hsrc := h1) (hdst := h2) (hsem := h3)
    (k := fun x => .ret x) (Sd := dst.view.set) (fd := fd) (fs := f) (q := q) tag dst.view.dmaCredit (View.amount_dma _ _)
    (View.dmaCredit_pos _ hs) subset_rfl) $$ [Hs Hd Hv]
  · isplitl [Hs]; · iexact Hs
    isplitl [Hd] <;> iassumption
  iintro Hfl
  rw [wp_ret]
  imodintro
  isplitl [Hfl]
  · iapply (Transfers.Flight_mono EC (thr d i) (sep_mono_left (Holds_write d i dst _ fd))) $$ Hfl
  · iexact Hr

/-- Its wait. -/
theorem wp_moved {h1 h2} (hSs : src.view.set ⊆ Ss) :
    iprop(Moving d i src dst sm Ss q f ∗ Ow d i O W)
      ⊢ wpT d i (Prog.lift (.waitDma2 sm.sem src dst h1 h2))
          fun _ => iprop((Holds d i dst (src.view.read (Elt F) f) ∗ (src.view.loc (thr d i) ↦[Ss]{q} f) ∗ Zero d i sm) ∗ Ow d i O W) := by
  unfold Moving Ow
  iintro ⟨⟨Hfl, Hr⟩, #Hmw, ⟨%W', %hW', HO⟩⟩
  iapply (Transfers.wp_waitLocalO EC 𝒱₀ (thr d i) none (srcw := src) (dstw := dst) (hsrc := h1) (hdst := h2) (k := fun x => .ret x) tag rfl) $$ [Hfl HO]
  · isplitl [Hfl]; · iexact Hfl
    isplitl [HO]; · iexact HO
    iapply (Transfers.MayWaits.elim (SemLoc.dma sm.sem)) $$ Hmw
  iintro ⟨⟨Hd, Hs⟩, Hv, HO⟩
  rw [wp_ret]
  imodintro
  isplitr [HO]
  · isplitl [Hd]; · iexact Hd
    isplitl [Hs Hr]
    · iapply (pointsTo_split_subset (q := q) (f := f) hSs).2
      isplitl [Hs] <;> iassumption
    · iexact Hv
  · isplitr; · iexact Hmw
    iexists _
    isplitr
    swap; · iexact HO
    ipureintro; exact recorded hW' _

/-! ## A chunk's loads -/

variable (n : Fin 4) (B : Bufs) (q : PosShare TreeShare)

/-- What a chunk's copies read: its two lists of positions, its weights, its shared-expert rows. -/
def posV (l : Fin 2) : S16.Idx → Elt F .i32 := (posAt i n l).view.read (Elt F) (m (pLoc d))
def weV : S16x32.Idx → Elt F .f32 := (wexpAt i n).view.read (Elt F) (m (wLoc d))
def gsV : S16x1024.Idx → Elt F .f32 := (gsAt i n).view.read (Elt F) (m (gLoc d))

/-- The share of the positions each of the two lists' copies reads with. -/
def side (q : PosShare TreeShare) : Fin 2 → PosShare TreeShare
  | 0 => q.left
  | 1 => q.right

/-- A share of each of the four arrays read. -/
abbrev Arrays : sProp 𝕄 :=
  iprop((hLoc d ↦{q} m (hLoc d)) ∗ (pLoc d ↦{q} m (pLoc d)) ∗ (wLoc d ↦{q} m (wLoc d)) ∗ (gLoc d ↦{q} m (gLoc d)))

/-- What a list's copy delivers: the list in its buffer, and the positions' share. -/
def listD (l : Fin 2) : sProp 𝕄 :=
  iprop(Holds d i (B.idx l) (posV m d i n l) ∗ (pLoc d ↦[(posAt i n l).view.set]{side q l} m (pLoc d)))

instance listD_storable (l : Fin 2) : Storable (upEmb : UEmb _ 𝕄) (listD m d i n B q l) := by unfold listD; infer_instance

/-- The positions no list's copy reads. -/
abbrev listRest (l : Fin 2) : sProp 𝕄 := iprop(pLoc d ↦[Finset.univ \ (posAt i n l).view.set]{side q l} m (pLoc d))

/-- The two lists' copies on their semaphore, `k` started, `u` units waited for. -/
abbrev Lists (k u : ℕ) : sProp 𝕄 :=
  Transfers.Batch EC (thr d i) (.dma B.lsem.sem) tag 512 (listD m d i n B q) k u

/-- A set of buffers at rest; -/
def Idle : sProp 𝕄 :=
  iprop((Own d i (B.idx 0) ∗ Own d i (B.idx 1) ∗ Own d i B.we ∗ Own d i B.gsv ∗ Own d i (B.rows 0) ∗ Own d i (B.rows 1))
    ∗ (Zero d i B.lsem ∗ Zero d i B.wsem ∗ Zero d i B.bsem ∗ Zero d i B.gsem) ∗ Arrays m d q)

/-- its loads in flight; -/
def Loading : sProp 𝕄 :=
  iprop((Lists m d i n B q 2 0 ∗ listRest m d i n q 0 ∗ listRest m d i n q 1)
    ∗ Moving d i (wexpAt i n) B.we B.wsem Finset.univ q (m (wLoc d)) ∗ Moving d i (gsAt i n) B.gsv B.bsem Finset.univ q (m (gLoc d))
    ∗ (Own d i (B.rows 0) ∗ Own d i (B.rows 1)) ∗ Zero d i B.gsem ∗ (hLoc d ↦{q} m (hLoc d)))

/-- the chunk loaded. -/
def Loaded : sProp 𝕄 :=
  iprop((Holds d i (B.idx 0) (posV m d i n 0) ∗ Holds d i (B.idx 1) (posV m d i n 1) ∗ Holds d i B.we (weV m d i n) ∗ Holds d i B.gsv (gsV m d i n)
      ∗ Own d i (B.rows 0) ∗ Own d i (B.rows 1))
    ∗ (Zero d i B.lsem ∗ Zero d i B.wsem ∗ Zero d i B.bsem ∗ Zero d i B.gsem) ∗ Arrays m d q)

omit [FloatOps F] in
theorem list_credit (v : Memref sig .scVector .vmem S16 .i32) : v.view.dmaCredit = 512 := by
  change RefSig.bitCredit S16 .i32 = _
  decide

/-- A list's copy starts. -/
theorem wp_listStart (l : Fin 2) {h1 h2 h3} :
    iprop((pLoc d ↦{side q l} m (pLoc d)) ∗ Own d i (B.idx l) ∗ Lists m d i n B q l.val 0)
      ⊢ wpT d i (Prog.lift (.enqueueDma (posAt i n l) (.here (B.idx l)) (.dma B.lsem.sem) h1 h2 h3))
          fun _ => iprop(Lists m d i n B q (l.val + 1) 0 ∗ listRest m d i n q l) := by
  unfold Own
  iintro ⟨Hs, ⟨%fd, Hd⟩, HB⟩
  ihave Hs' := (pointsTo_split_subset (q := side q l) (f := m (pLoc d)) (Finset.subset_univ (posAt i n l).view.set)).1 $$ Hs
  icases Hs' with ⟨Hs, Hr⟩
  iapply (Transfers.wp_dmaBatch EC 𝒱₀ (thr d i) none (src := posAt i n l) (dst := B.idx l) (via := .same) (hsrc := h1) (hdst := h2) (hsem := h3)
    (k := fun x => .ret x) (Sd := (B.idx l).view.set) (fd := fd) (fs := m (pLoc d)) (q := side q l) (D := listD m d i n B q) (j := l.val) (u := 0) tag 512
    ((View.amount_dma _ _).trans (list_credit _)) subset_rfl l.isLt (Nat.zero_le _)
    (by unfold listD posV; exact sep_mono_left (Holds_write d i (B.idx l) _ fd))) $$ [Hs Hd HB]
  · isplitl [Hs]; · iexact Hs
    isplitl [Hd] <;> iassumption
  iintro HB
  rw [wp_ret]
  imodintro
  isplitl [HB] <;> iassumption

/-- The chunk's loads start. -/
theorem wp_startLoads : Idle m d i B q ⊢ wpT d i (startLoads i B n) fun _ => Loading m d i n B q := by
  unfold Idle Loading startLoads wpT
  simp only [wp_bind]
  iintro ⟨⟨H0, H1, Hw, Hg, Hr⟩, ⟨Hl, Hws, Hbs, Hgs⟩, ⟨Hh, Hp, HW, HG⟩⟩
  ihave Hp' := (pointsTo_share (PosShare.mem_left_op_right q)).1 $$ Hp
  icases Hp' with ⟨Hp0, Hp1⟩
  imod (Transfers.batch_alloc' EC (thr d i) tag 512 (listD m d i n B q)) $$ Hl with HB
  ihave Hx := (wp_listStart m d i n B q 0) $$ [Hp0 H0 HB]
  · isplitl [Hp0]; · iexact Hp0
    isplitl [H0]; · iexact H0
    iexact HB
  iapply (wp_wand frame _ _) $$ Hx
  iintro %_ ⟨HB, Hr0⟩
  ihave Hx := (wp_listStart m d i n B q 1) $$ [Hp1 H1 HB]
  · isplitl [Hp1]; · iexact Hp1
    isplitl [H1]; · iexact H1
    iexact HB
  iapply (wp_wand frame _ _) $$ Hx
  iintro %_ ⟨HB, Hr1⟩
  ihave Hx := (wp_move d i (src := wexpAt i n) (dst := B.we) (sm := B.wsem) (Ss := Finset.univ) (q := q) (f := m (wLoc d)) (by decide) (Finset.subset_univ _)) $$ [HW Hw Hws]
  · isplitl [HW]; · iexact HW
    isplitl [Hw] <;> iassumption
  iapply (wp_wand frame _ _) $$ Hx
  iintro %_ HMw
  ihave Hx := (wp_move d i (src := gsAt i n) (dst := B.gsv) (sm := B.bsem) (Ss := Finset.univ) (q := q) (f := m (gLoc d)) (by decide) (Finset.subset_univ _)) $$ [HG Hg Hbs]
  · isplitl [HG]; · iexact HG
    isplitl [Hg] <;> iassumption
  iapply (wp_wand frame _ _) $$ Hx
  iintro %_ HMg
  isplitl [HB Hr0 Hr1]
  · isplitl [HB]; · iexact HB
    isplitl [Hr0] <;> iassumption
  isplitl [HMw]; · iexact HMw
  isplitl [HMg]; · iexact HMg
  isplitl [Hr]; · iexact Hr
  isplitl [Hgs] <;> iassumption

/-- A list's wait. -/
theorem wp_listWait (l : Fin 2) {h1 h2} :
    iprop(Lists m d i n B q 2 (l.val * 512) ∗ Ow d i O W)
      ⊢ wpT d i (Prog.lift (.waitDma2 B.lsem.sem (posAt i n l) (B.idx l) h1 h2))
          fun _ => iprop(Lists m d i n B q 2 ((l.val + 1) * 512) ∗ Ow d i O W) := by
  unfold Ow
  iintro ⟨HB, #Hmw, ⟨%W', %hW', HO⟩⟩
  iapply (Transfers.wp_waitBatchMulO EC 𝒱₀ (thr d i) none (srcw := posAt i n l) (dstw := B.idx l) (hsrc := h1) (hdst := h2) (k := fun x => .ret x)
    tag (N := 512) (D := listD m d i n B q) (j := 2) (u := l.val * 512) 1 ((list_credit _).trans (Nat.one_mul _).symm) (by have := l.isLt; omega)) $$ [HB HO]
  · isplitl [HB]; · iexact HB
    isplitl [HO]; · iexact HO
    iapply (Transfers.MayWaits.elim (SemLoc.dma B.lsem.sem)) $$ Hmw
  iintro ⟨HB, HO⟩
  rw [wp_ret]
  imodintro
  isplitl [HB]; · rw [Nat.add_mul]; iexact HB
  isplitr; · iexact Hmw
  iexists _
  isplitr
  swap; · iexact HO
  ipureintro; exact recorded hW' _

omit [FloatOps F] in
/-- Both lists delivered. -/
theorem lists_done : bigSep Finset.univ (listD m d i n B q)
    ⊢ iprop((Holds d i (B.idx 0) (posV m d i n 0) ∗ (pLoc d ↦[(posAt i n 0).view.set]{side q 0} m (pLoc d)))
      ∗ (Holds d i (B.idx 1) (posV m d i n 1) ∗ (pLoc d ↦[(posAt i n 1).view.set]{side q 1} m (pLoc d)))) :=
  Entails.of_eq (bigSep_fin_two (listD m d i n B q))

/-- The chunk's loads are waited for. -/
theorem wp_waitLoads : iprop(Loading m d i n B q ∗ Ow d i O W)
    ⊢ wpT d i (waitLoads i B n) fun _ => iprop(Loaded m d i n B q ∗ Ow d i O W) := by
  unfold Loading Loaded waitLoads wpT
  simp only [wp_bind]
  iintro ⟨⟨⟨HB, Hr0, Hr1⟩, HMw, HMg, ⟨Hrows0, Hrows1⟩, Hgs, Hh⟩, HO⟩
  ihave Hx := (wp_listWait m d i n B q 0) $$ [HB HO]
  · isplitl [HB]; · iexact HB
    iexact HO
  iapply (wp_wand frame _ _) $$ Hx
  iintro %_ ⟨HB, HO⟩
  ihave Hx := (wp_listWait m d i n B q 1) $$ [HB HO]
  · isplitl [HB]; · iexact HB
    iexact HO
  iapply (wp_wand frame _ _) $$ Hx
  iintro %_ ⟨HB, HO⟩
  imod (Transfers.batch_collect' EC (thr d i) (by decide)) $$ HB with ⟨HD, Hl⟩
  ihave HD := (lists_done m d i n B q) $$ HD
  icases HD with ⟨⟨H0, Hp0⟩, H1, Hp1⟩
  ihave Hx := (wp_moved d i (src := wexpAt i n) (dst := B.we) (sm := B.wsem) (Ss := Finset.univ) (q := q) (f := m (wLoc d)) (Finset.subset_univ _)) $$ [HMw HO]
  · isplitl [HMw] <;> iassumption
  iapply (wp_wand frame _ _) $$ Hx
  iintro %_ ⟨⟨Hw, HW, Hws⟩, HO⟩
  ihave Hx := (wp_moved d i (src := gsAt i n) (dst := B.gsv) (sm := B.bsem) (Ss := Finset.univ) (q := q) (f := m (gLoc d)) (Finset.subset_univ _)) $$ [HMg HO]
  · isplitl [HMg] <;> iassumption
  iapply (wp_wand frame _ _) $$ Hx
  iintro %_ ⟨⟨Hg, HG, Hbs⟩, HO⟩
  ihave Hp0 := (pointsTo_split_subset (q := side q 0) (f := m (pLoc d)) (Finset.subset_univ (posAt i n 0).view.set)).2 $$ [Hp0 Hr0]
  · isplitl [Hp0] <;> iassumption
  ihave Hp1 := (pointsTo_split_subset (q := side q 1) (f := m (pLoc d)) (Finset.subset_univ (posAt i n 1).view.set)).2 $$ [Hp1 Hr1]
  · isplitl [Hp1] <;> iassumption
  isplitr [HO]
  swap; · iexact HO
  isplitl [H0 H1 Hw Hg Hrows0 Hrows1]
  · isplitl [H0]; · iexact H0
    isplitl [H1]; · iexact H1
    isplitl [Hw]; · iexact Hw
    isplitl [Hg]; · iexact Hg
    isplitl [Hrows0] <;> iassumption
  isplitl [Hl Hws Hbs Hgs]
  · isplitl [Hl]; · iexact Hl
    isplitl [Hws]; · iexact Hws
    isplitl [Hbs] <;> iassumption
  isplitl [Hh]; · iexact Hh
  isplitl [Hp0 Hp1]
  · iapply (pointsTo_share (PosShare.mem_left_op_right q)).2
    isplitl [Hp0]; · iexact Hp0
    iexact Hp1
  isplitl [HW] <;> iassumption

/-! ## What a chunk computes, and its copy out -/

/-- The row of the table a word names. -/
def tabRow (w : BitVec 32) : Fin 6144 := ⟨min w.toNat 6143, by omega⟩

/-- The rows a list names, as one block. -/
def rowVal (l : Fin 2) : FVec F S16x1024 .f32 := fun x => hs.view.read (Elt F) (m (hLoc d)) (ix2 (tabRow (posV m d i n l (ValueIdx.ix1 (x 0)))) (x 1))

/-- The block of weights of list `k`: column `y` has the weight in lane `y mod 16` of the list's sixteen. -/
def weB (k : Fin 2) : FVec F S16x1024 .f32 := fun x =>
  weV m d i n (ix2 (x 0) ⟨16 * k.val + (x 1).val % 16, by have := k.isLt; omega⟩)

/-- The chunk's sum. -/
def sumVal : FVec F S16x1024 .f32 :=
  addf (addf (mulf (weB m d i n 0) (rowVal m d i n 0)) (mulf (weB m d i n 1) (rowVal m d i n 1))) (gsV m d i n)

/-- The chunk summed: its first block of rows holds the sum. -/
def Summed : sProp 𝕄 :=
  iprop((Own d i (B.idx 0) ∗ Own d i (B.idx 1) ∗ Own d i B.we ∗ Own d i B.gsv ∗ Holds d i (B.rows 0) (sumVal m d i n) ∗ Own d i (B.rows 1))
    ∗ (Zero d i B.lsem ∗ Zero d i B.wsem ∗ Zero d i B.bsem ∗ Zero d i B.gsem) ∗ Arrays m d q)

/-- The copy out leaves the set at rest and the chunk's rows of the output at the sum. -/
theorem wp_copyOut (sm : DmaSems sig S_) : iprop(Summed m d i n B q ∗ (Own d i (outAt i n) ∗ Zero d i sm) ∗ Ow d i O W)
    ⊢ wpT d i (copyOut i B n sm) fun _ =>
        iprop(Idle m d i B q ∗ (Holds d i (outAt i n) (sumVal m d i n) ∗ Zero d i sm) ∗ Ow d i O W) := by
  unfold Summed Idle copyOut wpT
  simp only [wp_bind]
  iintro ⟨⟨⟨H0, H1, Hw, Hg, Hr0, Hr1⟩, HZ, HA⟩, ⟨Ho, Hs⟩, HO⟩
  unfold Holds
  icases Hr0 with ⟨%f, Hr0, %hf⟩
  ihave Hx := (wp_move d i (src := B.rows 0) (dst := outAt i n) (sm := sm) (Ss := (B.rows 0).view.set) (q := fullShare) (f := f) (by decide) subset_rfl) $$ [Hr0 Ho Hs]
  · isplitl [Hr0]; · iexact Hr0
    isplitl [Ho] <;> iassumption
  iapply (wp_wand frame _ _) $$ Hx
  iintro %_ HM
  ihave Hx := (wp_moved d i (src := B.rows 0) (dst := outAt i n) (sm := sm) (Ss := (B.rows 0).view.set) (q := fullShare) (f := f) subset_rfl) $$ [HM HO]
  · isplitl [HM] <;> iassumption
  iapply (wp_wand frame _ _) $$ Hx
  iintro %_ ⟨⟨Ho, Hr0, Hs⟩, HO⟩
  rw [hf]
  isplitl [H0 H1 Hw Hg Hr0 Hr1 HZ HA]
  · isplitl [H0 H1 Hw Hg Hr0 Hr1]
    · isplitl [H0]; · iexact H0
      isplitl [H1]; · iexact H1
      isplitl [Hw]; · iexact Hw
      isplitl [Hg]; · iexact Hg
      isplitl [Hr0]; · unfold Own; iexists f; iexact Hr0
      iexact Hr1
    isplitl [HZ] <;> iassumption
  isplitl [Ho Hs]
  · isplitl [Ho]; · unfold Holds; iexact Ho
    iexact Hs
  iexact HO

end Cert.KernelIdeal.Combine

end
-- ==== Proof.Gather.lean ====
/- The gathers of a chunk: sixteen streams started together, each into 128 columns of one of the two blocks of rows, and
   their waits. Together they leave each block at the rows its list names. -/
module

public import proofs.«01_k».proof.Proof.Moves

@[expose] public section

noncomputable section

namespace Cert.KernelIdeal.Combine

open Cert.KernelIdeal Cert.KernelIdeal.Gen Cert.StreamBatch
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix1 eq_ix2)

variable {F : FTy → Type}

local notation "𝕄" => MT nD τ sig (HIx 1) (Elt F) ℕ UU ℕ

variable (m : (ℓ : Loc nD τ sig) → Buf (Elt F) ℓ) (d : Dev nD) (i : grid2.Coords)

/-! ## Splits -/

/-- A family over `a * b` numbers is the family over the `a` blocks of `b`. -/
theorem bigSep_blocks (a b : ℕ) (Φ : Fin a → Fin b → sProp 𝕄) :
    (bigSep Finset.univ fun t : Fin (a * b) => Φ t.divNat t.modNat) = bigSep Finset.univ fun x => bigSep Finset.univ fun y => Φ x y := by
  rw [← bigSep_univ_prod (fun p : Fin a × Fin b => Φ p.1 p.2), bigSep_univ_equiv finProdFinEquiv.symm (fun p : Fin a × Fin b => Φ p.1 p.2)]
  rfl

/-- A column block of a block of rows, as indices. -/
abbrev colRect (c : Fin 8) : Rect S16x1024 := Rect.unit (s := S16x1024) ![0, 128 * c.val] S16x128.size (colInb c)

/-- Where a column block's index lies. -/
theorem colRect_emb (c : Fin 8) (y : S16x128.Idx) : (colRect c).emb y = ix2 (y 0) ⟨128 * c.val + (y 1).val, by
    have := c.isLt; have h : (y 1).val < 128 := (y 1).isLt; omega⟩ := by
  funext a
  refine Fin.ext ?_
  match a with
  | ⟨0, _⟩ => show 0 + 1 * (y 0).val = (y 0).val; omega
  | ⟨1, _⟩ => show 128 * c.val + 1 * (y 1).val = 128 * c.val + (y 1).val; omega

theorem mem_colRect (c : Fin 8) (x : S16x1024.Idx) : x ∈ (colRect c).set ↔ (x 1).val / 128 = c.val := by
  have hx : (x 1).val < 1024 := (x 1).isLt
  constructor
  · intro h
    obtain ⟨y, -, rfl⟩ := Finset.mem_map.mp ((Rect.map_emb_univ _).symm ▸ h)
    rw [colRect_emb]
    have h1 : (y 1).val < 128 := (y 1).isLt
    show (128 * c.val + (y 1).val) / 128 = c.val
    omega
  · intro h
    rw [← Rect.map_emb_univ]
    refine Finset.mem_map.mpr ⟨ix2 (x 0) ⟨(x 1).val % 128, Nat.mod_lt _ (by decide)⟩, Finset.mem_univ _, ?_⟩
    refine (colRect_emb c _).trans ?_
    refine Eq.trans ?_ (eq_ix2 x).symm
    congr 1
    refine Fin.ext ?_
    show 128 * c.val + (x 1).val % 128 = (x 1).val
    omega

/-- A column block's elements within the buffer. -/
theorem cols_set (v : Memref sig .scVector .vmem S16x1024 .f32) (c : Fin 8) :
    (colsOf v c).view.set = (colRect c).set.map v.view.emb := View.set_slice _ (colRect c)

/-- A block of rows held is its eight column blocks held. -/
theorem cols_split (v : Memref sig .scVector .vmem S16x1024 .f32) (q : PosShare TreeShare) (f : Buf (Elt F) (v.view.loc (thr d i))) :
    (v.view.loc (thr d i) ↦[v.view.set]{q} f : sProp 𝕄)
      = bigSep Finset.univ fun c : Fin 8 => v.view.loc (thr d i) ↦[(colsOf v c).view.set]{q} f := by
  have hset : v.view.set = Finset.univ.biUnion fun c : Fin 8 => (colsOf v c).view.set := by
    rw [show (fun c : Fin 8 => (colsOf v c).view.set) = fun c => (colRect c).set.map v.view.emb from funext (cols_set v)]
    ext a
    simp only [Finset.mem_biUnion, Finset.mem_univ, true_and]
    constructor
    · intro h
      obtain ⟨x, -, rfl⟩ := Finset.mem_map.mp h
      exact ⟨⟨(x 1).val / 128, by have h : (x 1).val < 1024 := (x 1).isLt; omega⟩,
        Finset.mem_map.mpr ⟨x, (mem_colRect _ x).mpr rfl, rfl⟩⟩
    · rintro ⟨c, h⟩
      obtain ⟨x, -, rfl⟩ := Finset.mem_map.mp h
      exact Finset.mem_map.mpr ⟨x, Finset.mem_univ _, rfl⟩
  rw [hset]
  refine pointsTo_biUnion _ _ fun c _ c' _ hne => ?_
  rw [cols_set v c, cols_set v c', Finset.disjoint_map, Finset.disjoint_left]
  intro x hx hx'
  exact hne (Fin.ext (((mem_colRect c x).mp hx).symm.trans ((mem_colRect c' x).mp hx')))

/-- A family of pairs is a pair of families; a family over two numbers is a pair. -/
theorem bigSep_pairs {α : Type} (s : Finset α) (Φ Ψ : α → sProp 𝕄) :
    bigSep s (fun x => iprop(Φ x ∗ Ψ x)) = iprop(bigSep s Φ ∗ bigSep s Ψ) := bigSep_sep s Φ Ψ
theorem bigSep_pair_eq (Φ : Fin 2 → sProp 𝕄) : bigSep Finset.univ Φ = iprop(Φ 0 ∗ Φ 1) := bigSep_fin_two Φ

variable (n : Fin 4) (B : Bufs) (q : PosShare TreeShare)

/-- The contents of the two lists' buffers, and of the two blocks of rows. -/
abbrev ListBufs := (l : Fin 2) → Buf (Elt F) ((B.idx l).view.loc (thr d i))
abbrev RowBufs := (l : Fin 2) → Buf (Elt F) ((B.rows l).view.loc (thr d i))

variable (fo : ListBufs (F := F) d i B) (f : RowBufs (F := F) d i B)

/-- What stream `t` works with: its share of the table, its columns of its block of rows, its share of its list. -/
def streamRes (t : Fin (2 * 8)) : sProp 𝕄 :=
  iprop((hLoc d ↦{pieceOf q (2 * 8) (by decide) t} m (hLoc d))
    ∗ ((B.rows t.divNat).view.loc (thr d i) ↦[(colsOf (B.rows t.divNat) t.modNat).view.set]{fullShare} f t.divNat)
    ∗ ((B.idx t.divNat).view.loc (thr d i) ↦[(B.idx t.divNat).view.set]{pieceOf fullShare 8 (by decide) t.modNat} fo t.divNat))

/-- Two blocks of rows, two lists and a share of the table are the sixteen streams' parts. -/
theorem streams_eq : (bigSep Finset.univ (streamRes m d i B q fo f) : sProp 𝕄)
    = iprop((hLoc d ↦{q} m (hLoc d))
      ∗ ((B.rows 0).view.loc (thr d i) ↦[(B.rows 0).view.set]{fullShare} f 0) ∗ ((B.rows 1).view.loc (thr d i) ↦[(B.rows 1).view.set]{fullShare} f 1)
      ∗ ((B.idx 0).view.loc (thr d i) ↦[(B.idx 0).view.set]{fullShare} fo 0) ∗ ((B.idx 1).view.loc (thr d i) ↦[(B.idx 1).view.set]{fullShare} fo 1)) := by
  unfold streamRes
  rw [bigSep_pairs, bigSep_pairs, ← pointsTo_piecesOf,
    bigSep_blocks 2 8 fun l c => ((B.rows l).view.loc (thr d i) ↦[(colsOf (B.rows l) c).view.set]{fullShare} f l),
    bigSep_blocks 2 8 fun l c => ((B.idx l).view.loc (thr d i) ↦[(B.idx l).view.set]{pieceOf fullShare 8 (by decide) c} fo l),
    bigSep_pair_eq, bigSep_pair_eq]
  simp only [← cols_split, ← pointsTo_piecesOf]
  congr 1
  exact BI.equiv_iff.mp ⟨BI.sep_assoc, BI.sep_assoc'⟩

/-! ## The streams' deliveries -/

/-- What row `k` of stream `t` delivers. -/
def streamRow (t : Fin (2 * 8)) (k : Fin 16) : sProp 𝕄 :=
  rowLanded (thr d i) (tabCols t.modNat) (colsOf (B.rows t.divNat) t.modNat) gathers_S6144x128_S16x128 (B.idx t.divNat) rfl (by decide)
    Finset.univ (pieceOf q (2 * 8) (by decide) t) (pieceOf fullShare 8 (by decide) t.modNat) (m (hLoc d)) (f t.divNat) (fo t.divNat) k

/-- The batch's deliveries, stream after stream. -/
def gatherD (x : Fin (2 * 8 * 16)) : sProp 𝕄 := streamRow m d i B q fo f x.divNat x.modNat

instance gatherD_storable (x : Fin (2 * 8 * 16)) : Storable (upEmb : UEmb _ 𝕄) (gatherD m d i B q fo f x) := by
  unfold gatherD streamRow; exact rowLanded_storable (thr d i) _

/-- All delivered, the streams' parts are back. -/
theorem gathered : bigSep Finset.univ (gatherD m d i B q fo f) ⊢ (bigSep Finset.univ (streamRes m d i B q fo f) : sProp 𝕄) := by
  unfold gatherD
  rw [bigSep_blocks (2 * 8) 16 (streamRow m d i B q fo f)]
  refine bigSep_mono fun t _ => ?_
  unfold streamRow streamRes
  refine (rows_join (thr d i) (tabCols t.modNat) (colsOf (B.rows t.divNat) t.modNat) gathers_S6144x128_S16x128 (B.idx t.divNat) rfl (by decide)
    Finset.univ _ _ _ _ _).trans ?_
  iintro ⟨H1, H2, H3⟩
  isplitl [H3]; · iexact H3
  isplitl [H1]; · iexact H1
  iexact H2

/-! ## A stream's start and wait -/

/-- Every position is a row of the table. -/
def PreOK : Prop := ∀ x : S4096.Idx, BitVec.toNat (pos.view.read (Elt F) (m (pLoc d)) x) < 6144

variable {m d} in
theorem posV_lt (h : PreOK m d) (l : Fin 2) (x : S16.Idx) : BitVec.toNat (posV m d i n l x) < 6144 := h _

/-- The blocks of rows once overwritten with the rows the lists name. -/
abbrev landed : RowBufs (F := F) d i B := fun l => (B.rows l).view.write (Elt F) (f l) (rowVal m d i n l) Finset.univ

/-- The sixteen streams on their semaphore, `k` rows' copies started, `u` units waited for. -/
abbrev Streams (k u : ℕ) : sProp 𝕄 :=
  Transfers.Batch EC (thr d i) (.dma B.gsem.sem) tag 4096 (gatherD m d i B q fo (landed m d i n B f)) k u

/-- A list of sixteen is read in order. -/
theorem rowMajor16 (k : Fin 16) (h : (16 : ℕ) = S16.numel) : S16.rowMajor.symm (k.cast h) = ValueIdx.ix1 k := by
  have hd : ∀ k : Fin 16, S16.rowMajor.symm (k.cast (by decide : 16 = S16.numel)) = ValueIdx.ix1 k := by decide
  exact hd k

/-- Where a stream reads the table: the row its list names, its own columns. -/
theorem stream_reads (l : Fin 2) (c : Fin 8) (w : S16.Idx → Elt F .i32) (hw : ∀ x, BitVec.toNat (w x) < 6144) (y : S16x128.Idx) :
    (Rect.unit (s := S6144x1024) ![0, 128 * c.val] S6144x128.size (tabInb c)).emb
        (gathers_S6144x128_S16x128.idx (SparseCore.rows (si := S16) w rfl hw) y)
      = ix2 (tabRow (w (ValueIdx.ix1 (((colRect c).emb y) 0)))) (((colRect c).emb y) 1) := by
  rw [colRect_emb]
  funext a
  refine Fin.ext ?_
  match a with
  | ⟨0, _⟩ =>
    show 0 + 1 * BitVec.toNat (w (S16.rowMajor.symm ((y 0).cast _))) = min (BitVec.toNat (w (ValueIdx.ix1 (y 0)))) 6143
    refine (congrArg (fun x => 0 + 1 * BitVec.toNat (w x)) (rowMajor16 (y 0) _)).trans ?_
    have := hw (ValueIdx.ix1 (y 0))
    show 0 + 1 * BitVec.toNat (w (ValueIdx.ix1 (y 0))) = _
    omega
  | ⟨1, _⟩ => show 128 * c.val + 1 * (y 1).val = 128 * c.val + (y 1).val; omega

variable [FloatOps F]
variable {O : CellTallies nD τ sig (HIx 1)} {W : Waits sig (HIx 1)}

/-- A stream starts. -/
theorem wp_gather (hok : PreOK m d) (hfo : ∀ l, (B.idx l).view.read (Elt F) (fo l) = posV m d i n l) (t : Fin (2 * 8)) :
    iprop(Streams m d i n B q fo f (t.val * 16) 0 ∗ streamRes m d i B q fo f t)
      ⊢ wpT d i (gather i B t.divNat t.modNat) fun _ => Streams m d i n B q fo f ((t.val + 1) * 16) 0 := by
  have hb : gather (F := F) i B t.divNat t.modNat = (gather i B t.divNat t.modNat >>= fun x => .ret x) := (bind_pure _).symm
  rw [hb]
  unfold streamRes gather wpT
  iintro ⟨HB, Hs, Hd, Ho⟩
  have hin : ∀ x, BitVec.toNat ((B.idx t.divNat).view.read (Elt F) (fo t.divNat) x) < 6144 := fun x => by rw [hfo]; exact posV_lt i n hok _ x
  iapply (wp_gatherBatch EC 𝒱₀ (thr d i) none (src := tabCols t.modNat) (dst := colsOf (B.rows t.divNat) t.modNat) (hg := gathers_S6144x128_S16x128)
    (offs := B.idx t.divNat) (hn := rfl) (sem := B.gsem.sem) (Ss := Finset.univ) (fs := m (hLoc d)) (fd := f t.divNat) (G := landed m d i n B f t.divNat)
    (fo := fo t.divNat) (q := pieceOf q (2 * 8) (by decide) t) (qo := pieceOf fullShare 8 (by decide) t.modNat) (Finset.subset_univ _) (by decide) tag 4096
    (D := gatherD m d i B q fo (landed m d i n B f)) (j := t.val * 16) (u := 0)
    (fun _ => by change RefSig.bitCredit (S16x128.rowShape gathers_S6144x128_S16x128.axis') .f32 = _; decide) hin ?_ (by have := t.isLt; show t.val * 16 + 16 ≤ _; omega) (Nat.zero_le _) ?_) $$ [HB Hs Hd Ho]
  · intro a ha
    obtain ⟨y, -, rfl⟩ := Finset.mem_map.mp ha
    refine (View.write_emb_of_mem (v := (colsOf (B.rows t.divNat) t.modNat).view) _ _ (Finset.mem_univ y)).trans ?_
    refine Eq.trans ?_ (View.write_emb_of_mem (v := (B.rows t.divNat).view) _ _ (Finset.mem_univ ((colRect t.modNat).emb y))).symm
    refine congrArg _ ?_
    have e := stream_reads t.divNat t.modNat ((B.idx t.divNat).view.read (Elt F) (fo t.divNat)) hin y
    exact (congrArg (hs.view.read (Elt F) (m (hLoc d))) e).trans (congrArg (fun w : S16.Idx → Elt F .i32 =>
      hs.view.read (Elt F) (m (hLoc d)) (ix2 (tabRow (w (ValueIdx.ix1 (((colRect t.modNat).emb y) 0)))) (((colRect t.modNat).emb y) 1))) (hfo _))
  · intro k
    have h1 : (⟨t.val * 16 + k.val, by have := t.isLt; have : k.val < 16 := k.isLt; omega⟩ : Fin (2 * 8 * 16)).divNat = t := by
      refine Fin.ext ?_; have : k.val < 16 := k.isLt; show (t.val * 16 + k.val) / 16 = t.val; omega
    have h2 : (⟨t.val * 16 + k.val, by have := t.isLt; have : k.val < 16 := k.isLt; omega⟩ : Fin (2 * 8 * 16)).modNat = k := by
      refine Fin.ext ?_; have : k.val < 16 := k.isLt; show (t.val * 16 + k.val) % 16 = k.val; omega
    unfold gatherD
    rw [h1, h2]
    exact .rfl
  · isplitl [Hs]; · iexact Hs
    isplitl [Hd]; · iexact Hd
    isplitl [Ho] <;> iassumption
  iintro HB
  rw [wp_ret]
  imodintro
  rw [Nat.add_mul]
  iexact HB

/-- A stream's wait. -/
theorem wp_waitGather (t : Fin (2 * 8)) :
    iprop(Streams m d i n B q fo f 256 (t.val * 65536) ∗ Ow d i O W)
      ⊢ wpT d i (waitGather i B t.divNat t.modNat) fun _ => iprop(Streams m d i n B q fo f 256 ((t.val + 1) * 65536) ∗ Ow d i O W) := by
  unfold Ow waitGather wpT
  iintro ⟨HB, #Hmw, ⟨%W', %hW', HO⟩⟩
  iapply (Transfers.wp_waitBatchMulO EC 𝒱₀ (thr d i) none (srcw := tabCols t.modNat) (dstw := colsOf (B.rows t.divNat) t.modNat) (k := fun x => .ret x)
    tag (N := 4096) (D := gatherD m d i B q fo (landed m d i n B f)) (j := 256) (u := t.val * 65536) 16
    (by change RefSig.bitCredit S16x128 .f32 = _; decide) (by have := t.isLt; omega)) $$ [HB HO]
  · isplitl [HB]; · iexact HB
    isplitl [HO]; · iexact HO
    iapply (Transfers.MayWaits.elim (SemLoc.dma B.gsem.sem)) $$ Hmw
  iintro ⟨HB, HO⟩
  rw [wp_ret]
  imodintro
  isplitl [HB]; · rw [Nat.add_mul]; iexact HB
  isplitr; · iexact Hmw
  iexists _
  isplitr
  swap; · iexact HO
  ipureintro; exact recorded hW' _

/-! ## The gathers and their waits -/

/-- A set of buffers with its sixteen streams in flight. -/
def Gathering : sProp 𝕄 :=
  iprop(∃ (fo : ListBufs (F := F) d i B) (f : RowBufs (F := F) d i B), Streams m d i n B q fo f 256 0
    ∗ (Holds d i B.we (weV m d i n) ∗ Holds d i B.gsv (gsV m d i n))
    ∗ (Zero d i B.lsem ∗ Zero d i B.wsem ∗ Zero d i B.bsem)
    ∗ ((pLoc d ↦{q} m (pLoc d)) ∗ (wLoc d ↦{q} m (wLoc d)) ∗ (gLoc d ↦{q} m (gLoc d))))

/-- The two blocks of rows gathered. -/
def Gathered : sProp 𝕄 :=
  iprop((Own d i (B.idx 0) ∗ Own d i (B.idx 1) ∗ Holds d i B.we (weV m d i n) ∗ Holds d i B.gsv (gsV m d i n)
      ∗ Holds d i (B.rows 0) (rowVal m d i n 0) ∗ Holds d i (B.rows 1) (rowVal m d i n 1))
    ∗ (Zero d i B.lsem ∗ Zero d i B.wsem ∗ Zero d i B.bsem ∗ Zero d i B.gsem) ∗ Arrays m d q)

/-- The streams start. -/
theorem wp_gathers (hok : PreOK m d) : Loaded m d i n B q ⊢ wpT d i (gathers i B) fun _ => Gathering m d i n B q := by
  unfold Loaded gathers Holds Own
  iintro ⟨⟨⟨%f0, H0, %h0⟩, ⟨%f1, H1, %h1⟩, Hw, Hg, ⟨%r0, Hr0⟩, %r1, Hr1⟩, ⟨Hl, Hws, Hbs, Hgs⟩, Hh, Hp, HW, HG⟩
  let fo : ListBufs (F := F) d i B := fun | 0 => f0 | 1 => f1
  let f : RowBufs (F := F) d i B := fun | 0 => r0 | 1 => r1
  have hfo : ∀ l, (B.idx l).view.read (Elt F) (fo l) = posV m d i n l := fun | 0 => h0 | 1 => h1
  imod (Transfers.batch_alloc' EC (thr d i) tag 4096 (gatherD m d i B q fo (landed m d i n B f))) $$ Hgs with HB
  ihave HR := (Entails.of_eq (streams_eq m d i B q fo f).symm) $$ [H0 H1 Hr0 Hr1 Hh]
  · isplitl [Hh]; · iexact Hh
    isplitl [Hr0]; · iexact Hr0
    isplitl [Hr1]; · iexact Hr1
    isplitl [H0]; · iexact H0
    iexact H1
  ihave Hx := (wp_seqN d i (2 * 8) (fun s => gather i B s.divNat s.modNat)
    (fun k => iprop(Streams m d i n B q fo f (k * 16) 0 ∗ bigSep (Transfers.pending k) (streamRes m d i B q fo f))) (fun t => by
      rw [Transfers.bigSep_pending_step _ t.val t.isLt]
      refine BIBase.Entails.trans ?_ (wp_then d i (wp_gather m d i n B q fo f hok hfo t) (R := bigSep (Transfers.pending (t.val + 1)) (streamRes m d i B q fo f)) fun _ => .rfl)
      iintro ⟨H1, H2, H3⟩
      isplitl [H1 H2]
      · isplitl [H1] <;> iassumption
      · iexact H3)) $$ [HB HR]
  · rw [Transfers.pending_zero]
    isplitl [HB]; · rw [Nat.zero_mul]; iexact HB
    iexact HR
  unfold wpT
  iapply (wp_wand frame _ _) $$ Hx
  iintro %_ ⟨HB, -⟩
  unfold Gathering
  iexists fo, f
  isplitl [HB]; · iexact HB
  isplitl [Hw Hg]
  · unfold Holds; isplitl [Hw] <;> iassumption
  isplitl [Hl Hws Hbs]
  · isplitl [Hl]; · iexact Hl
    isplitl [Hws] <;> iassumption
  isplitl [Hp]; · iexact Hp
  isplitl [HW] <;> iassumption

/-- The streams are waited for. -/
theorem wp_waitGathers : iprop(Gathering m d i n B q ∗ Ow d i O W)
    ⊢ wpT d i (waitGathers i B) fun _ => iprop(Gathered m d i n B q ∗ Ow d i O W) := by
  unfold Gathering waitGathers
  iintro ⟨⟨%fo, %f, HB, ⟨Hw, Hg⟩, ⟨Hl, Hws, Hbs⟩, Hp, HW, HG⟩, HO⟩
  ihave Hx := (wp_seqN d i (2 * 8) (fun s => waitGather i B s.divNat s.modNat)
    (fun k => iprop(Streams m d i n B q fo f 256 (k * 65536) ∗ Ow d i O W)) (fun t => wp_waitGather m d i n B q fo f t)) $$ [HB HO]
  · isplitl [HB]; · rw [Nat.zero_mul]; iexact HB
    iexact HO
  unfold wpT
  iapply (wp_fupd frame _ _)
  iapply (wp_wand frame _ _) $$ Hx
  iintro %_ ⟨HB, HO⟩
  imod (Transfers.batch_collect' EC (thr d i) (by decide)) $$ HB with ⟨HD, Hgs⟩
  ihave HR := (gathered m d i B q fo (landed m d i n B f)) $$ HD
  ihave HR := (Entails.of_eq (streams_eq m d i B q fo (landed m d i n B f))) $$ HR
  icases HR with ⟨Hh, Hr0, Hr1, H0, H1⟩
  imodintro
  unfold Gathered
  isplitr [HO]
  swap; · iexact HO
  isplitl [H0 H1 Hw Hg Hr0 Hr1]
  · isplitl [H0]; · unfold Own; iexists fo 0; iexact H0
    isplitl [H1]; · unfold Own; iexists fo 1; iexact H1
    isplitl [Hw]; · iexact Hw
    isplitl [Hg]; · iexact Hg
    isplitl [Hr0]
    · iapply (Holds_write d i (B.rows 0) (rowVal m d i n 0) (f 0)) $$ Hr0
    · iapply (Holds_write d i (B.rows 1) (rowVal m d i n 1) (f 1)) $$ Hr1
  isplitl [Hl Hws Hbs Hgs]
  · isplitl [Hl]; · iexact Hl
    isplitl [Hws]; · iexact Hws
    isplitl [Hbs] <;> iassumption
  isplitl [Hh]; · iexact Hh
  isplitl [Hp]; · iexact Hp
  isplitl [HW] <;> iassumption

end Cert.KernelIdeal.Combine

end
-- ==== Proof.Rows.lean ====
/- The weighed sum of a chunk: row by row, sixteen columns at a time, the first block of rows is overwritten with the two
   weighed blocks' and the shared-expert rows' sum. -/
module

public import proofs.«01_k».proof.Proof.Gather
public import Idealize.ShloMosaic.Lib.ValueLayout
public import Idealize.ShloMosaic.Lib.Scf

@[expose] public section

noncomputable section

namespace Cert.KernelIdeal.Combine

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix2 eq_ix1 eq_ix2)

variable {F : FTy → Type}

local notation "𝕄" => MT nD τ sig (HIx 1) (Elt F) ℕ UU ℕ

variable (m : (ℓ : Loc nD τ sig) → Buf (Elt F) ℓ) (d : Dev nD) (i : grid2.Coords)
variable [FloatOps F]

/-! ## One load, one store -/

/-- A load reads what the buffer holds. -/
theorem wp_get {sp : CoreSpace} {s : Shape} {e : EltTy} (v : Memref sig .scVector sp s e) (r : Rect s) (g : s.Idx → Elt F e) {hl} :
    Holds d i v g ⊢ wpT d i (Prog.lift (.load v r.toLoadRect hl)) fun x => iprop(Holds d i v g ∗ ⌜x = fun y => g (r.emb y)⌝) := by
  unfold Holds wpT
  iintro ⟨%f, H, %hf⟩
  iapply (wp_load_rect 𝒱₀ (thr d i) none Set.univ (m := v) (r := r) (k := fun x => .ret x) (View.set_slice_subset _ r)) $$ H
  iintro H
  rw [wp_ret]
  imodintro
  isplitl [H]
  · iexists f
    isplitl [H]; · iexact H
    ipureintro; exact hf
  · ipureintro
    rw [← hf]
    rfl

/-- A store leaves the buffer at anything that is the stored vector on the rectangle and the old contents off it. -/
theorem wp_put {sp : CoreSpace} {s : Shape} {e : EltTy} (v : Memref sig .scVector sp s e) (r : Rect s) (g g' : s.Idx → Elt F e) (w : r.shape.Idx → Elt F e)
    {h1 h2} (hin : ∀ y, g' (r.emb y) = w y) (hout : ∀ x, x ∉ r.set → g' x = g x) :
    Holds d i v g ⊢ wpT d i (Prog.lift (.store v r w Finset.univ h1 h2)) fun _ => Holds d i v g' := by
  unfold Holds wpT
  iintro ⟨%f, H, %hf⟩
  iapply (wp_store 𝒱₀ (thr d i) none Set.univ (m := v) (r := r) (k := fun x => .ret x) (View.set_slice_subset _ r)) $$ H
  iintro H
  rw [wp_ret]
  imodintro
  iexists _
  isplitl [H]; · iexact H
  ipureintro
  funext x
  by_cases hx : x ∈ r.set
  · obtain ⟨y, -, rfl⟩ := Finset.mem_map.mp ((Rect.map_emb_univ r).symm ▸ hx)
    exact (View.read_slice_write_emb (v := v.view) r f w (Finset.mem_univ y)).trans (hin y).symm
  · refine (View.read_slice_write_of_not_mem (v := v.view) r f w Finset.univ (by rwa [Rect.map_emb_univ])).trans ?_
    rw [hf, hout x hx]

/-! ## Sixteen columns -/

/-- The stored vector, without its changes of shape. -/
theorem pay_eq (w0 w1 r0 r1 g : Vec F S1x16 .f32) :
    pay w0 w1 r0 r1 g = (addf (addf (mulf w0 r0) (mulf w1 r1)) g : FVec F S1x16 .f32) := by
  have h0 : ∀ y : S1x16.Idx, ix2 (0 : Fin 1) (y 1) = y := fun y => by
    refine Eq.trans ?_ (eq_ix2 y).symm
    congr 1
    exact Subsingleton.elim _ _
  have hc : ∀ (v : Vec F S1x16 .f32) (k : Fin 16), shapeCast S16 v shapeCasts_S1x16_S16 (ValueIdx.ix1 k) = v (ix2 0 k) := fun v k =>
    ValueIdx.shapeCast_1a_a_apply v _ k
  funext y
  rw [← h0 y]
  unfold pay
  refine (ValueIdx.shapeCast_a_1a_apply _ _ _ _).trans ?_
  exact congrArg₂ _ (congrArg₂ _ (congrArg₂ _ (hc w0 _) (hc r0 _)) (congrArg₂ _ (hc w1 _) (hc r1 _))) (hc g _)

/-- Where the rectangle's elements lie. -/
theorem rowRect_emb (t : Fin k2_t1_loop.trips) (j : Fin 64) (y : S1x16.Idx) :
    (rowRect t j).emb y = ix2 (⟨t.val, t.isLt⟩ : Fin 16) (⟨16 * j.val + (y 1).val, by have := j.isLt; have h : (y 1).val < 16 := (y 1).isLt; omega⟩ : Fin 1024) := by
  funext a
  refine Fin.ext ?_
  have h0 : (y 0).val = 0 := by have h : (y 0).val < 1 := (y 0).isLt; omega
  match a with
  | ⟨0, _⟩ =>
    show (Scalar.indexCast (Scf.iv 0#32 1#32 t)).toNat + 1 * (y 0).val = t.val
    rw [row_lt, h0]; rfl
  | ⟨1, _⟩ => show 16 * j.val + 1 * (y 1).val = 16 * j.val + (y 1).val; omega

theorem weRect_emb (t : Fin k2_t1_loop.trips) (k : Fin 2) (y : S1x16.Idx) :
    (weRect t k).emb y = ix2 (⟨t.val, t.isLt⟩ : Fin 16) (⟨16 * k.val + (y 1).val, by have := k.isLt; have h : (y 1).val < 16 := (y 1).isLt; omega⟩ : Fin 32) := by
  funext a
  refine Fin.ext ?_
  have h0 : (y 0).val = 0 := by have h : (y 0).val < 1 := (y 0).isLt; omega
  match a with
  | ⟨0, _⟩ =>
    show (Scalar.indexCast (Scf.iv 0#32 1#32 t)).toNat + 1 * (y 0).val = t.val
    rw [row_lt, h0]; rfl
  | ⟨1, _⟩ => show 16 * k.val + 1 * (y 1).val = 16 * k.val + (y 1).val; omega

/-- The rectangle's elements: row `t`, group of columns `j`. -/
theorem mem_rowRect (t : Fin k2_t1_loop.trips) (j : Fin 64) (x : S16x1024.Idx) :
    x ∈ (rowRect t j).set ↔ 64 * (x 0).val + (x 1).val / 16 = 64 * t.val + j.val := by
  have hj := j.isLt
  have hx : (x 1).val < 1024 := (x 1).isLt
  constructor
  · intro h
    obtain ⟨y, -, rfl⟩ := Finset.mem_map.mp ((Rect.map_emb_univ _).symm ▸ h)
    have e := rowRect_emb t j y
    rw [e]
    have h1 : (y 1).val < 16 := (y 1).isLt
    show 64 * t.val + (16 * j.val + (y 1).val) / 16 = _
    omega
  · intro h
    rw [← Rect.map_emb_univ]
    refine Finset.mem_map.mpr ⟨ix2 (0 : Fin 1) (⟨(x 1).val % 16, Nat.mod_lt _ (by decide)⟩ : Fin 16), Finset.mem_univ _, ?_⟩
    refine (rowRect_emb t j _).trans (Eq.trans ?_ (eq_ix2 x).symm)
    have e0 : t.val = (x 0).val := by omega
    have e1 : 16 * j.val + (x 1).val % 16 = (x 1).val := by omega
    congr 1
    · exact Fin.ext e0
    · exact Fin.ext e1

variable (n : Fin 4) (B : Bufs) (q : PosShare TreeShare)

/-- The first block of rows with its first `p` groups of sixteen columns, counted row after row, summed. -/
def partVal (p : ℕ) : FVec F S16x1024 .f32 := fun x =>
  if 64 * (x 0).val + (x 1).val / 16 < p then sumVal m d i n x else rowVal m d i n 0 x

/-- What the loop works with. -/
def Part (p : ℕ) : sProp 𝕄 :=
  iprop(Holds d i B.we (weV m d i n) ∗ Holds d i B.gsv (gsV m d i n) ∗ Holds d i (B.rows 0) (partVal m d i n p) ∗ Holds d i (B.rows 1) (rowVal m d i n 1))

/-- The weights a row loads. -/
def wLoad (t : Fin k2_t1_loop.trips) (k : Fin 2) : Vec F S1x16 .f32 := fun y => weV m d i n ((weRect t k).emb y)

/-- What is stored is the sum. -/
theorem stored (t : Fin k2_t1_loop.trips) (j : Fin 64) (y : S1x16.Idx) :
    pay (wLoad m d i n t 0) (wLoad m d i n t 1) (fun y => partVal m d i n (64 * t.val + j.val) ((rowRect t j).emb y))
        (fun y => rowVal m d i n 1 ((rowRect t j).emb y)) (fun y => gsV m d i n ((rowRect t j).emb y)) y
      = sumVal m d i n ((rowRect t j).emb y) := by
  have hy : (y 1).val < 16 := (y 1).isLt
  have hw : ∀ k, wLoad m d i n t k y = weB m d i n k ((rowRect t j).emb y) := fun k => by
    unfold wLoad weB
    have e := rowRect_emb t j y
    rw [e, weRect_emb]
    congr 1
    congr 1
    refine Fin.ext ?_
    show 16 * k.val + (y 1).val = 16 * k.val + (16 * j.val + (y 1).val) % 16
    omega
  have hp : partVal m d i n (64 * t.val + j.val) ((rowRect t j).emb y) = rowVal m d i n 0 ((rowRect t j).emb y) := by
    unfold partVal
    rw [if_neg]
    have := (mem_rowRect t j _).mp (show (rowRect t j).emb y ∈ (rowRect t j).set from by
      rw [← Rect.map_emb_univ]; exact Finset.mem_map.mpr ⟨y, Finset.mem_univ _, rfl⟩)
    omega
  rw [pay_eq]
  unfold sumVal
  simp only [addf, mulf, hw, hp]

theorem wp_colStep (t : Fin k2_t1_loop.trips) (j : Fin 64) :
    Part m d i n B (64 * t.val + j.val) ⊢ wpT d i (colStep i B t (wLoad m d i n t 0) (wLoad m d i n t 1) j) fun _ => Part m d i n B (64 * t.val + (j.val + 1)) := by
  unfold Part colStep wpT
  simp only [wp_bind]
  iintro ⟨Hw, Hg, Hr0, Hr1⟩
  ihave Hx := (wp_get d i (B.rows 0) (rowRect t j) _) $$ Hr0
  iapply (wp_wand frame _ _) $$ Hx
  iintro %x0 ⟨Hr0, %e0⟩
  ihave Hx := (wp_get d i (B.rows 1) (rowRect t j) _) $$ Hr1
  iapply (wp_wand frame _ _) $$ Hx
  iintro %x1 ⟨Hr1, %e1⟩
  ihave Hx := (wp_get d i B.gsv (rowRect t j) _) $$ Hg
  iapply (wp_wand frame _ _) $$ Hx
  iintro %x2 ⟨Hg, %e2⟩
  ihave Hx := (wp_get d i (B.rows 0) (rowRect t j) _) $$ Hr0
  iapply (wp_wand frame _ _) $$ Hx
  iintro %x3 ⟨Hr0, -⟩
  rw [e0, e1, e2]
  have hmem : ∀ y, (rowRect t j).emb y ∈ (rowRect t j).set := fun y => by
    rw [← Rect.map_emb_univ]; exact Finset.mem_map.mpr ⟨y, Finset.mem_univ _, rfl⟩
  ihave Hx := (wp_put d i (B.rows 0) (rowRect t j) _ (partVal m d i n (64 * t.val + (j.val + 1))) _
    (fun y => by
      refine Eq.trans ?_ (stored m d i n t j y).symm
      unfold partVal
      rw [if_pos]
      have := (mem_rowRect t j _).mp (hmem y)
      omega)
    (fun x hx => by
      rw [mem_rowRect] at hx
      unfold partVal
      by_cases h : 64 * (x 0).val + (x 1).val / 16 < 64 * t.val + j.val
      · rw [if_pos h, if_pos (by omega)]
      · rw [if_neg h, if_neg (by omega)])) $$ Hr0
  iapply (wp_wand frame _ _) $$ Hx
  iintro %_ Hr0
  isplitl [Hw]; · iexact Hw
  isplitl [Hg]; · iexact Hg
  isplitl [Hr0] <;> iassumption

/-- A row's 64 groups of columns. -/
theorem wp_cols (t : Fin k2_t1_loop.trips) :
    Part m d i n B (64 * t.val) ⊢ wpT d i (seqN 64 (colStep i B t (wLoad m d i n t 0) (wLoad m d i n t 1))) fun _ => Part m d i n B (64 * (t.val + 1)) := by
  have h := wp_seqN d i 64 (colStep i B t (wLoad m d i n t 0) (wLoad m d i n t 1)) (fun j => Part m d i n B (64 * t.val + j)) (wp_colStep m d i n B t)
  rw [Nat.mul_succ]
  exact h

/-- A row. -/
theorem wp_rowStep (t : Fin k2_t1_loop.trips) :
    Part m d i n B (64 * t.val) ⊢ wpT d i (rowStep i B t) fun _ => Part m d i n B (64 * (t.val + 1)) := by
  unfold rowStep wpT
  simp only [wp_bind]
  unfold Part
  iintro ⟨Hw, Hg, Hr0, Hr1⟩
  ihave Hx := (wp_get d i B.we (weRect t 0) _) $$ Hw
  iapply (wp_wand frame _ _) $$ Hx
  iintro %x0 ⟨Hw, %e0⟩
  ihave Hx := (wp_get d i B.we (weRect t 1) _) $$ Hw
  iapply (wp_wand frame _ _) $$ Hx
  iintro %x1 ⟨Hw, %e1⟩
  rw [show x0 = wLoad m d i n t 0 from e0, show x1 = wLoad m d i n t 1 from e1]
  ihave Hx := (wp_cols m d i n B t) $$ [Hw Hg Hr0 Hr1]
  · unfold Part
    isplitl [Hw]; · iexact Hw
    isplitl [Hg]; · iexact Hg
    isplitl [Hr0] <;> iassumption
  unfold Part wpT
  iexact Hx

theorem partVal_zero : partVal m d i n 0 = rowVal m d i n 0 := by
  funext x; unfold partVal; rw [if_neg (Nat.not_lt_zero _)]

theorem partVal_all : partVal m d i n (64 * 16) = sumVal m d i n := by
  funext x
  have h0 : (x 0).val < 16 := (x 0).isLt
  have h1 : (x 1).val < 1024 := (x 1).isLt
  unfold partVal; rw [if_pos (by omega)]

/-- The loop: a gathered chunk is summed. -/
theorem wp_rowsLoop : Gathered m d i n B q ⊢ wpT d i (rowsLoop i B) fun _ => Summed m d i n B q := by
  unfold Gathered Summed rowsLoop wpT
  iintro ⟨⟨H0, H1, Hw, Hg, Hr0, Hr1⟩, HZ, HA⟩
  iapply (Scf.wp_for frame (wpE (defs₀ (F := F)) 𝒱₀ (thr d i) none) Set.univ _ _ _ k2_t1_ok 0#32 _ (fun k _ => Part m d i n B (64 * k)) (fun t _ => by
    rw [wp_bind]
    refine (wp_rowStep m d i n B t).trans (wp_mono frame _ _ fun _ => ?_)
    rw [wp_pure]
    exact fupd_intro))
  isplitl [Hw Hg Hr0 Hr1]
  · unfold Part
    rw [partVal_zero]
    isplitl [Hw]; · iexact Hw
    isplitl [Hg]; · iexact Hg
    isplitl [Hr0] <;> iassumption
  iintro %_ HP
  rw [show Scf.trips k2_t1_loop.lb k2_t1_loop.ub k2_t1_loop.st = 16 from trips_eq]
  unfold Part
  rw [partVal_all]
  icases HP with ⟨Hw, Hg, Hr0, Hr1⟩
  isplitr [HZ HA]
  · isplitl [H0]; · iexact H0
    isplitl [H1]; · iexact H1
    isplitl [Hw]; · iapply (Holds_own d i B.we _) $$ Hw
    isplitl [Hg]; · iapply (Holds_own d i B.gsv _) $$ Hg
    isplitl [Hr0]; · iexact Hr0
    iapply (Holds_own d i (B.rows 1) _) $$ Hr1
  isplitl [HZ] <;> iassumption

end Cert.KernelIdeal.Combine

end
-- ==== Proof.Whole.lean ====
/- The tile's program as a whole: four chunks through two sets of buffers. -/
module

public import proofs.«01_k».proof.Proof.Rows

@[expose] public section

noncomputable section

namespace Cert.KernelIdeal.Combine

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix2 eq_ix1 eq_ix2)

variable {F : FTy → Type}

local notation "𝕄" => MT nD τ sig (HIx 1) (Elt F) ℕ UU ℕ

variable (m : (ℓ : Loc nD τ sig) → Buf (Elt F) ℓ) (d : Dev nD) (i : grid2.Coords)
variable [FloatOps F]
variable {O : CellTallies nD τ sig (HIx 1)} {W : Waits sig (HIx 1)}

/-- The tile's four chunks of the output before, with the semaphores their copies use, -/
abbrev outBefore (sm : Fin 4 → DmaSems sig S_) (n : Fin 4) : sProp 𝕄 := iprop(Own d i (outAt i n) ∗ Zero d i (sm n))

/-- and after: each holds its chunk's sum. -/
abbrev outAfter (sm : Fin 4 → DmaSems sig S_) (n : Fin 4) : sProp 𝕄 := iprop(Holds d i (outAt i n) (sumVal m d i n) ∗ Zero d i (sm n))

/-- The tile's program: from the two sets at rest to the two sets at rest, its rows of the output written. -/
theorem wp_body (hok : PreOK m d) (A B : Bufs) (sm : Fin 4 → DmaSems sig S_) (qA qB : PosShare TreeShare) :
    iprop(Idle m d i A qA ∗ Idle m d i B qB ∗ (outBefore d i sm 0 ∗ outBefore d i sm 1 ∗ outBefore d i sm 2 ∗ outBefore d i sm 3) ∗ Ow d i O W)
      ⊢ wpT d i (body i A B sm) fun _ => iprop(Idle m d i A qA ∗ Idle m d i B qB
          ∗ (outAfter m d i sm 0 ∗ outAfter m d i sm 1 ∗ outAfter m d i sm 2 ∗ outAfter m d i sm 3) ∗ Ow d i O W) := by
  unfold body wpT
  simp only [wp_bind]
  iintro ⟨HA, HB, ⟨H0, H1, H2, H3⟩, HO⟩
  ihave Hx := (wp_startLoads m d i 0 A qA) $$ HA
  iapply (wp_wand frame _ _) $$ Hx
  iintro %_ HA
  ihave Hx := (wp_startLoads m d i 1 B qB) $$ HB
  iapply (wp_wand frame _ _) $$ Hx
  iintro %_ HB
  ihave Hx := (wp_waitLoads m d i 0 A qA) $$ [HA HO]
  · isplitl [HA] <;> iassumption
  iapply (wp_wand frame _ _) $$ Hx
  iintro %_ ⟨HA, HO⟩
  ihave Hx := (wp_gathers m d i 0 A qA hok) $$ HA
  iapply (wp_wand frame _ _) $$ Hx
  iintro %_ HA
  ihave Hx := (wp_waitLoads m d i 1 B qB) $$ [HB HO]
  · isplitl [HB] <;> iassumption
  iapply (wp_wand frame _ _) $$ Hx
  iintro %_ ⟨HB, HO⟩
  ihave Hx := (wp_gathers m d i 1 B qB hok) $$ HB
  iapply (wp_wand frame _ _) $$ Hx
  iintro %_ HB
  ihave Hx := (wp_waitGathers m d i 0 A qA) $$ [HA HO]
  · isplitl [HA] <;> iassumption
  iapply (wp_wand frame _ _) $$ Hx
  iintro %_ ⟨HA, HO⟩
  ihave Hx := (wp_rowsLoop m d i 0 A qA) $$ HA
  iapply (wp_wand frame _ _) $$ Hx
  iintro %_ HA
  ihave Hx := (wp_copyOut m d i 0 A qA (sm 0)) $$ [HA H0 HO]
  · isplitl [HA]; · iexact HA
    isplitl [H0] <;> iassumption
  iapply (wp_wand frame _ _) $$ Hx
  iintro %_ ⟨HA, H0, HO⟩
  ihave Hx := (wp_startLoads m d i 2 A qA) $$ HA
  iapply (wp_wand frame _ _) $$ Hx
  iintro %_ HA
  ihave Hx := (wp_waitLoads m d i 2 A qA) $$ [HA HO]
  · isplitl [HA] <;> iassumption
  iapply (wp_wand frame _ _) $$ Hx
  iintro %_ ⟨HA, HO⟩
  ihave Hx := (wp_gathers m d i 2 A qA hok) $$ HA
  iapply (wp_wand frame _ _) $$ Hx
  iintro %_ HA
  ihave Hx := (wp_waitGathers m d i 1 B qB) $$ [HB HO]
  · isplitl [HB] <;> iassumption
  iapply (wp_wand frame _ _) $$ Hx
  iintro %_ ⟨HB, HO⟩
  ihave Hx := (wp_rowsLoop m d i 1 B qB) $$ HB
  iapply (wp_wand frame _ _) $$ Hx
  iintro %_ HB
  ihave Hx := (wp_copyOut m d i 1 B qB (sm 1)) $$ [HB H1 HO]
  · isplitl [HB]; · iexact HB
    isplitl [H1] <;> iassumption
  iapply (wp_wand frame _ _) $$ Hx
  iintro %_ ⟨HB, H1, HO⟩
  ihave Hx := (wp_startLoads m d i 3 B qB) $$ HB
  iapply (wp_wand frame _ _) $$ Hx
  iintro %_ HB
  ihave Hx := (wp_waitLoads m d i 3 B qB) $$ [HB HO]
  · isplitl [HB] <;> iassumption
  iapply (wp_wand frame _ _) $$ Hx
  iintro %_ ⟨HB, HO⟩
  ihave Hx := (wp_gathers m d i 3 B qB hok) $$ HB
  iapply (wp_wand frame _ _) $$ Hx
  iintro %_ HB
  ihave Hx := (wp_waitGathers m d i 2 A qA) $$ [HA HO]
  · isplitl [HA] <;> iassumption
  iapply (wp_wand frame _ _) $$ Hx
  iintro %_ ⟨HA, HO⟩
  ihave Hx := (wp_rowsLoop m d i 2 A qA) $$ HA
  iapply (wp_wand frame _ _) $$ Hx
  iintro %_ HA
  ihave Hx := (wp_copyOut m d i 2 A qA (sm 2)) $$ [HA H2 HO]
  · isplitl [HA]; · iexact HA
    isplitl [H2] <;> iassumption
  iapply (wp_wand frame _ _) $$ Hx
  iintro %_ ⟨HA, H2, HO⟩
  ihave Hx := (wp_waitGathers m d i 3 B qB) $$ [HB HO]
  · isplitl [HB] <;> iassumption
  iapply (wp_wand frame _ _) $$ Hx
  iintro %_ ⟨HB, HO⟩
  ihave Hx := (wp_rowsLoop m d i 3 B qB) $$ HB
  iapply (wp_wand frame _ _) $$ Hx
  iintro %_ HB
  ihave Hx := (wp_copyOut m d i 3 B qB (sm 3)) $$ [HB H3 HO]
  · isplitl [HB]; · iexact HB
    isplitl [H3] <;> iassumption
  iapply (wp_wand frame _ _) $$ Hx
  iintro %_ ⟨HB, H3, HO⟩
  isplitl [HA]; · iexact HA
  isplitl [HB]; · iexact HB
  isplitr [HO]
  · isplitl [H0]; · iexact H0
    isplitl [H1]; · iexact H1
    isplitl [H2] <;> iassumption
  · iexact HO

end Cert.KernelIdeal.Combine

end
-- ==== Proof.Total.lean ====
/- The whole output: what every row holds when each tile's chunks hold their sums, and the split of the output's elements
   into the chunks. -/
module

public import proofs.«01_k».proof.Proof.Whole

@[expose] public section

noncomputable section

namespace Cert.KernelIdeal.Combine

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix2 eq_ix1 eq_ix2)

variable {F : FTy → Type}

local notation "𝕄" => MT nD τ sig (HIx 1) (Elt F) ℕ UU ℕ

variable (m : (ℓ : Loc nD τ sig) → Buf (Elt F) ℓ) (d : Dev nD) (i : grid2.Coords) (n : Fin 4)

/-! ## Where the chunks lie -/

/-- A chunk's first token. -/
def tok (i : grid2.Coords) (n : Fin 4) : ℕ := 64 * (2 * (i 1).val + (i 0).val) + 16 * n.val

theorem off1_eq : ∀ (i : grid2.Coords) (n : Fin 4), k2_off1 i (chunkW n) 0 = tok i n := by decide +kernel
theorem off2_eq : ∀ (i : grid2.Coords) (n : Fin 4), k2_off2 i (chunkW n) 0 = 2048 + tok i n := by decide +kernel
theorem off3_eq : ∀ (i : grid2.Coords) (n : Fin 4), k2_off3 i (chunkW n) 0 = tok i n := by decide +kernel
theorem off4_eq : ∀ (i : grid2.Coords) (n : Fin 4), k2_off4 i (chunkW n) 0 = tok i n := by decide +kernel

theorem tok_lt (i : grid2.Coords) (n : Fin 4) (r : Fin 16) : tok i n + r.val < 2048 := by
  have h0 : (i 0).val < 2 := (i 0).isLt
  have h1 : (i 1).val < 16 := (i 1).isLt
  have := n.isLt
  unfold tok; omega

abbrev row (i : grid2.Coords) (n : Fin 4) (r : Fin 16) : Fin 2048 := ⟨tok i n + r.val, tok_lt i n r⟩

/-- A chunk's rows of the output, as indices. -/
abbrev outRect (i : grid2.Coords) (n : Fin 4) : Rect S2048x1024 := Rect.unit (s := S2048x1024) (k2_off4 i (chunkW n)) S16x1024.size (k2_off4_inb i n)

theorem outRect_emb (y : S16x1024.Idx) : (outRect i n).emb y = ix2 (row i n (y 0)) (y 1) := by
  funext a
  refine Fin.ext ?_
  match a with
  | ⟨0, _⟩ =>
    show k2_off4 i (chunkW n) 0 + 1 * (y 0).val = tok i n + (y 0).val
    rw [off4_eq]; omega
  | ⟨1, _⟩ => show 0 + 1 * (y 1).val = (y 1).val; omega

theorem weRectAll_emb (y : S16x32.Idx) :
    (Rect.unit (s := S2048x32) (k2_off3 i (chunkW n)) S16x32.size (k2_off3_inb i n)).emb y = ix2 (row i n (y 0)) (y 1) := by
  funext a
  refine Fin.ext ?_
  match a with
  | ⟨0, _⟩ =>
    show k2_off3 i (chunkW n) 0 + 1 * (y 0).val = tok i n + (y 0).val
    rw [off3_eq]; omega
  | ⟨1, _⟩ => show 0 + 1 * (y 1).val = (y 1).val; omega

/-- The place of a token's position in list `l`. -/
abbrev place (l : Fin 2) (t : Fin 2048) : Fin 4096 := ⟨2048 * l.val + t.val, by have := l.isLt; have := t.isLt; omega⟩

theorem posRect_emb (l : Fin 2) (y : S16.Idx) :
    (Rect.unit (s := S4096) (posOff i n l) S16.size (posInb i n l)).emb y = ValueIdx.ix1 (place l (row i n (y 0))) := by
  funext a
  refine Fin.ext ?_
  match a with
  | ⟨0, _⟩ =>
    match l with
    | 0 =>
      show k2_off1 i (chunkW n) 0 + 1 * (y 0).val = 2048 * 0 + (tok i n + (y 0).val)
      rw [off1_eq]; omega
    | 1 =>
      show k2_off2 i (chunkW n) 0 + 1 * (y 0).val = 2048 * 1 + (tok i n + (y 0).val)
      rw [off2_eq]; omega

/-! ## The whole output -/

/-- The rows list `l` names for all tokens, -/
def rowAll (h : S6144x1024.Idx → Elt F .f32) (p : S4096.Idx → BitVec 32) (l : Fin 2) : FVec F S2048x1024 .f32 := fun x =>
  h (ix2 (tabRow (p (ValueIdx.ix1 (place l (x 0))))) (x 1))

/-- and their weights. -/
def weAll (w : S2048x32.Idx → Elt F .f32) (k : Fin 2) : FVec F S2048x1024 .f32 := fun x =>
  w (ix2 (x 0) ⟨16 * k.val + (x 1).val % 16, by have := k.isLt; omega⟩)

variable [FloatOps F]

/-- The output: each token's two rows weighed and summed, and its shared-expert row added. -/
def total (h : S6144x1024.Idx → Elt F .f32) (g : S2048x1024.Idx → Elt F .f32) (p : S4096.Idx → BitVec 32) (w : S2048x32.Idx → Elt F .f32) :
    FVec F S2048x1024 .f32 :=
  addf (addf (mulf (weAll w 0) (rowAll h p 0)) (mulf (weAll w 1) (rowAll h p 1))) g

/-- The output at the launch's arrays, as a buffer. -/
def totBuf : Buf (Elt F) (oLoc d) := total (m (hLoc d)) (m (gLoc d)) (m (pLoc d)) (m (wLoc d))

theorem posV_apply (l : Fin 2) (y : S16.Idx) : posV m d i n l y = m (pLoc d) (ValueIdx.ix1 (place l (row i n (y 0)))) := by
  rw [← posRect_emb]; rfl

theorem rowVal_apply (l : Fin 2) (y : S16x1024.Idx) : rowVal m d i n l y = rowAll (m (hLoc d)) (m (pLoc d)) l ((outRect i n).emb y) := by
  rw [outRect_emb]
  unfold rowVal rowAll
  rw [posV_apply]; rfl

theorem weB_apply (k : Fin 2) (y : S16x1024.Idx) : weB m d i n k y = weAll (m (wLoc d)) k ((outRect i n).emb y) := by
  rw [outRect_emb]
  unfold weB weAll weV
  refine (show _ = m (wLoc d) ((Rect.unit (s := S2048x32) (k2_off3 i (chunkW n)) S16x32.size (k2_off3_inb i n)).emb _) from rfl).trans ?_
  rw [weRectAll_emb]; rfl

/-- A chunk's sum is its rows of the output. -/
theorem sumVal_eq : sumVal m d i n = (outAt i n).view.read (Elt F) (totBuf m d) := by
  funext y
  refine Eq.trans ?_ (show total (m (hLoc d)) (m (gLoc d)) (m (pLoc d)) (m (wLoc d)) ((outRect i n).emb y) = _ from rfl)
  exact congrArg₂ _ (congrArg₂ _ (congrArg₂ _ (weB_apply m d i n 0 y) (rowVal_apply m d i n 0 y))
    (congrArg₂ _ (weB_apply m d i n 1 y) (rowVal_apply m d i n 1 y))) rfl

end Cert.KernelIdeal.Combine

end
-- ==== Proof.Tile.lean ====
/- The tile's task: from what the launch hands a tile to what it takes back. -/
module

public import proofs.«01_k».proof.Proof.Total

@[expose] public section

noncomputable section

namespace Cert.KernelIdeal.Combine

open Cert.KernelIdeal Cert.KernelIdeal.Gen
open Idealize.ShloMosaic
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

abbrev ΛP : Labels := Pipeline.Sig Λ₀ (Fin 2) fun p => (pcfgs (F := F) p).Adm
abbrev K : SparseCore.Cfg τ sig (ΛP (F := F)) 1 := sc (F := F)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (d : Dev nD) (i : grid2.Coords)

/-! ## The tile's own buffers and semaphores -/

/-- The tile's twelve buffers, -/
def tileRefs : Finset (Ref sig .scVector) :=
  {cc2_scratch0, cc2_scratch1, cc2_scratch2, cc2_scratch3, cc2_scratch4, cc2_scratch5, cc2_scratch6, cc2_scratch7, cc2_scratch8, cc2_scratch9, cc2_scratch10, cc2_scratch11}

/-- and its twelve semaphores. -/
def tileSems : Finset (SemLoc sig) :=
  {.dma cc2_scratch12.sem, .dma cc2_scratch13.sem, .dma cc2_scratch14.sem, .dma cc2_scratch15.sem, .dma cc2_scratch16.sem, .dma cc2_scratch17.sem, .dma cc2_scratch18.sem, .dma cc2_scratch19.sem,
    .dma cc2_scoped0.sem, .dma cc2_scoped1.sem, .dma cc2_scoped2.sem, .dma cc2_scoped3.sem}

/-- A buffer held outright. -/
abbrev OwnRef (b : Ref sig .scVector) : sProp 𝕄 := iprop(∃ f, ((thr d i).loc b) ↦{fullShare} f)

theorem Own_whole (b : Ref sig .scVector) : (Own (F := F) d i (Memref.whole b) : sProp 𝕄) = OwnRef d i b := by
  unfold Own
  rw [show (Memref.whole b).view.set = Finset.univ from View.set_whole _]

/-- A family over a set is the family over the members that `f` names and the family over the rest. -/
theorem bigSep_named {I J : Type} [DecidableEq I] [DecidableEq J] {s : Finset I} {t : Finset J} {f : J → I} (hf : Function.Injective f)
    (hs : ∀ j ∈ t, f j ∈ s) (Φ : I → sProp 𝕄) :
    bigSep s Φ = iprop(bigSep t (fun j => Φ (f j)) ∗ bigSep (s \ t.image f) Φ) := by
  have hsub : t.image f ⊆ s := fun x hx => by
    obtain ⟨j, hj, rfl⟩ := Finset.mem_image.mp hx
    exact hs j hj
  rw [SparseCore.bigSep_sdiff_split' hsub, SparseCore.bigSep_image_of_injOn hf.injOn]

/-- The buffers and semaphores the tile does not use. -/
def restBufs : sProp 𝕄 := bigSep (ownRefs (thr d i).2 \ tileRefs.image fun b => (thr d i).2.devRef b) fun b => iprop(∃ f, ((d, b) : Loc nD τ sig) ↦{fullShare} f)
def restSems : sProp 𝕄 := bigSep (ownCells (thr d i) \ tileSems.image fun s => (thr d i, s)) fun g => semVal g 0

theorem tileBufs_eq : (ownBufs (thr d i) : sProp 𝕄) = iprop(bigSep tileRefs (OwnRef d i) ∗ restBufs d i) := by
  unfold ownBufs restBufs
  refine bigSep_named (t := tileRefs) (f := fun b : Ref sig .scVector => (thr d i).2.devRef b) (Proc.devRef_injective (thr d i).2) ?_ _
  intro r hr
  refine SparseCore.Cfg.mem_ownRefs_of_owner ?_
  simp only [tileRefs, Finset.mem_insert, Finset.mem_singleton] at hr
  rcases hr with rfl | rfl | rfl | rfl | rfl | rfl | rfl | rfl | rfl | rfl | rfl | rfl <;> rfl

theorem tileSems_eq : (ownSems0 (thr d i) : sProp 𝕄) = iprop(bigSep tileSems (fun s => semVal (thr d i, s) 0) ∗ restSems d i) := by
  unfold ownSems0 restSems
  refine bigSep_named (f := fun s : SemLoc sig => (thr d i, s)) (fun a b e => (Prod.mk.inj e).2) ?_ _
  intro s hs
  refine mem_ownCells.mpr ⟨rfl, ?_⟩
  show s.isScoped .scVector = true
  revert s
  decide

theorem refs_list (Φ : Ref sig .scVector → sProp 𝕄) : bigSep tileRefs Φ = iprop(Φ cc2_scratch0 ∗ Φ cc2_scratch1 ∗ Φ cc2_scratch2 ∗ Φ cc2_scratch3
    ∗ Φ cc2_scratch4 ∗ Φ cc2_scratch5 ∗ Φ cc2_scratch6 ∗ Φ cc2_scratch7 ∗ Φ cc2_scratch8 ∗ Φ cc2_scratch9 ∗ Φ cc2_scratch10 ∗ Φ cc2_scratch11) := by
  unfold tileRefs
  iterate 11 rw [SparseCore.bigSep_insert' (by decide)]
  rw [bigSep_singleton]

theorem sems_list (Φ : SemLoc sig → sProp 𝕄) : bigSep tileSems Φ = iprop(Φ (.dma cc2_scratch12.sem) ∗ Φ (.dma cc2_scratch13.sem) ∗ Φ (.dma cc2_scratch14.sem)
    ∗ Φ (.dma cc2_scratch15.sem) ∗ Φ (.dma cc2_scratch16.sem) ∗ Φ (.dma cc2_scratch17.sem) ∗ Φ (.dma cc2_scratch18.sem) ∗ Φ (.dma cc2_scratch19.sem)
    ∗ Φ (.dma cc2_scoped0.sem) ∗ Φ (.dma cc2_scoped1.sem) ∗ Φ (.dma cc2_scoped2.sem) ∗ Φ (.dma cc2_scoped3.sem)) := by
  unfold tileSems
  iterate 11 rw [SparseCore.bigSep_insert' (by decide)]
  rw [bigSep_singleton]

/-! ## Shares and rows -/

theorem pts_halves {ℓ : Loc nD τ sig} (f : Buf (Elt F) ℓ) (q : PosShare TreeShare) :
    (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

/-- A share of the arrays is its two halves. -/
theorem arrays_split (q : PosShare TreeShare) : Arrays m d q ⊢ iprop(Arrays m d q.left ∗ Arrays m d q.right) := by
  unfold Arrays
  rw [pts_halves (m (hLoc d)) q, pts_halves (m (pLoc d)) q, pts_halves (m (wLoc d)) q, pts_halves (m (gLoc d)) q]
  iintro ⟨⟨H, H'⟩, ⟨P, P'⟩, ⟨W, W'⟩, G, G'⟩
  isplitl [H P W G]
  · isplitl [H]; · iexact H
    isplitl [P]; · iexact P
    isplitl [W] <;> iassumption
  · isplitl [H']; · iexact H'
    isplitl [P']; · iexact P'
    isplitl [W'] <;> iassumption

theorem arrays_join (q : PosShare TreeShare) : iprop(Arrays m d q.left ∗ Arrays m d q.right) ⊢ Arrays m d q := by
  unfold Arrays
  rw [pts_halves (m (hLoc d)) q, pts_halves (m (pLoc d)) q, pts_halves (m (wLoc d)) q, pts_halves (m (gLoc d)) q]
  iintro ⟨⟨H, P, W, G⟩, H', P', W', G'⟩
  isplitl [H H']; · isplitl [H] <;> iassumption
  isplitl [P P']; · isplitl [P] <;> iassumption
  isplitl [W W']; · isplitl [W] <;> iassumption
  isplitl [G] <;> iassumption

/-- A chunk's rows of the output at the contents of `f`. -/
abbrev outPts (n : Fin 4) (f : Buf (Elt F) (oLoc d)) : sProp 𝕄 := oLoc d ↦[(outRect i n).set]{fullShare} f

/-- A tile's rows. -/
abbrev outTile (f : Buf (Elt F) (oLoc d)) : sProp 𝕄 :=
  iprop(outPts d i 0 f ∗ outPts d i 1 f ∗ outPts d i 2 f ∗ outPts d i 3 f)

theorem outAt_set (n : Fin 4) : (outAt i n).view.set = (outRect i n).set := by
  show ((View.whole (main_v2_scv : Ref sig .scVector)).slice (outRect i n)).set = _
  rw [View.set_slice]; exact Finset.map_refl

theorem out_own (n : Fin 4) (f : Buf (Elt F) (oLoc d)) : outPts d i n f ⊢ (Own d i (outAt i n) : sProp 𝕄) := by
  unfold Own
  rw [outAt_set]
  iintro H
  iexists f; iexact H

theorem out_holds (n : Fin 4) : (Holds d i (outAt i n) (sumVal m d i n) : sProp 𝕄) ⊢ outPts d i n (totBuf m d) := by
  unfold Holds
  iintro ⟨%f, H, %e⟩
  rw [sumVal_eq] at e
  iapply (Entails.of_eq (show ((outAt i n).view.loc (thr d i) ↦[(outAt i n).view.set]{fullShare} f : sProp 𝕄) = outPts d i n (totBuf m d) from ?_)) $$ H
  unfold outPts
  rw [← outAt_set]
  refine pointsTo_congr fun x hx => ?_
  obtain ⟨y, -, rfl⟩ := Finset.mem_map.mp hx
  exact congrFun e y

/-! ## The task -/

/-- The tile's buffers and semaphores, in the order the two sets use them. -/
theorem sets_idle (qA qB : PosShare TreeShare) (sm : Fin 4 → DmaSems sig S_) (hsm : sm = outSem) :
    iprop(bigSep tileRefs (OwnRef d i) ∗ bigSep tileSems (fun s => semVal (thr d i, s) 0) ∗ Arrays m d qA ∗ Arrays m d qB)
      ⊢ iprop(Idle m d i setA qA ∗ Idle m d i setB qB ∗ Zero d i (sm 0) ∗ Zero d i (sm 1) ∗ Zero d i (sm 2) ∗ Zero d i (sm 3)) := by
  subst hsm
  rw [refs_list, sems_list]
  simp only [← Own_whole]
  unfold Idle
  iintro ⟨⟨B0, B1, B2, B3, B4, B5, B6, B7, B8, B9, B10, B11⟩, ⟨S12, S13, S14, S15, S16, S17, S18, S19, C0, C1, C2, C3⟩, HA, HB⟩
  isplitl [B0 B2 B4 B10 B6 B8 S12 S14 S16 S18 HA]
  · isplitl [B0 B2 B4 B10 B6 B8]
    · isplitl [B0]; · iexact B0
      isplitl [B2]; · iexact B2
      isplitl [B4]; · iexact B4
      isplitl [B10]; · iexact B10
      isplitl [B6]; · iexact B6
      iexact B8
    isplitl [S12 S14 S16 S18]
    · isplitl [S12]; · iexact S12
      isplitl [S14]; · iexact S14
      isplitl [S16]; · iexact S16
      iexact S18
    iexact HA
  isplitl [B1 B3 B5 B11 B7 B9 S13 S15 S17 S19 HB]
  · isplitl [B1 B3 B5 B11 B7 B9]
    · isplitl [B1]; · iexact B1
      isplitl [B3]; · iexact B3
      isplitl [B5]; · iexact B5
      isplitl [B11]; · iexact B11
      isplitl [B7]; · iexact B7
      iexact B9
    isplitl [S13 S15 S17 S19]
    · isplitl [S13]; · iexact S13
      isplitl [S15]; · iexact S15
      isplitl [S17]; · iexact S17
      iexact S19
    iexact HB
  isplitl [C0]; · iexact C0
  isplitl [C1]; · iexact C1
  isplitl [C2]; · iexact C2
  iexact C3

theorem sets_back (qA qB : PosShare TreeShare) (sm : Fin 4 → DmaSems sig S_) (hsm : sm = outSem) :
    iprop(Idle m d i setA qA ∗ Idle m d i setB qB ∗ Zero d i (sm 0) ∗ Zero d i (sm 1) ∗ Zero d i (sm 2) ∗ Zero d i (sm 3))
      ⊢ iprop(bigSep tileRefs (OwnRef d i) ∗ bigSep tileSems (fun s => semVal (thr d i, s) 0) ∗ Arrays m d qA ∗ Arrays m d qB) := by
  subst hsm
  rw [refs_list, sems_list]
  simp only [← Own_whole]
  unfold Idle
  iintro ⟨⟨⟨B0, B2, B4, B10, B6, B8⟩, ⟨S12, S14, S16, S18⟩, HA⟩, ⟨⟨B1, B3, B5, B11, B7, B9⟩, ⟨S13, S15, S17, S19⟩, HB⟩, C0, C1, C2, C3⟩
  isplitl [B0 B1 B2 B3 B4 B5 B6 B7 B8 B9 B10 B11]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact B11
  isplitl [S12 S13 S14 S15 S16 S17 S18 S19 C0 C1 C2 C3]
  · isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [C0]; · iexact C0
    isplitl [C1]; · iexact C1
    isplitl [C2]; · iexact C2
    iexact C3
  isplitl [HA] <;> iassumption

/-- The tile's task: from a share of the arrays and its rows of the output to the same, its rows holding the output's
    values; its buffers and semaphores lent. -/
theorem tile_body (hok : PreOK m d) (q : PosShare TreeShare) (O : CellTallies nD τ sig (HIx 1)) (W : Waits sig (HIx 1)) (hO : ∀ g, O g none = 0) :
    iprop(levAts (K (F := F)).L (K (F := F)).lev ∗ emp ∗ (Arrays m d q ∗ outTile d i (m (oLoc d)))
        ∗ scopedBufs (thr d i) ∗ scopedSems0 (thr d i) ∗ owes (thr d i) O W)
      ⊢ wpT d i (printed i) fun _ => iprop((Arrays m d q ∗ outTile d i (totBuf m d))
          ∗ scopedBufs (thr d i) ∗ scopedSems0 (thr d i) ∗ ∃ W', ⌜∀ p ∈ W', p ∈ W ∨ p.2 = none⌝ ∗ owes (thr d i) O W') := by
  rw [(K (F := F)).scopedBufs_V facts d (cV i) (jV i), SparseCore.Cfg.scopedSems0_V (Val := Elt F) d (cV i) (jV i), tileBufs_eq, tileSems_eq, printed_eq]
  iintro ⟨#Hlv, -, ⟨HA, O0, O1, O2, O3⟩, ⟨Hb, Hbr⟩, ⟨Hs, Hsr⟩, HO⟩
  ihave Hmw := (show levAts (K (F := F)).L (K (F := F)).lev ⊢ Transfers.MayWaits (thr d i) tag O from
    (K (F := F)).mayWaits_none (thr := thr d i) hO) $$ Hlv
  ihave HA' := (arrays_split m d q) $$ HA
  icases HA' with ⟨HA, HB⟩
  ihave Hx := (sets_idle m d i q.left q.right outSem rfl) $$ [Hb Hs HA HB]
  · isplitl [Hb]; · iexact Hb
    isplitl [Hs]; · iexact Hs
    isplitl [HA] <;> iassumption
  icases Hx with ⟨HA, HB, C0, C1, C2, C3⟩
  ihave Hx := (wp_body m d i (O := O) (W := W) hok setA setB outSem q.left q.right) $$ [HA HB O0 O1 O2 O3 C0 C1 C2 C3 Hmw HO]
  · isplitl [HA]; · iexact HA
    isplitl [HB]; · iexact HB
    isplitr [Hmw HO]
    · isplitl [O0 C0]
      · isplitl [O0]
        · iapply (out_own d i 0 _); iexact O0
        · iexact C0
      isplitl [O1 C1]
      · isplitl [O1]
        · iapply (out_own d i 1 _); iexact O1
        · iexact C1
      isplitl [O2 C2]
      · isplitl [O2]
        · iapply (out_own d i 2 _); iexact O2
        · iexact C2
      isplitl [O3]
      · iapply (out_own d i 3 _); iexact O3
      · iexact C3
    unfold Ow
    isplitl [Hmw]; · iexact Hmw
    iexists W
    isplitr [HO]
    · ipureintro; exact fun p hp => .inl hp
    · iexact HO
  iapply (wp_wand frame _ _) $$ Hx
  iintro %_ ⟨HA, HB, ⟨⟨O0, C0⟩, ⟨O1, C1⟩, ⟨O2, C2⟩, O3, C3⟩, HO⟩
  ihave Hx := (sets_back m d i q.left q.right outSem rfl) $$ [HA HB C0 C1 C2 C3]
  · isplitl [HA]; · iexact HA
    isplitl [HB]; · iexact HB
    isplitl [C0]; · iexact C0
    isplitl [C1]; · iexact C1
    isplitl [C2] <;> iassumption
  icases Hx with ⟨Hb, Hs, HA⟩
  isplitl [HA O0 O1 O2 O3]
  · isplitl [HA]; · iapply (arrays_join m d q); iexact HA
    isplitl [O0]; · iapply (out_holds m d i 0); iexact O0
    isplitl [O1]; · iapply (out_holds m d i 1); iexact O1
    isplitl [O2]; · iapply (out_holds m d i 2); iexact O2
    iapply (out_holds m d i 3); iexact O3
  isplitl [Hb Hbr]; · isplitl [Hb] <;> iassumption
  isplitl [Hs Hsr]; · isplitl [Hs] <;> iassumption
  unfold Ow
  icases HO with ⟨-, HO⟩
  iexact HO

end Cert.KernelIdeal.Combine

end
-- ==== Proof.Shared.lean ====
/- The shared expert's call: what its grid points leave in the result, block by block. -/
module

public import proofs.«01_k».proof.Proof.Moves
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Shared

open Cert.KernelIdeal Cert.KernelIdeal.Gen Cert.KernelIdeal.Combine
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (O : Dev nD → CellTallies nD τ sig (HIx 1))

/-! ## The windows' blocks -/

/-- A window's block at a grid point, read off its array. -/
def iblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

theorem before0_of {c : Dev nD} (dat : Dat τ (Elt F) (HIx 1) ℕ UU ℕ cfg0 c) (hA : dat.A 0 = m ((c : Thread nD τ).loc (Pipeline.arrRef spec0 0)))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) (HIx 1) ℕ UU ℕ cfg0 c) (hA : dat.A 1 = m ((c : Thread nD τ).loc (Pipeline.arrRef spec0 1)))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) (HIx 1) ℕ UU ℕ cfg0 c) (hA : dat.A 2 = m ((c : Thread nD τ).loc (Pipeline.arrRef spec0 2)))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) (HIx 1) ℕ UU ℕ cfg0 c) (hA : dat.A 3 = m ((c : Thread nD τ).loc (Pipeline.arrRef spec0 3)))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) (HIx 1) ℕ UU ℕ cfg0 c) (hA : dat.A 4 = m ((c : Thread nD τ).loc (Pipeline.arrRef spec0 4)))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0 : Rect S256x1024 := Rect.unit (s := S256x1024) ![0, 0] S256x1024.size inb_S256x1024_S256x1024_0_0
abbrev r1 : Rect S2048x1024 := Rect.unit (s := S2048x1024) ![0, 0] S2048x1024.size inb_S2048x1024_S2048x1024_0_0
abbrev r2 : Rect S1024x2048 := Rect.unit (s := S1024x2048) ![0, 0] S1024x2048.size inb_S1024x2048_S1024x2048_0_0
abbrev r3 : Rect S1x1024 := Rect.unit (s := S1x1024) ![0, 0] S1x1024.size inb_S1x1024_S1x1024_0_0

/-- What the body leaves in the result's buffer, from the input blocks. -/
def out5 (x0 : Vec F S256x1024 .f32) (x1 : Vec F S2048x1024 .f32) (x2 : Vec F S2048x1024 .f32) (x3 : Vec F S1024x2048 .f32) (x4 : Vec F S1x1024 .f32) : Vec F S256x1024 .f32 :=
  View.canon [⟨r0, k0_pay1 (View.ld x0 r0) (View.ld x1 r1) (View.ld x2 r1) (View.ld x3 r2) (View.ld x4 r3)⟩]

theorem cover5 (p0 : Vec F S256x1024 .f32) (y : S256x1024.Idx) :
    ∃ pc ∈ ([⟨r0, p0⟩] : List (View.Piece (Elt F) S256x1024 .f32)), y ∈ pc.1.set :=
  View.cover_of_tiled [⟨r0, p0⟩] S256x1024.size (by rfl) y

/-! ## The body's triple -/

set_option maxHeartbeats 1000000 in
/-- The body keeps its inputs and leaves `out5` of them in the result's buffer. -/
theorem sound_kernel (c : Dev nD) (E : Set ℕ) (i : grid0.Coords) (arg1 : Memref sig .tc .vmem S256x1024 .f32) (harg1 : arg1.IsWhole) (arg2 : Memref sig .tc .vmem S2048x1024 .f32) (harg2 : arg2.IsWhole) (arg3 : Memref sig .tc .vmem S2048x1024 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S256x1024 .f32) (harg6 : arg6.IsWhole)
    (x0 : Vec F S256x1024 .f32) (x1 : Vec F S2048x1024 .f32) (x2 : Vec F S2048x1024 .f32) (x3 : Vec F S1024x2048 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) 𝒱₀ c none) E (cc0__shared_body i arg1 harg1 arg2 harg2 arg3 harg3 arg4 harg4 arg5 harg5 arg6 harg6) K := by
  simp only [cc0__shared_body_eq_skeleton]; unfold cc0__shared_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The call's proof data -/

/-- What the call keeps beside its windows: the buffers it does not stage and the generator's register. -/
def Keep (c : Dev nD) : sProp 𝕄 := iprop(Pipeline.scopedRest spec0 c ∗ ∃ r, prngReg c r)

/-- The call's data: each input's buffer at its block, the result's at `out5` of the input blocks. -/
def dat (c : Dev nD) : Dat τ (Elt F) (HIx 1) ℕ UU ℕ cfg0 c where
  A w := m ((c : Thread nD τ).loc (Pipeline.arrRef spec0 w))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Keep c
  q _ := fullShare
  owed _ := O c
  recorded _ := {p | p.2 = none}

theorem A_eq (c : Dev nD) (w : Fin cfg0.W) : (dat m O c).A w = m ((c : Thread nD τ).loc (Pipeline.arrRef spec0 w)) := by
  dsimp only [dat]

theorem after0 (c : Dev nD) (t : Fin cfg0.N) : (dat m O c).after 0 t = iblk m c 0 t := by dsimp only [dat]
theorem after1 (c : Dev nD) (t : Fin cfg0.N) : (dat m O c).after 1 t = iblk m c 1 t := by dsimp only [dat]
theorem after2 (c : Dev nD) (t : Fin cfg0.N) : (dat m O c).after 2 t = iblk m c 2 t := by dsimp only [dat]
theorem after3 (c : Dev nD) (t : Fin cfg0.N) : (dat m O c).after 3 t = iblk m c 3 t := by dsimp only [dat]
theorem after4 (c : Dev nD) (t : Fin cfg0.N) : (dat m O c).after 4 t = iblk m c 4 t := by dsimp only [dat]
theorem after5 (c : Dev nD) (t : Fin cfg0.N) : (dat m O c).after 5 t = out5 (iblk m c 0 t) (iblk m c 1 t) (iblk m c 2 t) (iblk m c 3 t) (iblk m c 4 t) := by dsimp only [dat]

theorem before0 (c : Dev nD) (t : Fin cfg0.N) (d) : (dat m O c).before 0 t d = iblk m c 0 t :=
  before0_of m (dat m O c) (A_eq m O c 0) (after0 m O c) t d
theorem before1 (c : Dev nD) (t : Fin cfg0.N) (d) : (dat m O c).before 1 t d = iblk m c 1 t :=
  before1_of m (dat m O c) (A_eq m O c 1) (after1 m O c) t d
theorem before2 (c : Dev nD) (t : Fin cfg0.N) (d) : (dat m O c).before 2 t d = iblk m c 2 t :=
  before2_of m (dat m O c) (A_eq m O c 2) (after2 m O c) t d
theorem before3 (c : Dev nD) (t : Fin cfg0.N) (d) : (dat m O c).before 3 t d = iblk m c 3 t :=
  before3_of m (dat m O c) (A_eq m O c 3) (after3 m O c) t d
theorem before4 (c : Dev nD) (t : Fin cfg0.N) (d) : (dat m O c).before 4 t d = iblk m c 4 t :=
  before4_of m (dat m O c) (A_eq m O c 4) (after4 m O c) t d

/-! ## The body obligation -/

def bodyPre (c : Dev nD) (t : Fin cfg0.N) : sProp 𝕄 :=
  iprop((dat m O c).Φ t.castSucc ∗ (dat m O c).owesAt none t.castSucc
    ∗ (∃ d, owns (c : Thread nD τ) (st0_0 t) fullShare ((dat m O c).before 0 t d))
    ∗ (∃ d, owns (c : Thread nD τ) (st0_1 t) fullShare ((dat m O c).before 1 t d))
    ∗ (∃ d, owns (c : Thread nD τ) (st0_2 t) fullShare ((dat m O c).before 2 t d))
    ∗ (∃ d, owns (c : Thread nD τ) (st0_3 t) fullShare ((dat m O c).before 3 t d))
    ∗ (∃ d, owns (c : Thread nD τ) (st0_4 t) fullShare ((dat m O c).before 4 t d))
    ∗ (∃ d, owns (c : Thread nD τ) (st0_5 t) fullShare ((dat m O c).before 5 t d)))

def bodyPost (c : Dev nD) (t : Fin cfg0.N) : sProp 𝕄 :=
  iprop((dat m O c).Φ t.succ ∗ (dat m O c).owesAt none t.succ
    ∗ owns (c : Thread nD τ) (st0_0 t) fullShare ((dat m O c).after 0 t)
    ∗ owns (c : Thread nD τ) (st0_1 t) fullShare ((dat m O c).after 1 t)
    ∗ owns (c : Thread nD τ) (st0_2 t) fullShare ((dat m O c).after 2 t)
    ∗ owns (c : Thread nD τ) (st0_3 t) fullShare ((dat m O c).after 3 t)
    ∗ owns (c : Thread nD τ) (st0_4 t) fullShare ((dat m O c).after 4 t)
    ∗ owns (c : Thread nD τ) (st0_5 t) fullShare ((dat m O c).after 5 t))

theorem sound_body (c : Dev nD) (t : Fin cfg0.N) :
    bodyPre m O c t ⊢ wp frame (wpE (defs₀ (F := F)) 𝒱₀ c none) Set.univ (bodyAt0 t) (fun _ => bodyPost m O c t) := by
  unfold bodyPre bodyPost bodyAt0
  simp only [before0, before1, before2, before3, before4]
  rw [show (dat m O c).Φ t.succ = (dat m O c).Φ t.castSucc from rfl,
    show (dat m O c).owesAt none t.succ = (dat m O c).owesAt none t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := rfl

theorem body_obligation (c : Dev nD) : BodyObligation (dat (F := F) m O c) (defs₀ (F := F)) 𝒱₀ none Set.univ := fun t => by
  rw [bigSep_W0, bigSep_W0, defs₀_row]
  exact triple_restated (sound_body m O c t) rfl .rfl fun _ => .rfl

/-! ## The result after the call, block by block -/

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- The result array after the call. -/
def gsBuf (c : Dev nD) : Buf (Elt F) ((c : Thread nD τ).loc main_v0) := (dat m O c).arrAt 5 cfg0.N

/-- Its block at a point is what the body left there. -/
theorem gs_blocks (c : Dev nD) (t : Fin cfg0.N) (hf : (cfg0.win 5).flush t = true) :
    ((cfg0.win 5).blk t).view.read (Elt F) (gsBuf m O c)
      = (cfg0.win 5).cut (grid0.coords t) (out5 (iblk m c 0 t) (iblk m c 1 t) (iblk m c 2 t) (iblk m c 3 t) (iblk m c 4 t)) := by
  refine ((dat m O c).read_blk_arrAt_eq_flushed 5 disjoint5 cfg0.N t t.isLt hf).trans ?_
  show (cfg0.win 5).cut (grid0.coords t) ((dat m O c).after 5 t) = _
  rw [after5]

end Cert.KernelIdeal.Shared

end
-- ==== Proof.Group.lean ====
/- The routed experts' call: what its grid points leave in the blocks of the hidden rows. -/
module

public import proofs.«01_k».proof.Proof.Moves
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.DatRel
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Group

open Cert.KernelIdeal Cert.KernelIdeal.Gen Cert.KernelIdeal.Combine
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄" => MT nD τ sig (HIx 1) (Elt F) ℕ UU ℕ

variable (a : (pcfg1 (F := F)).Adm) (m : (ℓ : Loc nD τ sig) → Buf (Elt F) ℓ) (O : Dev nD → CellTallies nD τ sig (HIx 1))

/-! ## The windows' blocks -/

/-- A window's block at a grid point, read off its array. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (m (((cfg1 a).win w).arr.view.loc (c : Thread nD τ)))

theorem before0_of {c : Dev nD} (dat : Dat τ (Elt F) (HIx 1) ℕ UU ℕ (cfg1 a) c) (hA : dat.A (0 : Fin 5) = m (((cfg1 a).win (0 : Fin 5)).arr.view.loc (c : Thread nD τ)))
    (hafter : ∀ t, dat.after (0 : Fin 5) t = iblk a m c (0 : Fin 5) t) (t : Fin (cfg1 a).N) (d) : dat.before (0 : Fin 5) t d = iblk a m c (0 : Fin 5) t :=
  (dat.before_in_eq_fetched (0 : Fin 5) rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) (HIx 1) ℕ UU ℕ (cfg1 a) c) (hA : dat.A (1 : Fin 5) = m (((cfg1 a).win (1 : Fin 5)).arr.view.loc (c : Thread nD τ)))
    (hafter : ∀ t, dat.after (1 : Fin 5) t = iblk a m c (1 : Fin 5) t) (t : Fin (cfg1 a).N) (d) : dat.before (1 : Fin 5) t d = iblk a m c (1 : Fin 5) t :=
  (dat.before_in_eq_fetched (1 : Fin 5) rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) (HIx 1) ℕ UU ℕ (cfg1 a) c) (hA : dat.A (2 : Fin 5) = m (((cfg1 a).win (2 : Fin 5)).arr.view.loc (c : Thread nD τ)))
    (hafter : ∀ t, dat.after (2 : Fin 5) t = iblk a m c (2 : Fin 5) t) (t : Fin (cfg1 a).N) (d) : dat.before (2 : Fin 5) t d = iblk a m c (2 : Fin 5) t :=
  (dat.before_in_eq_fetched (2 : Fin 5) rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) (HIx 1) ℕ UU ℕ (cfg1 a) c) (hA : dat.A (3 : Fin 5) = m (((cfg1 a).win (3 : Fin 5)).arr.view.loc (c : Thread nD τ)))
    (hafter : ∀ t, dat.after (3 : Fin 5) t = iblk a m c (3 : Fin 5) t) (t : Fin (cfg1 a).N) (d) : dat.before (3 : Fin 5) t d = iblk a m c (3 : Fin 5) t :=
  (dat.before_in_eq_fetched (3 : Fin 5) rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0 : Rect S256x1024 := Rect.unit (s := S256x1024) ![0, 0] S256x1024.size inb_S256x1024_S256x1024_0_0
abbrev r1 : Rect S1x768x1024 := Rect.unit (s := S1x768x1024) ![0, 0, 0] S1x768x1024.size inb_S1x768x1024_S1x768x1024_0_0_0
abbrev r3 : Rect S1x1024x768 := Rect.unit (s := S1x1024x768) ![0, 0, 0] S1x1024x768.size inb_S1x1024x768_S1x1024x768_0_0_0

/-- What the body leaves in the result's buffer at a block in use, from the input blocks. -/
def out4 (x0 : Vec F S256x1024 .f32) (x1 : Vec F S1x768x1024 .f32) (x2 : Vec F S1x768x1024 .f32) (x3 : Vec F S1x1024x768 .f32) : Vec F S256x1024 .f32 :=
  View.canon [⟨r0, k1_pay1 (View.ld x0 r0) (View.ld x1 r1) (View.ld x2 r1) (View.ld x3 r3)⟩]

theorem cover4 (p0 : Vec F S256x1024 .f32) (y : S256x1024.Idx) :
    ∃ pc ∈ ([⟨r0, p0⟩] : List (View.Piece (Elt F) S256x1024 .f32)), y ∈ pc.1.set :=
  View.cover_of_tiled [⟨r0, p0⟩] S256x1024.size (by rfl) y

/-- The tables as the body is handed them. -/
abbrev tb0 : Memref sig .tc .smem S128 .i32 := Memref.whole main_arg9
abbrev tb1 : Memref sig .tc .smem S8 .i32 := Memref.whole main_arg10

/-- The number of blocks in use, as the body reads it. -/
abbrev used (T1 : main_arg10.ty.Contents (Elt F)) : BitVec 32 :=
  View.readAt (Elt F) tb1.view (Rect.unit (s := S8) ![0] S1.size inb_S8_S1_0).toLoadRect T1 (Shape.Idx.first (numel1_S1.symm ▸ Nat.one_pos))

/-! ## The body's triple -/

set_option maxHeartbeats 2000000 in
/-- The body keeps its inputs and the tables; at a block in use it leaves `out4` of the inputs in the result's buffer. -/
theorem sound_kernel (c : Dev nD) (E : Set ℕ) (i : grid1.Coords) (arg3 : Memref sig .tc .vmem S256x1024 .f32) (harg3 : arg3.IsWhole) (arg4 : Memref sig .tc .vmem S1x768x1024 .f32) (harg4 : arg4.IsWhole) (arg5 : Memref sig .tc .vmem S1x768x1024 .f32) (harg5 : arg5.IsWhole) (arg6 : Memref sig .tc .vmem S1x1024x768 .f32) (harg6 : arg6.IsWhole) (arg7 : Memref sig .tc .vmem S256x1024 .f32) (harg7 : arg7.IsWhole)
    (x0 : Vec F S256x1024 .f32) (x1 : Vec F S1x768x1024 .f32) (x2 : Vec F S1x768x1024 .f32) (x3 : Vec F S1x1024x768 .f32) (T0 : main_arg9.ty.Contents (Elt F)) (T1 : main_arg10.ty.Contents (Elt F)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ ((c : Thread nD τ).loc main_arg9 ↦{fullShare} T0) ∗ ((c : Thread nD τ).loc main_arg10 ↦{fullShare} T1) ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ ((c : Thread nD τ).loc main_arg9 ↦{fullShare} T0) ∗ ((c : Thread nD τ).loc main_arg10 ↦{fullShare} T1)
            ∗ ∃ X, ⌜k1_cond1 i (used T1) = 1#1 → X = out4 x0 x1 x2 x3⌝ ∗ owns (c : Thread nD τ) arg7 fullShare X) -∗ K ⟨⟩))
      ⊢ wp frame (wpE (defs₀ (F := F)) 𝒱₀ c none) E (cc1__group_body i tb0 (Memref.isWhole_whole _) tb1 (Memref.isWhole_whole _) arg3 harg3 arg4 harg4 arg5 harg5 arg6 harg6 arg7 harg7) K := by
  have hT0 : tb0.IsWhole := Memref.isWhole_whole _
  have hT1 : tb1.IsWhole := Memref.isWhole_whole _
  rw [cc1__group_body_eq_skeleton]; unfold cc1__group_body_skel
  change iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare} T0) ∗ (tb1.view.loc (c : Thread nD τ) ↦{fullShare} T1) ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare} T0) ∗ (tb1.view.loc (c : Thread nD τ) ↦{fullShare} T1)
            ∗ ∃ X, ⌜k1_cond1 i (used T1) = 1#1 → X = out4 x0 x1 x2 x3⌝ ∗ owns (c : Thread nD τ) arg7 fullShare X) -∗ K ⟨⟩)) ⊢ _
  by_cases k1_h1 : k1_cond1 i (used T1) = 1#1
  all_goals
    unfold owns
    iintro ⟨⟨%f0, %hf0, H0⟩, ⟨%f1, %hf1, H1⟩, ⟨%f2, %hf2, H2⟩, ⟨%f3, %hf3, H3⟩, HT0, HT1, ⟨%d4, %f4, %hf4, H4⟩, Hk⟩
    subst hf0 hf1 hf2 hf3
    sl_exec! (disch := exact k1_h1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [HT0]; · iexact HT0
    isplitl [HT1]; · iexact HT1
  · iexists _; isplitr
    swap
    · iexists _; isplitr
      swap; · iexact H4
      ipureintro; rfl
    ipureintro
    exact fun _ => View.read_writes_eq_canon _ _ _ (cover4 _)
  · iexists d4; isplitr
    · ipureintro; exact fun h => absurd h k1_h1
    iexists f4; isplitr
    · ipureintro; exact hf4
    iexact H4

/-! ## The call's proof data -/

/-- What the call keeps beside its windows: the buffers it does not stage, the generator's register and the tables. -/
def Keep (c : Dev nD) : sProp 𝕄 :=
  iprop((Pipeline.scopedRest spec1 c ∗ ∃ r, prngReg c r) ∗ Pipeline.prefHeld pre1 c (fun _ => fullShare) a.1)

theorem tables_eq (c : Dev nD) (v : pre1.Contents (Elt F)) :
    (Pipeline.prefHeld pre1 c (fun _ => fullShare) v : sProp 𝕄)
      = iprop(((c : Thread nD τ).loc main_arg9 ↦{fullShare} v 0) ∗ ((c : Thread nD τ).loc main_arg10 ↦{fullShare} v 1)) := by
  unfold Pipeline.prefHeld
  exact bigSep_univ_eq_bigSepL [(0 : Fin 2), (1 : Fin 2)] (by decide) (by decide) _

/-- The call's data before its result's window is loosened: each input's buffer at its block. -/
def dat (c : Dev nD) : Dat τ (Elt F) (HIx 1) ℕ UU ℕ (cfg1 a) c where
  A w := m (((cfg1 a).win w).arr.view.loc (c : Thread nD τ))
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => out4 (iblk a m c (0 : Fin 5) t) (iblk a m c (1 : Fin 5) t) (iblk a m c (2 : Fin 5) t) (iblk a m c (3 : Fin 5) t)
  Φ _ := Keep a c
  q _ := fullShare
  owed _ := O c
  recorded _ := {p | p.2 = none}

/-- The result's window alone is loosened, -/
def loosened : Fin (cfg1 a).W → Bool := fun w => match w with | ⟨4, _⟩ => true | ⟨_, _⟩ => false

/-- to what holds of it: at a block in use, `out4` of the input blocks. -/
def Rl (c : Dev nD) : (w : Fin (cfg1 a).W) → Fin (cfg1 a).N → (((cfg1 a).win w).block.Idx → Elt F ((cfg1 a).win w).elt) → Prop :=
  fun w t X => match w, X with
    | ⟨4, _⟩, X => k1_cond1 (grid1.coords t) (used (a.1 1)) = 1#1 → X = out4 (iblk a m c (0 : Fin 5) t) (iblk a m c (1 : Fin 5) t) (iblk a m c (2 : Fin 5) t) (iblk a m c (3 : Fin 5) t)
    | ⟨_, _⟩, _ => True

/-- The call's data. -/
def rdat (c : Dev nD) : RDat τ (Elt F) (HIx 1) ℕ UU ℕ (cfg1 a) c := (dat a m O c).toRRel (loosened a) (Rl a m c)

theorem A_eq (c : Dev nD) (w : Fin (cfg1 a).W) : (dat a m O c).A w = m (((cfg1 a).win w).arr.view.loc (c : Thread nD τ)) := by
  dsimp only [dat]

theorem after0 (c : Dev nD) (t : Fin (cfg1 a).N) : (dat a m O c).after (0 : Fin 5) t = iblk a m c (0 : Fin 5) t := rfl
theorem after1 (c : Dev nD) (t : Fin (cfg1 a).N) : (dat a m O c).after (1 : Fin 5) t = iblk a m c (1 : Fin 5) t := rfl
theorem after2 (c : Dev nD) (t : Fin (cfg1 a).N) : (dat a m O c).after (2 : Fin 5) t = iblk a m c (2 : Fin 5) t := rfl
theorem after3 (c : Dev nD) (t : Fin (cfg1 a).N) : (dat a m O c).after (3 : Fin 5) t = iblk a m c (3 : Fin 5) t := rfl
theorem before0 (c : Dev nD) (t : Fin (cfg1 a).N) (d) : (dat a m O c).before (0 : Fin 5) t d = iblk a m c (0 : Fin 5) t :=
  before0_of a m (dat a m O c) (A_eq a m O c (0 : Fin 5)) (after0 a m O c) t d
theorem before1 (c : Dev nD) (t : Fin (cfg1 a).N) (d) : (dat a m O c).before (1 : Fin 5) t d = iblk a m c (1 : Fin 5) t :=
  before1_of a m (dat a m O c) (A_eq a m O c (1 : Fin 5)) (after1 a m O c) t d
theorem before2 (c : Dev nD) (t : Fin (cfg1 a).N) (d) : (dat a m O c).before (2 : Fin 5) t d = iblk a m c (2 : Fin 5) t :=
  before2_of a m (dat a m O c) (A_eq a m O c (2 : Fin 5)) (after2 a m O c) t d
theorem before3 (c : Dev nD) (t : Fin (cfg1 a).N) (d) : (dat a m O c).before (3 : Fin 5) t d = iblk a m c (3 : Fin 5) t :=
  before3_of a m (dat a m O c) (A_eq a m O c (3 : Fin 5)) (after3 a m O c) t d

/-! ## The body obligation -/

abbrev ms0 (t : Fin (cfg1 a).N) : Memref sig .tc .vmem S256x1024 .f32 := spec1_0.stage ((cfg1 a).slots t (0 : Fin 5))
abbrev hs0 (t : Fin (cfg1 a).N) : (ms0 a t).IsWhole := hstage1_0 (((cfg1 a).slots t (0 : Fin 5)).cast nbuf1_0)
abbrev ms1 (t : Fin (cfg1 a).N) : Memref sig .tc .vmem S1x768x1024 .f32 := spec1_1.stage ((cfg1 a).slots t (1 : Fin 5))
abbrev hs1 (t : Fin (cfg1 a).N) : (ms1 a t).IsWhole := hstage1_1 (((cfg1 a).slots t (1 : Fin 5)).cast nbuf1_1)
abbrev ms2 (t : Fin (cfg1 a).N) : Memref sig .tc .vmem S1x768x1024 .f32 := spec1_2.stage ((cfg1 a).slots t (2 : Fin 5))
abbrev hs2 (t : Fin (cfg1 a).N) : (ms2 a t).IsWhole := hstage1_2 (((cfg1 a).slots t (2 : Fin 5)).cast nbuf1_2)
abbrev ms3 (t : Fin (cfg1 a).N) : Memref sig .tc .vmem S1x1024x768 .f32 := spec1_3.stage ((cfg1 a).slots t (3 : Fin 5))
abbrev hs3 (t : Fin (cfg1 a).N) : (ms3 a t).IsWhole := hstage1_3 (((cfg1 a).slots t (3 : Fin 5)).cast nbuf1_3)
abbrev ms4 (t : Fin (cfg1 a).N) : Memref sig .tc .vmem S256x1024 .f32 := spec1_4.stage ((cfg1 a).slots t (4 : Fin 5))
abbrev hs4 (t : Fin (cfg1 a).N) : (ms4 a t).IsWhole := hstage1_4 (((cfg1 a).slots t (4 : Fin 5)).cast nbuf1_4)

theorem sound_body (c : Dev nD) (t : Fin (cfg1 a).N) :
    iprop((dat a m O c).Φ t.castSucc ∗ (dat a m O c).owesAt none t.castSucc
        ∗ (∃ d, owns (c : Thread nD τ) (ms0 a t) fullShare ((dat a m O c).before (0 : Fin 5) t d))
        ∗ (∃ d, owns (c : Thread nD τ) (ms1 a t) fullShare ((dat a m O c).before (1 : Fin 5) t d))
        ∗ (∃ d, owns (c : Thread nD τ) (ms2 a t) fullShare ((dat a m O c).before (2 : Fin 5) t d))
        ∗ (∃ d, owns (c : Thread nD τ) (ms3 a t) fullShare ((dat a m O c).before (3 : Fin 5) t d))
        ∗ (∃ Y, ⌜((dat a m O c).toRRel (loosened a) (Rl a m c)).Finds (4 : Fin 5) t Y⌝ ∗ owns (c : Thread nD τ) (ms4 a t) fullShare Y))
      ⊢ wp frame (wpE (defs₀ (F := F)) 𝒱₀ c none) Set.univ
          (cc1__group_body (grid1.coords t) tb0 (Memref.isWhole_whole _) tb1 (Memref.isWhole_whole _) (ms0 a t) (hs0 a t) (ms1 a t) (hs1 a t) (ms2 a t) (hs2 a t) (ms3 a t) (hs3 a t) (ms4 a t) (hs4 a t)) fun _ =>
          iprop((dat a m O c).Φ t.succ ∗ (dat a m O c).owesAt none t.succ
            ∗ owns (c : Thread nD τ) (ms0 a t) fullShare ((dat a m O c).after (0 : Fin 5) t)
            ∗ owns (c : Thread nD τ) (ms1 a t) fullShare ((dat a m O c).after (1 : Fin 5) t)
            ∗ owns (c : Thread nD τ) (ms2 a t) fullShare ((dat a m O c).after (2 : Fin 5) t)
            ∗ owns (c : Thread nD τ) (ms3 a t) fullShare ((dat a m O c).after (3 : Fin 5) t)
            ∗ (∃ X, ⌜Rl a m c (4 : Fin 5) t X⌝ ∗ owns (c : Thread nD τ) (ms4 a t) fullShare X)) := by
  simp only [before0, before1, before2, before3]
  rw [show (dat a m O c).Φ t.succ = Keep a c from rfl, show (dat a m O c).Φ t.castSucc = Keep a c from rfl,
    show (dat a m O c).owesAt none t.succ = (dat a m O c).owesAt none t.castSucc from rfl,
    after0, after1, after2, after3]
  unfold Keep
  rw [tables_eq]
  iintro ⟨⟨HΦ, HT0, HT1⟩, Ho, ⟨%d0, H0⟩, ⟨%d1, H1⟩, ⟨%d2, H2⟩, ⟨%d3, H3⟩, ⟨%d4, -, H4⟩⟩
  iapply (sound_kernel c Set.univ (grid1.coords t) _ _ _ _ _ _ _ _ _ _ (iblk a m c (0 : Fin 5) t) (iblk a m c (1 : Fin 5) t) (iblk a m c (2 : Fin 5) t) (iblk a m c (3 : Fin 5) t) (a.1 0) (a.1 1) _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  iintro ⟨H0, H1, H2, H3, HT0, HT1, ⟨%X, %hX, H4⟩⟩
  isplitl [HΦ HT0 HT1]
  · isplitl [HΦ]; · iexact HΦ
    isplitl [HT0] <;> iassumption
  isplitl [Ho]; · iexact Ho
  isplitl [H0]; · iexact H0
  isplitl [H1]; · iexact H1
  isplitl [H2]; · iexact H2
  isplitl [H3]; · iexact H3
  iexists X; isplitr
  · ipureintro; exact hX
  iexact H4

theorem body_obligation_rel (c : Dev nD) : BodyObligationRel (dat (F := F) a m O c) (defs₀ (F := F)) 𝒱₀ none Set.univ (loosened a) (Rl a m c) := fun t => by
  rw [bigSep_W1, bigSep_W1]
  exact sound_body a m O c t

theorem body_obligation (c : Dev nD) : (rdat (F := F) a m O c).BodyObligation (defs₀ (F := F)) 𝒱₀ none Set.univ :=
  (body_obligation_rel a m O c).toRRel

/-! ## The hidden rows after the call, block by block -/

theorem idx_inj4 : ∀ t t' : Fin grid1.N, cc1_transform_4 (grid1.coords t) = cc1_transform_4 (grid1.coords t') → t = t' := by decide +kernel

theorem disjoint4 (t t' : Fin (cfg1 a).N) (hne : t ≠ t') :
    Disjoint (((cfg1 a).win (4 : Fin 5)).blk t).view.set (((cfg1 a).win (4 : Fin 5)).blk t').view.set :=
  ((cfg1 a).win (4 : Fin 5)).disjoint_blk fun h => hne (idx_inj4 t t' h)

theorem flush4 (t : Fin (cfg1 a).N) : ((cfg1 a).win (4 : Fin 5)).flush t = true := by
  unfold Pipeline.Window.flush
  rw [show ((cfg1 a).win (4 : Fin 5)).isOut = true from rfl, Bool.true_and, Bool.or_eq_true, decide_eq_true_eq, decide_eq_true_eq]
  by_cases h : t.val + 1 = grid1.N
  · exact Or.inl h
  · refine Or.inr ⟨lt_of_le_of_ne t.isLt h, fun e => ?_⟩
    have e' := congrArg Fin.val (idx_inj4 _ _ e)
    simp at e'

/-- The blocks in use hold what the body leaves there. -/
def Good (c : Dev nD) (G : Buf (Elt F) ((c : Thread nD τ).loc main_v1)) : Prop :=
  ∀ t : Fin (cfg1 a).N, k1_cond1 (grid1.coords t) (used (a.1 1)) = 1#1 →
    (((cfg1 a).win (4 : Fin 5)).blk t).view.read (Elt F) G
      = ((cfg1 a).win (4 : Fin 5)).cut (grid1.coords t) (out4 (iblk a m c (0 : Fin 5) t) (iblk a m c (1 : Fin 5) t) (iblk a m c (2 : Fin 5) t) (iblk a m c (3 : Fin 5) t))

theorem arr_blocks (c : Dev nD) (n : ℕ) (hn : n ≤ (cfg1 a).N) (G : Buf (Elt F) ((c : Thread nD τ).loc main_v1)) (hG : (rdat a m O c).ArrAt (4 : Fin 5) n G) :
    ∀ t : Fin (cfg1 a).N, t.val < n → k1_cond1 (grid1.coords t) (used (a.1 1)) = 1#1 →
    (((cfg1 a).win (4 : Fin 5)).blk t).view.read (Elt F) G
      = ((cfg1 a).win (4 : Fin 5)).cut (grid1.coords t) (out4 (iblk a m c (0 : Fin 5) t) (iblk a m c (1 : Fin 5) t) (iblk a m c (2 : Fin 5) t) (iblk a m c (3 : Fin 5) t)) := by
  induction n generalizing G with
  | zero => exact fun t h => absurd h (Nat.not_lt_zero _)
  | succ n ih =>
    intro t ht hc
    have hs := (rdat a m O c).ArrAt_succ (4 : Fin 5) ⟨n, hn⟩
    rw [show (⟨n, hn⟩ : Fin (cfg1 a).N).val + 1 = n + 1 from rfl, if_pos (flush4 a _)] at hs
    rw [hs] at hG
    obtain ⟨G₀, X, hG₀, hX, rfl⟩ := hG
    by_cases e : t.val = n
    · obtain rfl : t = ⟨n, hn⟩ := Fin.ext e
      rw [View.read_write_univ]
      have hX' : Rl a m c (4 : Fin 5) ⟨n, hn⟩ X := (dat a m O c).toRRel_leaves rfl hX
      rw [show X = _ from hX' hc]
    · rw [← ih (Nat.le_of_lt hn) G₀ hG₀ t (by omega) hc]
      funext x
      refine congrArg (cast _) ?_
      refine View.write_of_not_mem _ _ _ fun hmem => ?_
      rw [View.setOn_univ] at hmem
      exact Finset.disjoint_left.mp (disjoint4 a t ⟨n, hn⟩ fun h => e (congrArg Fin.val h)) (View.emb_mem_set _ _) hmem

theorem good_of_arrAt (c : Dev nD) (G : Buf (Elt F) ((c : Thread nD τ).loc main_v1)) (hG : (rdat a m O c).ArrAt (4 : Fin 5) (cfg1 a).N G) : Good a m c G :=
  fun t => arr_blocks a m O c _ le_rfl G hG t t.isLt

end Cert.KernelIdeal.Group

end
-- ==== Proof.Regions.lean ====
/- The two calls on the TensorCore, each from its arrays to what it leaves in its result, and both in order. -/
module

public import proofs.«01_k».proof.Proof.Tile
public import proofs.«01_k».proof.Proof.Shared
public import proofs.«01_k».proof.Proof.Group
public import Idealize.ShloMosaic.Lib.Pipeline.Regions
public import Idealize.ShloMosaic.Lib.Pipeline.RegionArrays
public import Idealize.ShloMosaic.Lib.SparseCore.Quiescent

@[expose] public section

set_option maxRecDepth 16384

noncomputable section

namespace Cert.KernelIdeal.Combine

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat PCfg Prefetch)

variable {F : FTy → Type} [FloatOps F]

local notation "𝕄" => MT nD τ sig (HIx 1) (Elt F) ℕ UU ℕ

/-- Where the calls' own rounds live in the ghost state. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

variable (a : (pcfg1 (F := F)).Adm) (m : (ℓ : Loc nD τ sig) → Buf (Elt F) ℓ)

/-- What the TensorCore owes before the call on the SparseCores. -/
def O₀ : Dev nD → CellTallies nD τ sig (HIx 1) := fun d => (K (F := F)).Otc d 0

theorem O₀_none (d : Dev nD) (g : GSem nD τ sig) : O₀ (F := F) d g none = 0 := by
  by_contra h
  have := SparseCore.Cfg.lev_of_Otc_pos (K := K (F := F)) (d := d) (n := 0) (Nat.pos_of_ne_zero h)
  rw [SparseCore.Cfg.lev_none] at this; omega

/-- The calls' tables: the first has none, the second's are `a`. -/
def adm : (p : Fin 2) → (pcfgs (F := F) p).Adm := fun
  | ⟨0, _⟩ => ⟨Prefetch.Contents.none, trivial⟩
  | ⟨1, _⟩ => a
  | ⟨_ + 2, h⟩ => absurd h (Nat.not_lt.2 (Nat.le_add_left _ _))

/-- The calls' data. -/
def rdats : (p : Fin 2) → (c : Dev nD) → RDat τ (Elt F) (HIx 1) ℕ UU ℕ (Pipeline.pin (pcfgs (F := F)) (adm a) p) c := fun
  | ⟨0, _⟩ => fun c => (Shared.dat m (O₀ (F := F)) c).toR
  | ⟨1, _⟩ => fun c => Group.rdat a m (O₀ (F := F)) c
  | ⟨_ + 2, h⟩ => absurd h (Nat.not_lt.2 (Nat.le_add_left _ _))

/-- What the TensorCore owes, its waits so far none of the handshakes'. -/
abbrev owing (c : Dev nD) : sProp 𝕄 := iprop(∃ W, ⌜∀ p ∈ W, p.2 = none⌝ ∗ owes (c : Thread nD τ) (O₀ (F := F) c) W)

/-- The first call's arrays, its result at `g`. -/
abbrev arrs0 (c : Dev nD) (g : Buf (Elt F) ((c : Thread nD τ).loc main_v0)) : sProp 𝕄 :=
  iprop(((c : Thread nD τ).loc main_arg0 ↦{fullShare} m ((c : Thread nD τ).loc main_arg0)) ∗ ((c : Thread nD τ).loc main_arg1 ↦{fullShare} m ((c : Thread nD τ).loc main_arg1))
    ∗ ((c : Thread nD τ).loc main_arg2 ↦{fullShare} m ((c : Thread nD τ).loc main_arg2)) ∗ ((c : Thread nD τ).loc main_arg3 ↦{fullShare} m ((c : Thread nD τ).loc main_arg3))
    ∗ ((c : Thread nD τ).loc main_arg4 ↦{fullShare} m ((c : Thread nD τ).loc main_arg4)) ∗ ((c : Thread nD τ).loc main_v0 ↦{fullShare} g))

/-- The second call's arrays, its result at `g`. -/
abbrev arrs1 (c : Dev nD) (g : Buf (Elt F) ((c : Thread nD τ).loc main_v1)) : sProp 𝕄 :=
  iprop(((c : Thread nD τ).loc main_arg5 ↦{fullShare} m ((c : Thread nD τ).loc main_arg5)) ∗ ((c : Thread nD τ).loc main_arg6 ↦{fullShare} m ((c : Thread nD τ).loc main_arg6))
    ∗ ((c : Thread nD τ).loc main_arg7 ↦{fullShare} m ((c : Thread nD τ).loc main_arg7)) ∗ ((c : Thread nD τ).loc main_arg8 ↦{fullShare} m ((c : Thread nD τ).loc main_arg8))
    ∗ ((c : Thread nD τ).loc main_v1 ↦{fullShare} g))

theorem pts_view (c : Dev nD) (b : Ref sig .tc) (f : Buf (Elt F) ((Memref.whole b).view.loc (c : Thread nD τ))) :
    ((Memref.whole b).view.loc (c : Thread nD τ) ↦[(Memref.whole b).view.set]{fullShare} f : sProp 𝕄) = ((c : Thread nD τ).loc b ↦{fullShare} f) := by
  rw [show (Memref.whole b).view.set = Finset.univ from View.set_whole b]

theorem arrays0_eq (c : Dev nD) (G : (w : Fin cfg0.W) → Buf (Elt F) ((cfg0.win w).arr.view.loc (c : Thread nD τ))) :
    ((Shared.dat m (O₀ (F := F)) c).arrays G : sProp 𝕄)
      = iprop(((c : Thread nD τ).loc main_arg0 ↦{fullShare} G 0) ∗ ((c : Thread nD τ).loc main_arg1 ↦{fullShare} G 1) ∗ ((c : Thread nD τ).loc main_arg2 ↦{fullShare} G 2)
        ∗ ((c : Thread nD τ).loc main_arg3 ↦{fullShare} G 3) ∗ ((c : Thread nD τ).loc main_arg4 ↦{fullShare} G 4) ∗ ((c : Thread nD τ).loc main_v0 ↦{fullShare} G 5)) := by
  unfold Dat.arrays
  rw [bigSep_W0]
  rw [← pts_view c main_arg0, ← pts_view c main_arg1, ← pts_view c main_arg2, ← pts_view c main_arg3, ← pts_view c main_arg4, ← pts_view c main_v0]
  rfl

theorem arrays1_eq (c : Dev nD) (G : (w : Fin (cfg1 a).W) → Buf (Elt F) (((cfg1 a).win w).arr.view.loc (c : Thread nD τ))) :
    ((Group.rdat a m (O₀ (F := F)) c).arrays G : sProp 𝕄)
      = iprop(((c : Thread nD τ).loc main_arg5 ↦{fullShare} G (0 : Fin 5)) ∗ ((c : Thread nD τ).loc main_arg6 ↦{fullShare} G (1 : Fin 5)) ∗ ((c : Thread nD τ).loc main_arg7 ↦{fullShare} G (2 : Fin 5))
        ∗ ((c : Thread nD τ).loc main_arg8 ↦{fullShare} G (3 : Fin 5)) ∗ ((c : Thread nD τ).loc main_v1 ↦{fullShare} G (4 : Fin 5))) := by
  unfold RDat.arrays
  rw [bigSep_W1]
  rw [← pts_view c main_arg5, ← pts_view c main_arg6, ← pts_view c main_arg7, ← pts_view c main_arg8, ← pts_view c main_v1]
  rfl

theorem arraysAt1_out (c : Dev nD) :
    ((Group.rdat a m (O₀ (F := F)) c).arraysAt (cfg1 a).N : sProp 𝕄) ⊢ iprop(∃ g, ⌜Group.Good a m c g⌝ ∗ arrs1 m c g) := by
  unfold RDat.arraysAt
  rw [bigSep_W1]
  iintro ⟨⟨%f0, %h0, H0⟩, ⟨%f1, %h1, H1⟩, ⟨%f2, %h2, H2⟩, ⟨%f3, %h3, H3⟩, ⟨%f4, %h4, H4⟩⟩
  have e0 := cast (congrFun ((Group.rdat a m (O₀ (F := F)) c).ArrAt_in (0 : Fin 5) rfl (cfg1 a).N) f0) h0
  have e1 := cast (congrFun ((Group.rdat a m (O₀ (F := F)) c).ArrAt_in (1 : Fin 5) rfl (cfg1 a).N) f1) h1
  have e2 := cast (congrFun ((Group.rdat a m (O₀ (F := F)) c).ArrAt_in (2 : Fin 5) rfl (cfg1 a).N) f2) h2
  have e3 := cast (congrFun ((Group.rdat a m (O₀ (F := F)) c).ArrAt_in (3 : Fin 5) rfl (cfg1 a).N) f3) h3
  subst e0 e1 e2 e3
  iexists f4
  isplitr; · ipureintro; exact Group.good_of_arrAt a m (O₀ (F := F)) c f4 h4
  unfold arrs1
  rw [← pts_view c main_arg5, ← pts_view c main_arg6, ← pts_view c main_arg7, ← pts_view c main_arg8, ← pts_view c main_v1]
  isplitl [H0]; · iexact H0
  isplitl [H1]; · iexact H1
  isplitl [H2]; · iexact H2
  isplitl [H3]; · iexact H3
  iexact H4

theorem waits (p : Fin 2) (c : Dev nD) (h : ∀ t, (rdats (F := F) a m p c).owed t = (O₀ (F := F)) c) :
    (levAts (K (F := F)).L (K (F := F)).lev : sProp 𝕄) ⊢ RDat.cellsWaits (Pipeline.pin (pcfgs (F := F)) (adm a)) (rdats a m) none p c :=
  RDat.cellsWaits_intro _ _ none p c fun w s t => by
    rw [h t]; exact (K (F := F)).mayWait_none _ (O₀_none c)

/-- The first call, beside what it does not touch. -/
def seg0 (Z : Dev nD → sProp 𝕄) : RDat.RegionSeg (pcfgs (F := F)) (adm a) (rdats a m) none defs₀ 𝒱₀ (K (F := F)).L (K (F := F)).lev 0 where
  win := (launch0 (F := F)).to₀.win
  block_pos := (launch0 (F := F)).to₀.block_pos
  stage_whole := (launch0 (F := F)).to₀.stage_whole
  K := PEmpty
  osem k := k.elim
  ho := Pipeline.OwnSemFacts.none _
  hbody c := (Shared.body_obligation m (O₀ (F := F)) c).toR
  hwaits c := waits a m 0 c fun _ => rfl
  pre c := iprop(arrs0 m c (m ((c : Thread nD τ).loc main_v0)) ∗ owing c ∗ (∃ r, prngReg c r) ∗ Z c)
  post c := iprop(arrs0 m c (Shared.gsBuf m (O₀ (F := F)) c) ∗ owing c ∗ (∃ r, prngReg c r) ∗ Z c)
  X c := iprop(∃ r, prngReg c r)
  Y c := iprop(∃ r, prngReg c r)
  Z := Z
  hentry c := by
    show _ ⊢ |={Set.univ}=> iprop((Shared.dat m (O₀ (F := F)) c).arrays (Shared.dat m (O₀ (F := F)) c).A ∗ Pipeline.prefHeld _ c (fun _ => fullShare) _
        ∗ (Shared.dat m (O₀ (F := F)) c).owesAt none 0 ∗ _ ∗ _)
    rw [Pipeline.prefHeld_of_none _ rfl, arrays0_eq]
    iintro ⟨⟨Ha, ⟨%W, %hW, HO⟩, Hp, HZ⟩, -, -⟩
    imodintro
    isplitl [Ha]; · iexact Ha
    isplitr; · iempintro
    isplitl [HO]
    · unfold Dat.owesAt Pipeline.owesWithin Dat.bound
      iexists W; isplitr; · ipureintro; exact fun p hp => Or.inl (hW p hp)
      iexact HO
    isplitl [Hp]; · iexact Hp
    iexact HZ
  hin c := by
    show _ ⊢ Shared.Keep c
    unfold Shared.Keep
    iintro ⟨Hp, -, Hr⟩
    isplitl [Hr]; · iexact Hr
    iexact Hp
  hout c := by
    show Shared.Keep c ⊢ _
    rw [Pipeline.ownSems0_none]
    unfold Shared.Keep
    iintro ⟨Hr, Hp⟩
    isplitl [Hp]; · iexact Hp
    isplitr; · iempintro
    iexact Hr
  hexit c := by
    show iprop((Shared.dat m (O₀ (F := F)) c).toR.arraysAt cfg0.N ∗ (Shared.dat m (O₀ (F := F)) c).owesAt none (Fin.last cfg0.N) ∗ _ ∗ _) ⊢ _
    rw [Dat.toR_arraysAt_eq, arrays0_eq]
    rw [(Shared.dat m (O₀ (F := F)) c).arrAt_in 0 rfl, (Shared.dat m (O₀ (F := F)) c).arrAt_in 1 rfl, (Shared.dat m (O₀ (F := F)) c).arrAt_in 2 rfl, (Shared.dat m (O₀ (F := F)) c).arrAt_in 3 rfl, (Shared.dat m (O₀ (F := F)) c).arrAt_in 4 rfl]
    iintro ⟨Ha, HO, Hp, HZ⟩
    imodintro
    isplitl [Ha]; · iexact Ha
    isplitl [HO]
    · unfold Dat.owesAt Pipeline.owesWithin Dat.bound
      icases HO with ⟨%W, %hW, HO⟩
      iexists W; isplitr
      · ipureintro
        rintro p hp
        rcases hW hp with h | ⟨w, s, rfl⟩
        · exact h
        · rfl
      iexact HO
    isplitl [Hp]; · iexact Hp
    iexact HZ

/-- The second call's tables, held. -/
abbrev tabs (c : Dev nD) : sProp 𝕄 := Pipeline.prefHeld pre1 c (fun _ => fullShare) a.1

/-- The second call, beside what it does not touch. -/
def seg1 (Z : Dev nD → sProp 𝕄) : RDat.RegionSeg (pcfgs (F := F)) (adm a) (rdats a m) none defs₀ 𝒱₀ (K (F := F)).L (K (F := F)).lev 1 where
  win := (launch1 (F := F)).to₀.win
  block_pos := (launch1 (F := F)).to₀.block_pos
  stage_whole := (launch1 (F := F)).to₀.stage_whole
  K := PEmpty
  osem k := k.elim
  ho := Pipeline.OwnSemFacts.none _
  hbody c := Group.body_obligation a m (O₀ (F := F)) c
  hwaits c := waits a m 1 c fun _ => rfl
  pre c := iprop(arrs1 m c (m ((c : Thread nD τ).loc main_v1)) ∗ tabs a c ∗ owing c ∗ (∃ r, prngReg c r) ∗ Z c)
  post c := iprop((∃ g, ⌜Group.Good a m c g⌝ ∗ arrs1 m c g) ∗ tabs a c ∗ owing c ∗ (∃ r, prngReg c r) ∗ Z c)
  X c := iprop(∃ r, prngReg c r)
  Y c := iprop((∃ r, prngReg c r) ∗ tabs a c)
  Z := Z
  hentry c := by
    show _ ⊢ |={Set.univ}=> iprop((Group.rdat a m (O₀ (F := F)) c).arrays (Group.rdat a m (O₀ (F := F)) c).A ∗ tabs a c
        ∗ (Group.dat a m (O₀ (F := F)) c).owesAt none 0 ∗ _ ∗ _)
    rw [arrays1_eq]
    iintro ⟨⟨Ha, Ht, ⟨%W, %hW, HO⟩, Hp, HZ⟩, -, -⟩
    imodintro
    isplitl [Ha]; · iexact Ha
    isplitl [Ht]; · iexact Ht
    isplitl [HO]
    · unfold Dat.owesAt Pipeline.owesWithin Dat.bound
      iexists W; isplitr; · ipureintro; exact fun p hp => Or.inl (hW p hp)
      iexact HO
    isplitl [Hp]; · iexact Hp
    iexact HZ
  hin c := by
    show _ ⊢ Group.Keep a c
    unfold Group.Keep
    iintro ⟨Hp, Ht, Hr⟩
    isplitl [Hr Hp]
    · isplitl [Hr]; · iexact Hr
      iexact Hp
    iexact Ht
  hout c := by
    show Group.Keep a c ⊢ _
    rw [Pipeline.ownSems0_none]
    unfold Group.Keep
    iintro ⟨⟨Hr, Hp⟩, Ht⟩
    isplitl [Hp Ht]
    · isplitl [Hp]; · iexact Hp
      iexact Ht
    isplitr; · iempintro
    iexact Hr
  hexit c := by
    show iprop((Group.rdat a m (O₀ (F := F)) c).arraysAt (cfg1 a).N ∗ (Group.dat a m (O₀ (F := F)) c).owesAt none (Fin.last (cfg1 a).N) ∗ _ ∗ _) ⊢ _
    iintro ⟨Ha, HO, ⟨Hp, Ht⟩, HZ⟩
    imodintro
    isplitl [Ha]; · iapply (arraysAt1_out a m c); iexact Ha
    isplitl [Ht]; · iexact Ht
    isplitl [HO]
    · unfold Dat.owesAt Pipeline.owesWithin Dat.bound
      icases HO with ⟨%W, %hW, HO⟩
      iexists W; isplitr
      · ipureintro
        rintro p hp
        rcases hW hp with h | ⟨w, s, rfl⟩
        · exact h
        · rfl
      iexact HO
    isplitl [Hp]; · iexact Hp
    iexact HZ

/-- The two calls in order. -/
def calls (c : Dev nD) : Prog (TpuEff nD τ sig (Elt F) (Pipeline.Sig Λ₀ (Fin 2) fun p => (pcfgs (F := F) p).Adm) .tc) PUnit :=
  .op (.customCall (Pipeline.entry 0) ()) fun _ => .op (.customCall (Pipeline.entry 1) ()) fun _ => .ret ⟨⟩

/-- Both calls: from their arrays and tables to their results, whatever else is held. -/
theorem wp_calls (c : Dev nD) (R : sProp 𝕄) :
    iprop((arrs0 m c (m ((c : Thread nD τ).loc main_v0)) ∗ arrs1 m c (m ((c : Thread nD τ).loc main_v1)) ∗ tabs a c ∗ owing c ∗ (∃ r, prngReg c r) ∗ R)
        ∗ boundary (c : Thread nD τ) ∗ levAts (K (F := F)).L (K (F := F)).lev
        ∗ Pipeline.ghostOn (pcfgs (F := F)) (adm a) EP Finset.univ c)
      ⊢ wp frame (wpE (Pipeline.defs pcfgs (defs₀ (F := F))) 𝒱₀.lift (c : Thread nD τ) none) Set.univ (calls c) fun _ =>
        iprop((arrs0 m c (Shared.gsBuf m (O₀ (F := F)) c) ∗ (∃ g, ⌜Group.Good a m c g⌝ ∗ arrs1 m c g) ∗ tabs a c ∗ owing c ∗ (∃ r, prngReg c r) ∗ R) ∗ boundary (c : Thread nD τ)) := by
  have h := RDat.wp_segs (pcfgs (F := F)) (adm a) (rdats a m) none (cellOf_inj (adm a)) EP defs₀ 𝒱₀ (K (F := F)).L (K (F := F)).lev c
    (Q := fun _ => iprop((arrs0 m c (Shared.gsBuf m (O₀ (F := F)) c) ∗ (∃ g, ⌜Group.Good a m c g⌝ ∗ arrs1 m c g) ∗ tabs a c ∗ owing c ∗ (∃ r, prngReg c r) ∗ R) ∗ boundary (c : Thread nD τ)))
    [.region (seg0 a m fun c => iprop(arrs1 m c (m ((c : Thread nD τ).loc main_v1)) ∗ tabs a c ∗ R)), .region (seg1 a m fun c => iprop(arrs0 m c (Shared.gsBuf m (O₀ (F := F)) c) ∗ R))]
    Finset.univ
    (fun c => iprop(arrs0 m c (m ((c : Thread nD τ).loc main_v0)) ∗ arrs1 m c (m ((c : Thread nD τ).loc main_v1)) ∗ tabs a c ∗ owing c ∗ (∃ r, prngReg c r) ∗ R))
    (fun c => iprop(arrs0 m c (Shared.gsBuf m (O₀ (F := F)) c) ∗ (∃ g, ⌜Group.Good a m c g⌝ ∗ arrs1 m c g) ∗ tabs a c ∗ owing c ∗ (∃ r, prngReg c r) ∗ R))
    (by show [(0 : Fin 2), 1].Nodup; decide) (fun _ _ => Finset.mem_univ _)
    ⟨by
      show _ ⊢ iprop(arrs0 m c (m ((c : Thread nD τ).loc main_v0)) ∗ owing c ∗ (∃ r, prngReg c r) ∗ arrs1 m c (m ((c : Thread nD τ).loc main_v1)) ∗ tabs a c ∗ R)
      iintro ⟨H0, H1, Ht, HO, Hp, HR⟩
      isplitl [H0]; · iexact H0
      isplitl [HO]; · iexact HO
      isplitl [Hp]; · iexact Hp
      isplitl [H1]; · iexact H1
      isplitl [Ht]; · iexact Ht
      iexact HR, by
      show iprop(arrs0 m c (Shared.gsBuf m (O₀ (F := F)) c) ∗ owing c ∗ (∃ r, prngReg c r) ∗ arrs1 m c (m ((c : Thread nD τ).loc main_v1)) ∗ tabs a c ∗ R)
        ⊢ iprop(arrs1 m c (m ((c : Thread nD τ).loc main_v1)) ∗ tabs a c ∗ owing c ∗ (∃ r, prngReg c r) ∗ arrs0 m c (Shared.gsBuf m (O₀ (F := F)) c) ∗ R)
      iintro ⟨H0, HO, Hp, H1, Ht, HR⟩
      isplitl [H1]; · iexact H1
      isplitl [Ht]; · iexact Ht
      isplitl [HO]; · iexact HO
      isplitl [Hp]; · iexact Hp
      isplitl [H0]; · iexact H0
      iexact HR, by
      show iprop((∃ g, ⌜Group.Good a m c g⌝ ∗ arrs1 m c g) ∗ tabs a c ∗ owing c ∗ (∃ r, prngReg c r) ∗ arrs0 m c (Shared.gsBuf m (O₀ (F := F)) c) ∗ R) ⊢ _
      iintro ⟨H1, Ht, HO, Hp, H0, HR⟩
      isplitl [H0]; · iexact H0
      isplitl [H1]; · iexact H1
      isplitl [Ht]; · iexact Ht
      isplitl [HO]; · iexact HO
      isplitl [Hp]; · iexact Hp
      iexact HR⟩
  refine BIBase.Entails.trans ?_ h
  iintro ⟨HT, Hb, HL, Hg⟩
  isplitr [HT Hb HL Hg]
  · iintro ⟨Hb, HT⟩
    isplitl [HT]; · iexact HT
    iexact Hb
  isplitl [Hb]; · iexact Hb
  isplitl [HT]; · iexact HT
  isplitl [HL]; · iexact HL
  iexact Hg

end Cert.KernelIdeal.Combine

end
-- ==== Proof.Blocks.lean ====
/- The calls' blocks on the TensorCore by rows: what each point reads of its arrays and what its block of the result is. -/
module

public import proofs.«01_k».proof.Proof.Shared
public import proofs.«01_k».proof.Proof.Group
public import Idealize.ShloMosaic.Lib.Pipeline.ValueKit.Basic
public import Idealize.ShloMosaic.Lib.ValueIdx

@[expose] public section

set_option maxRecDepth 16384

noncomputable section

namespace Cert.KernelIdeal

open Cert.KernelIdeal Cert.KernelIdeal.Gen
open Idealize.ShloMosaic Idealize.ShloMosaic.TcCoe
open Idealize.ShloMosaic.SparseCore.Cfg (HIx)
open Idealize.ShloMosaic.ValueIdx (ix2 ix3 eq_ix2)

variable {F : FTy → Type} [FloatOps F]

namespace Group

variable (a : (pcfg1 (F := F)).Adm) (m : (ℓ : Loc nD τ sig) → Buf (Elt F) ℓ) (c : Dev nD)

theorem t4_row : ∀ t : Fin grid1.N, cc1_transform_4 (grid1.coords t) 0 = t.val := by decide +kernel
theorem t0_row : ∀ t : Fin grid1.N, cc1_transform_0 (grid1.coords t) 0 = t.val := by decide +kernel
theorem k1_row : ∀ t : Fin grid1.N, k1_off1 (grid1.coords t) 0 = t.val := by decide +kernel

/-- Row `r` of block `t`. -/
abbrev rowAt (t : Fin grid1.N) (r : Fin 256) : Fin 6144 := ⟨256 * t.val + r.val, by have := N_1; have := t.isLt; have := r.isLt; omega⟩

theorem emb4 (t : Fin grid1.N) (y : S256x1024.Idx) : (((cfg1 a).win (4 : Fin 5)).blk t).view.emb y = ix2 (rowAt t (y 0)) (y 1) := by
  funext k; refine Fin.ext ?_
  match k with
  | ⟨0, _⟩ => show cc1_transform_4 (grid1.coords t) 0 * 256 + 1 * (y 0).val = 256 * t.val + (y 0).val; rw [t4_row]; omega
  | ⟨1, _⟩ => show 0 * 1024 + 1 * (y 1).val = (y 1).val; omega

theorem emb0 (t : Fin grid1.N) (y : S256x1024.Idx) : (((cfg1 a).win (0 : Fin 5)).blk t).view.emb y = ix2 (rowAt t (y 0)) (y 1) := by
  funext k; refine Fin.ext ?_
  match k with
  | ⟨0, _⟩ => show cc1_transform_0 (grid1.coords t) 0 * 256 + 1 * (y 0).val = 256 * t.val + (y 0).val; rw [t0_row]; omega
  | ⟨1, _⟩ => show 0 * 1024 + 1 * (y 1).val = (y 1).val; omega

/-- The table's entry for block `t`. -/
theorem at_eq (pf : pre1.Contents (Elt F)) (t : Fin grid1.N) :
    pf.at 0 (Rect.unit (s := S128) (k1_off1 (grid1.coords t)) S1.size (k1_off1_inb (grid1.coords t))) numel1_S1
      = (pf 0 : S128.Idx → BitVec 32) (ValueIdx.ix1 ⟨t.val, by have := N_1; have := t.isLt; omega⟩) := by
  show (pf 0 : S128.Idx → BitVec 32) _ = _
  congr 1
  funext k; refine Fin.ext ?_
  match k with
  | ⟨0, _⟩ => show k1_off1 (grid1.coords t) 0 + 1 * 0 = t.val; rw [k1_row]; omega

/-- Block `t`'s expert. -/
abbrev expertAt (T0 : S128.Idx → BitVec 32) (t : Fin grid1.N) : BitVec 32 := T0 (ValueIdx.ix1 ⟨t.val, by have := N_1; have := t.isLt; omega⟩)

variable (T0 : S128.Idx → BitVec 32) (hT : (a.1 0 : S128.Idx → BitVec 32) = T0) (hlt : ∀ t : Fin grid1.N, (expertAt T0 t).toNat < 8)
include hT hlt

theorem emb1 (t : Fin grid1.N) (y : S1x768x1024.Idx) :
    (((cfg1 a).win (1 : Fin 5)).blk t).view.emb y = ix3 (⟨(expertAt T0 t).toNat, hlt t⟩ : Fin 8) (y 1) (y 2) := by
  have h0 : (y 0).val < 1 := (y 0).isLt
  funext k; refine Fin.ext ?_
  match k with
  | ⟨0, _⟩ =>
    show (a.1.at 0 (Rect.unit (s := S128) (k1_off1 (grid1.coords t)) S1.size (k1_off1_inb (grid1.coords t))) numel1_S1).toNat * 1 + 1 * (y 0).val = (expertAt T0 t).toNat
    rw [at_eq, hT]; show (expertAt T0 t).toNat * 1 + 1 * (y 0).val = (expertAt T0 t).toNat; omega
  | ⟨1, _⟩ => show 0 * 768 + 1 * (y 1).val = (y 1).val; omega
  | ⟨2, _⟩ => show 0 * 1024 + 1 * (y 2).val = (y 2).val; omega

theorem emb2 (t : Fin grid1.N) (y : S1x768x1024.Idx) :
    (((cfg1 a).win (2 : Fin 5)).blk t).view.emb y = ix3 (⟨(expertAt T0 t).toNat, hlt t⟩ : Fin 8) (y 1) (y 2) := by
  have h0 : (y 0).val < 1 := (y 0).isLt
  funext k; refine Fin.ext ?_
  match k with
  | ⟨0, _⟩ =>
    show (a.1.at 0 (Rect.unit (s := S128) (k1_off1 (grid1.coords t)) S1.size (k1_off1_inb (grid1.coords t))) numel1_S1).toNat * 1 + 1 * (y 0).val = (expertAt T0 t).toNat
    rw [at_eq, hT]; show (expertAt T0 t).toNat * 1 + 1 * (y 0).val = (expertAt T0 t).toNat; omega
  | ⟨1, _⟩ => show 0 * 768 + 1 * (y 1).val = (y 1).val; omega
  | ⟨2, _⟩ => show 0 * 1024 + 1 * (y 2).val = (y 2).val; omega

theorem emb3 (t : Fin grid1.N) (y : S1x1024x768.Idx) :
    (((cfg1 a).win (3 : Fin 5)).blk t).view.emb y = ix3 (⟨(expertAt T0 t).toNat, hlt t⟩ : Fin 8) (y 1) (y 2) := by
  have h0 : (y 0).val < 1 := (y 0).isLt
  funext k; refine Fin.ext ?_
  match k with
  | ⟨0, _⟩ =>
    show (a.1.at 0 (Rect.unit (s := S128) (k1_off1 (grid1.coords t)) S1.size (k1_off1_inb (grid1.coords t))) numel1_S1).toNat * 1 + 1 * (y 0).val = (expertAt T0 t).toNat
    rw [at_eq, hT]; show (expertAt T0 t).toNat * 1 + 1 * (y 0).val = (expertAt T0 t).toNat; omega
  | ⟨1, _⟩ => show 0 * 1024 + 1 * (y 1).val = (y 1).val; omega
  | ⟨2, _⟩ => show 0 * 768 + 1 * (y 2).val = (y 2).val; omega

omit hT hlt

/-- The rows a block in use holds, from the arrays. -/
def rows (X : S6144x1024.Idx → Elt F .f32) (Wg Wu : S8x768x1024.Idx → Elt F .f32) (Wd : S8x1024x768.Idx → Elt F .f32) (t : Fin grid1.N) (e : Fin 8) :
    FVec F S256x1024 .f32 :=
  k1_pay1 (fun y => X (ix2 (rowAt t (y 0)) (y 1))) (fun y => Wg (ix3 e (y 1) (y 2))) (fun y => Wu (ix3 e (y 1) (y 2))) (fun y => Wd (ix3 e (y 1) (y 2)))

theorem out4_eq (x0 : Vec F S256x1024 .f32) (x1 : Vec F S1x768x1024 .f32) (x2 : Vec F S1x768x1024 .f32) (x3 : Vec F S1x1024x768 .f32) :
    out4 x0 x1 x2 x3 = k1_pay1 x0 x1 x2 x3 := by
  unfold out4 r0 r1 r3
  rw [View.canon_cons_unit_lit (S := S256x1024) _ _ _ (by decide), View.ld_unit_lit (S := S256x1024) _ x0 (by decide), View.ld_unit_lit (S := S1x768x1024) _ x1 (by decide),
    View.ld_unit_lit (S := S1x768x1024) _ x2 (by decide), View.ld_unit_lit (S := S1x1024x768) _ x3 (by decide)]

/-- What a result that is good holds at a row of a block in use. -/
theorem good_row {G : Buf (Elt F) ((c : Thread nD τ).loc main_v1)} (hG : Good a m c G) (hT : (a.1 0 : S128.Idx → BitVec 32) = T0)
    (hlt : ∀ t : Fin grid1.N, (expertAt T0 t).toNat < 8) (t : Fin grid1.N)
    (hu : k1_cond1 (grid1.coords t) (used (a.1 1)) = 1#1) (r : Fin 256) (q : Fin 1024) :
    (G : S6144x1024.Idx → Elt F .f32) (ix2 (rowAt t r) q)
      = rows (m ((c : Thread nD τ).loc main_arg5)) (m ((c : Thread nD τ).loc main_arg6)) (m ((c : Thread nD τ).loc main_arg7)) (m ((c : Thread nD τ).loc main_arg8))
          t ⟨(expertAt T0 t).toNat, hlt t⟩ (ix2 r q) := by
  have h := congrFun (hG t hu) (ix2 r q)
  rw [out4_eq] at h
  have e0 : iblk a m c (0 : Fin 5) t = fun y => (m ((c : Thread nD τ).loc main_arg5) : S6144x1024.Idx → Elt F .f32) (ix2 (rowAt t (y 0)) (y 1)) := by
    funext y
    show (m ((c : Thread nD τ).loc main_arg5) : S6144x1024.Idx → Elt F .f32) ((((cfg1 a).win (0 : Fin 5)).blk t).view.emb y) = _
    rw [emb0]; rfl
  have e1 : iblk a m c (1 : Fin 5) t = fun y => (m ((c : Thread nD τ).loc main_arg6) : S8x768x1024.Idx → Elt F .f32) (ix3 ⟨(expertAt T0 t).toNat, hlt t⟩ (y 1) (y 2)) := by
    funext y
    show (m ((c : Thread nD τ).loc main_arg6) : S8x768x1024.Idx → Elt F .f32) ((((cfg1 a).win (1 : Fin 5)).blk t).view.emb y) = _
    rw [emb1 a T0 hT hlt]; rfl
  have e2 : iblk a m c (2 : Fin 5) t = fun y => (m ((c : Thread nD τ).loc main_arg7) : S8x768x1024.Idx → Elt F .f32) (ix3 ⟨(expertAt T0 t).toNat, hlt t⟩ (y 1) (y 2)) := by
    funext y
    show (m ((c : Thread nD τ).loc main_arg7) : S8x768x1024.Idx → Elt F .f32) ((((cfg1 a).win (2 : Fin 5)).blk t).view.emb y) = _
    rw [emb2 a T0 hT hlt]; rfl
  have e3 : iblk a m c (3 : Fin 5) t = fun y => (m ((c : Thread nD τ).loc main_arg8) : S8x1024x768.Idx → Elt F .f32) (ix3 ⟨(expertAt T0 t).toNat, hlt t⟩ (y 1) (y 2)) := by
    funext y
    show (m ((c : Thread nD τ).loc main_arg8) : S8x1024x768.Idx → Elt F .f32) ((((cfg1 a).win (3 : Fin 5)).blk t).view.emb y) = _
    rw [emb3 a T0 hT hlt]; rfl
  rw [e0, e1, e2, e3] at h
  unfold rows
  refine Eq.trans ?_ h
  show _ = (G : S6144x1024.Idx → Elt F .f32) ((((cfg1 a).win (4 : Fin 5)).blk t).view.emb (ix2 r q))
  rw [emb4]; rfl

end Group

namespace Shared

variable (m : (ℓ : Loc nD τ sig) → Buf (Elt F) ℓ) (O : Dev nD → CellTallies nD τ sig (HIx 1)) (c : Dev nD)

theorem t5_row : ∀ t : Fin grid0.N, cc0_transform_5 (grid0.coords t) 0 = t.val := by decide +kernel
theorem t0_row : ∀ t : Fin grid0.N, cc0_transform_0 (grid0.coords t) 0 = t.val := by decide +kernel

/-- Row `r` of block `t`. -/
abbrev rowAt (t : Fin grid0.N) (r : Fin 256) : Fin 2048 := ⟨256 * t.val + r.val, by have := N_0; have := t.isLt; have := r.isLt; omega⟩

theorem emb5 (t : Fin grid0.N) (y : S256x1024.Idx) : ((cfg0.win 5).blk t).view.emb y = ix2 (rowAt t (y 0)) (y 1) := by
  funext k; refine Fin.ext ?_
  match k with
  | ⟨0, _⟩ => show cc0_transform_5 (grid0.coords t) 0 * 256 + 1 * (y 0).val = 256 * t.val + (y 0).val; rw [t5_row]; omega
  | ⟨1, _⟩ => show 0 * 1024 + 1 * (y 1).val = (y 1).val; omega

theorem emb0 (t : Fin grid0.N) (y : S256x1024.Idx) : ((cfg0.win 0).blk t).view.emb y = ix2 (rowAt t (y 0)) (y 1) := by
  funext k; refine Fin.ext ?_
  match k with
  | ⟨0, _⟩ => show cc0_transform_0 (grid0.coords t) 0 * 256 + 1 * (y 0).val = 256 * t.val + (y 0).val; rw [t0_row]; omega
  | ⟨1, _⟩ => show 0 * 1024 + 1 * (y 1).val = (y 1).val; omega

theorem emb1 (t : Fin grid0.N) (y : S2048x1024.Idx) : ((cfg0.win 1).blk t).view.emb y = y := by
  funext k; refine Fin.ext ?_
  match k with
  | ⟨0, _⟩ => show 0 * 2048 + 1 * (y 0).val = (y 0).val; omega
  | ⟨1, _⟩ => show 0 * 1024 + 1 * (y 1).val = (y 1).val; omega

theorem emb2 (t : Fin grid0.N) (y : S2048x1024.Idx) : ((cfg0.win 2).blk t).view.emb y = y := by
  funext k; refine Fin.ext ?_
  match k with
  | ⟨0, _⟩ => show 0 * 2048 + 1 * (y 0).val = (y 0).val; omega
  | ⟨1, _⟩ => show 0 * 1024 + 1 * (y 1).val = (y 1).val; omega

theorem emb3 (t : Fin grid0.N) (y : S1024x2048.Idx) : ((cfg0.win 3).blk t).view.emb y = y := by
  funext k; refine Fin.ext ?_
  match k with
  | ⟨0, _⟩ => show 0 * 1024 + 1 * (y 0).val = (y 0).val; omega
  | ⟨1, _⟩ => show 0 * 2048 + 1 * (y 1).val = (y 1).val; omega

theorem emb4 (t : Fin grid0.N) (y : S1x1024.Idx) : ((cfg0.win 4).blk t).view.emb y = y := by
  funext k; refine Fin.ext ?_
  match k with
  | ⟨0, _⟩ => show 0 * 1 + 1 * (y 0).val = (y 0).val; omega
  | ⟨1, _⟩ => show 0 * 1024 + 1 * (y 1).val = (y 1).val; omega

/-- The rows a block holds, from the arrays. -/
def rows (X : S2048x1024.Idx → Elt F .f32) (Wg Wu : S2048x1024.Idx → Elt F .f32) (Wd : S1024x2048.Idx → Elt F .f32) (G : S1x1024.Idx → Elt F .f32) (t : Fin grid0.N) :
    FVec F S256x1024 .f32 :=
  k0_pay1 (fun y => X (ix2 (rowAt t (y 0)) (y 1))) Wg Wu Wd G

theorem out5_eq (x0 : Vec F S256x1024 .f32) (x1 : Vec F S2048x1024 .f32) (x2 : Vec F S2048x1024 .f32) (x3 : Vec F S1024x2048 .f32) (x4 : Vec F S1x1024 .f32) :
    out5 x0 x1 x2 x3 x4 = k0_pay1 x0 x1 x2 x3 x4 := by
  unfold out5 r0 r1 r2 r3
  rw [View.canon_cons_unit_lit (S := S256x1024) _ _ _ (by decide), View.ld_unit_lit (S := S256x1024) _ x0 (by decide), View.ld_unit_lit (S := S2048x1024) _ x1 (by decide),
    View.ld_unit_lit (S := S2048x1024) _ x2 (by decide), View.ld_unit_lit (S := S1024x2048) _ x3 (by decide), View.ld_unit_lit (S := S1x1024) _ x4 (by decide)]

theorem flush5 : ∀ t : Fin cfg0.N, (cfg0.win 5).flush t = true :=
  (by decide +kernel : ∀ t : Fin grid0.N, win0_5.flush t = true)

/-- What the call's result holds at a row. -/
theorem gs_row (t : Fin grid0.N) (r : Fin 256) (q : Fin 1024) :
    (gsBuf m O c : S2048x1024.Idx → Elt F .f32) (ix2 (rowAt t r) q)
      = rows (m ((c : Thread nD τ).loc main_arg0)) (m ((c : Thread nD τ).loc main_arg1)) (m ((c : Thread nD τ).loc main_arg2)) (m ((c : Thread nD τ).loc main_arg3))
          (m ((c : Thread nD τ).loc main_arg4)) t (ix2 r q) := by
  have h := congrFun (gs_blocks m O c t (flush5 t)) (ix2 r q)
  rw [out5_eq] at h
  have e0 : iblk m c 0 t = fun y => (m ((c : Thread nD τ).loc main_arg0) : S2048x1024.Idx → Elt F .f32) (ix2 (rowAt t (y 0)) (y 1)) := by
    funext y
    show (m ((c : Thread nD τ).loc main_arg0) : S2048x1024.Idx → Elt F .f32) (((cfg0.win 0).blk t).view.emb y) = _
    rw [emb0]; rfl
  have e1 : iblk m c 1 t = (m ((c : Thread nD τ).loc main_arg1) : S2048x1024.Idx → Elt F .f32) := by
    funext y
    show (m ((c : Thread nD τ).loc main_arg1) : S2048x1024.Idx → Elt F .f32) (((cfg0.win 1).blk t).view.emb y) = _
    rw [emb1]
  have e2 : iblk m c 2 t = (m ((c : Thread nD τ).loc main_arg2) : S2048x1024.Idx → Elt F .f32) := by
    funext y
    show (m ((c : Thread nD τ).loc main_arg2) : S2048x1024.Idx → Elt F .f32) (((cfg0.win 2).blk t).view.emb y) = _
    rw [emb2]
  have e3 : iblk m c 3 t = (m ((c : Thread nD τ).loc main_arg3) : S1024x2048.Idx → Elt F .f32) := by
    funext y
    show (m ((c : Thread nD τ).loc main_arg3) : S1024x2048.Idx → Elt F .f32) (((cfg0.win 3).blk t).view.emb y) = _
    rw [emb3]
  have e4 : iblk m c 4 t = (m ((c : Thread nD τ).loc main_arg4) : S1x1024.Idx → Elt F .f32) := by
    funext y
    show (m ((c : Thread nD τ).loc main_arg4) : S1x1024.Idx → Elt F .f32) (((cfg0.win 4).blk t).view.emb y) = _
    rw [emb4]
  rw [e0, e1, e2, e3, e4] at h
  unfold rows
  refine Eq.trans ?_ h
  show _ = (gsBuf m O c : S2048x1024.Idx → Elt F .f32) (((cfg0.win 5).blk t).view.emb (ix2 r q))
  rw [emb5]; rfl

end Shared

end Cert.KernelIdeal

end
-- ==== Proof.Launch.lean ====
/- The launch: the two calls on the TensorCore, what the call after them hands its two SparseCores and their tiles, and the program's run. -/
module

public import proofs.«01_k».proof.Proof.Tile
public import proofs.«01_k».proof.Proof.Regions
public import proofs.«01_k».proof.Proof.Blocks
public import Idealize.ShloMosaic.Lib.SparseCore.Quiescent
public import Idealize.ShloMosaic.Lib.SparseCore.Ops
public import Idealize.ShloMosaic.Lib.SparseCore.Stream
public import Idealize.ShloMosaic.Lib.StableHlo.Run

@[expose] public section

set_option maxRecDepth 16384

noncomputable section

namespace Cert.KernelIdeal.Combine

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix1 eq_ix2)

variable {F : FTy → Type}

local notation "𝕄" => MT nD τ sig (HIx 1) (Elt F) ℕ UU ℕ

abbrev EH : Emb UH (MT nD τ sig (HIx 1) (Elt F) ℕ UU ℕ) := embL
abbrev D [FloatOps F] : Defs nD τ sig (Elt F) (ΛP (F := F)) := Pipeline.defs pcfgs defs₀
abbrev 𝒱 : Variants := 𝒱₀.lift
abbrev v₀ : 𝒱.V := Sum.inl none

variable (m : (ℓ : Loc nD τ sig) → Buf (Elt F) ℓ) (ρ : Dev nD → PrngReg) (d : Dev nD)

/-! ## The split over cores and tiles -/

/-- The coordinates of a tile. -/
def coords (c : Fin 2) (j : Fin 16) : grid2.Coords :=
  fun | 0 => c | 1 => j | ⟨_ + 2, h⟩ => absurd h (Nat.not_lt.2 (Nat.le_add_left _ _))

/-- A tile's share of the arrays: the full share in two, then in sixteen. -/
def tileShare (c : Fin 2) (j : Fin 16) : PosShare TreeShare :=
  pieceOf (pieceOf fullShare 2 (by decide) c) 16 (by decide) j

/-- What a tile is handed and hands back: its share of the arrays and its rows of the output at the contents of `f`. -/
abbrev tilePay (c : Fin 2) (j : Fin 16) (f : Buf (Elt F) (oLoc d)) : sProp 𝕄 :=
  iprop(Arrays m d (tileShare c j) ∗ outTile d (coords c j) f)

theorem pts_tiles {ℓ : Loc nD τ sig} (f : Buf (Elt F) ℓ) :
    (ℓ ↦{fullShare} f : sProp 𝕄) = bigSep Finset.univ fun c : Fin 2 => bigSep Finset.univ fun j : Fin 16 => ℓ ↦{tileShare c j} f := by
  rw [pointsTo_piecesOf Finset.univ f (o := 2) (by decide) fullShare]
  refine bigSep_congr fun c _ => ?_
  exact pointsTo_piecesOf Finset.univ f (o := 16) (by decide) _

theorem arrays_tiles : (bigSep Finset.univ fun c : Fin 2 => bigSep Finset.univ fun j : Fin 16 => (Arrays m d (tileShare c j) : sProp 𝕄)) = Arrays m d fullShare := by
  unfold Arrays
  simp only [bigSep_pairs]
  rw [← pts_tiles, ← pts_tiles, ← pts_tiles, ← pts_tiles]

theorem mem_outRect (i : grid2.Coords) (n : Fin 4) (x : S2048x1024.Idx) : x ∈ (outRect i n).set ↔ (x 0).val / 16 = 4 * (2 * (i 1).val + (i 0).val) + n.val := by
  have hx : (x 0).val < 2048 := (x 0).isLt
  have h0 : (i 0).val < 2 := (i 0).isLt
  have h1 : (i 1).val < 16 := (i 1).isLt
  have hn := n.isLt
  constructor
  · intro h
    obtain ⟨y, -, rfl⟩ := Finset.mem_map.mp ((Rect.map_emb_univ _).symm ▸ h)
    rw [outRect_emb]
    have hy : (y 0).val < 16 := (y 0).isLt
    show (tok i n + (y 0).val) / 16 = _
    unfold tok
    omega
  · intro h
    rw [← Rect.map_emb_univ]
    refine Finset.mem_map.mpr ⟨ix2 (⟨(x 0).val % 16, Nat.mod_lt _ (by decide)⟩ : Fin 16) (x 1), Finset.mem_univ _, ?_⟩
    refine (outRect_emb i n _).trans (Eq.trans ?_ (eq_ix2 x).symm)
    congr 1
    refine Fin.ext ?_
    show tok i n + (x 0).val % 16 = (x 0).val
    unfold tok
    omega

/-- The chunks, by core, tile and number. -/
abbrev chunkSet (t : Fin 2 × Fin 16 × Fin 4) : Finset (Idx (oLoc d)) := (outRect (coords t.1 t.2.1) t.2.2).set

theorem mem_chunkSet (t : Fin 2 × Fin 16 × Fin 4) (x : S2048x1024.Idx) :
    x ∈ chunkSet d t ↔ (x 0).val / 16 = 4 * (2 * t.2.1.val + t.1.val) + t.2.2.val := mem_outRect (coords t.1 t.2.1) t.2.2 x

theorem four_eq (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide), SparseCore.bigSep_insert' (by decide),
    SparseCore.bigSep_insert' (by decide), bigSep_singleton]

/-- The output held is every tile's rows held. -/
theorem out_tiles (f : Buf (Elt F) (oLoc d)) :
    (bigSep Finset.univ fun c : Fin 2 => bigSep Finset.univ fun j : Fin 16 => (outTile d (coords c j) f : sProp 𝕄)) = (oLoc d ↦{fullShare} f) := by
  have hu : (Finset.univ : Finset (Idx (oLoc d))) = Finset.univ.biUnion (chunkSet d) := by
    refine Finset.ext fun (x : S2048x1024.Idx) => ⟨fun _ => ?_, fun _ => Finset.mem_univ _⟩
    have hx : (x 0).val < 2048 := (x 0).isLt
    refine Finset.mem_biUnion.mpr ⟨(⟨(x 0).val / 64 % 2, by omega⟩, ⟨(x 0).val / 128, by omega⟩, ⟨(x 0).val / 16 % 4, by omega⟩), Finset.mem_univ _, ?_⟩
    refine (mem_chunkSet d _ x).mpr ?_
    show (x 0).val / 16 = 4 * (2 * ((x 0).val / 128) + (x 0).val / 64 % 2) + (x 0).val / 16 % 4
    omega
  rw [hu, pointsTo_biUnion Finset.univ (ℓ := oLoc d) (chunkSet d) ?_, bigSep_univ_prod]
  · refine bigSep_congr fun c _ => ?_
    rw [bigSep_univ_prod]
    refine bigSep_congr fun j _ => ?_
    rw [four_eq]
  · intro t _ t' _ hne
    refine Finset.disjoint_left.mpr fun (x : S2048x1024.Idx) hx hx' => hne ?_
    have e := (mem_chunkSet d t x).mp hx
    have e' := (mem_chunkSet d t' x).mp hx'
    obtain ⟨c, j, n⟩ := t
    obtain ⟨c', j', n'⟩ := t'
    have := c.isLt; have := c'.isLt; have := n.isLt; have := n'.isLt
    simp only at e e'
    refine Prod.ext (Fin.ext ?_) (Prod.ext (Fin.ext ?_) (Fin.ext ?_)) <;> simp only <;> omega

/-- All tiles' pay together is the arrays and the output. -/
theorem pay_tiles (f : Buf (Elt F) (oLoc d)) :
    (bigSep Finset.univ fun c : Fin 2 => bigSep Finset.univ fun j : Fin 16 => tilePay m d c j f)
      = (iprop(Arrays m d fullShare ∗ oLoc d ↦{fullShare} f) : sProp 𝕄) := by
  rw [← arrays_tiles, ← out_tiles]
  simp only [bigSep_pairs]

variable [FloatOps F] (a : (pcfg1 (F := F)).Adm)

/-! ## The arrays between the calls -/

/-- The program's argument arrays on device `d`. -/
abbrev argLoc (b : Ref sig .tc) : Loc nD τ sig := (SparseCore.T d).loc b

/-- What the certificate assumes of the tables and the positions: `a` is the tables' contents, a block's expert is one of the eight, and a position
    names a row of a block in use. -/
structure Ok : Prop where
  tab0 : ∀ d : Dev nD, (a.1 0 : S128.Idx → BitVec 32) = m (argLoc d main_arg9)
  tab1 : ∀ d : Dev nD, (a.1 1 : S8.Idx → BitVec 32) = m (argLoc d main_arg10)
  expert : ∀ (d : Dev nD) (t : Fin grid1.N), (Group.expertAt (m (argLoc d main_arg9)) t).toNat < 8
  inUse : ∀ (d : Dev nD) (x : Fin 4096), ∃ t : Fin grid1.N,
    ((m (pLoc d) : S4096.Idx → BitVec 32) (ValueIdx.ix1 x)).toNat / 256 = t.val ∧ k1_cond1 (grid1.coords t) (Group.used (a.1 1)) = 1#1

/-- A block's expert, as a number below eight whatever its table holds. -/
def expertOf (t : Fin grid1.N) : Fin 8 := ⟨min (Group.expertAt (m (argLoc d main_arg9)) t).toNat 7, by omega⟩

/-- The hidden rows, were all blocks in use. -/
def hsRows : S6144x1024.Idx → Elt F .f32 := fun x =>
  let t : Fin grid1.N := ⟨(x 0).val / 256, by have := N_1; have h : (x 0).val < 6144 := (x 0).isLt; omega⟩
  Group.rows (m (argLoc d main_arg5)) (m (argLoc d main_arg6)) (m (argLoc d main_arg7)) (m (argLoc d main_arg8)) t (expertOf m d t)
    (ix2 (⟨(x 0).val % 256, Nat.mod_lt _ (by decide)⟩ : Fin 256) (x 1))

/-- The program's output: the combination at those rows and the shared expert's. -/
def outBuf : Buf (Elt F) (oLoc d) := total (hsRows m d) (Shared.gsBuf m (O₀ (F := F)) d) (m (pLoc d)) (m (wLoc d))

variable {a m} in
/-- The combination reads hidden rows of blocks in use only. -/
theorem total_eq (hok : Ok m a) {fh : Buf (Elt F) (hLoc d)} (hG : Group.Good a m d fh) :
    total fh (Shared.gsBuf m (O₀ (F := F)) d) (m (pLoc d)) (m (wLoc d)) = outBuf m d := by
  have hr : ∀ l : Fin 2, rowAll fh (m (pLoc d)) l = rowAll (hsRows m d) (m (pLoc d)) l := by
    intro l; funext x
    unfold rowAll
    obtain ⟨t, ht, hu⟩ := hok.inUse d (place l (x 0))
    have ht24 : t.val < 24 := by have := N_1; have := t.isLt; omega
    generalize hp : (m (pLoc d) : S4096.Idx → BitVec 32) (ValueIdx.ix1 (place l (x 0))) = p at ht ⊢
    have e : tabRow p = Group.rowAt t ⟨p.toNat % 256, Nat.mod_lt _ (by decide)⟩ := by
      refine Fin.ext ?_
      show min p.toNat 6143 = 256 * t.val + p.toNat % 256
      omega
    rw [e]
    refine (Group.good_row a m d _ hG (hok.tab0 d) (hok.expert d) t hu _ (x 1)).trans ?_
    unfold hsRows
    have e1 : (⟨(256 * t.val + p.toNat % 256) / 256, by have := N_1; omega⟩ : Fin grid1.N) = t := Fin.ext (by show (256 * t.val + p.toNat % 256) / 256 = t.val; omega)
    have e2 : (⟨(256 * t.val + p.toNat % 256) % 256, Nat.mod_lt _ (by decide)⟩ : Fin 256) = ⟨p.toNat % 256, Nat.mod_lt _ (by decide)⟩ :=
      Fin.ext (by show (256 * t.val + p.toNat % 256) % 256 = p.toNat % 256; omega)
    have e3 : expertOf m d t = ⟨(Group.expertAt (m (argLoc d main_arg9)) t).toNat, hok.expert d t⟩ :=
      Fin.ext (Nat.min_eq_left (Nat.le_of_lt_succ (hok.expert d t)))
    show _ = Group.rows _ _ _ _ (⟨(256 * t.val + p.toNat % 256) / 256, _⟩ : Fin grid1.N) (expertOf m d ⟨(256 * t.val + p.toNat % 256) / 256, _⟩)
      (ix2 (⟨(256 * t.val + p.toNat % 256) % 256, _⟩ : Fin 256) (x 1))
    rw [e1, e2, e3]
  unfold outBuf total
  rw [hr 0, hr 1]

/-- The memory as the call on the SparseCores finds it: the shared expert's rows written, and the hidden rows `fh`. -/
def mid (fh : Buf (Elt F) (hLoc d)) : (ℓ : Loc nD τ sig) → Buf (Elt F) ℓ :=
  Function.update (Function.update m (gLoc d) (Shared.gsBuf m (O₀ (F := F)) d)) (hLoc d) fh

theorem loc_ne {b b' : Ref sig .tc} (h : b ≠ b') : (SparseCore.T d : Thread nD τ).loc b ≠ (SparseCore.T d : Thread nD τ).loc b' := by
  revert b b'; revert d; decide

theorem mid_h (fh : Buf (Elt F) (hLoc d)) : mid m d fh (hLoc d) = fh := Function.update_self ..
theorem mid_g (fh : Buf (Elt F) (hLoc d)) : mid m d fh (gLoc d) = Shared.gsBuf m (O₀ (F := F)) d :=
  (Function.update_of_ne (loc_ne d (by decide)) ..).trans (Function.update_self ..)
theorem mid_p (fh : Buf (Elt F) (hLoc d)) : mid m d fh (pLoc d) = m (pLoc d) :=
  (Function.update_of_ne (loc_ne d (by decide)) ..).trans (Function.update_of_ne (loc_ne d (by decide)) ..)
theorem mid_w (fh : Buf (Elt F) (hLoc d)) : mid m d fh (wLoc d) = m (wLoc d) :=
  (Function.update_of_ne (loc_ne d (by decide)) ..).trans (Function.update_of_ne (loc_ne d (by decide)) ..)
theorem mid_o (fh : Buf (Elt F) (hLoc d)) : mid m d fh (oLoc d) = m (oLoc d) :=
  (Function.update_of_ne (loc_ne d (by decide)) ..).trans (Function.update_of_ne (loc_ne d (by decide)) ..)

variable {a m} in
theorem tot_mid (hok : Ok m a) {fh : Buf (Elt F) (hLoc d)} (hG : Group.Good a m d fh) : totBuf (mid m d fh) d = outBuf m d := by
  unfold totBuf
  rw [mid_h, mid_g, mid_p, mid_w]
  exact total_eq d hok hG

variable {a m} in
theorem pre_mid (hok : Ok m a) (fh : Buf (Elt F) (hLoc d)) : PreOK (mid m d fh) d := by
  intro x
  show ((mid m d fh (pLoc d) : S4096.Idx → BitVec 32) x).toNat < 6144
  rw [mid_p, eq_ix1 x]
  obtain ⟨t, ht, -⟩ := hok.inUse d (x 0)
  have := N_1; have := t.isLt
  change ((m (pLoc d) : S4096.Idx → BitVec 32) (ValueIdx.ix1 (x 0))).toNat < 6144
  omega

/-! ## What the handshakes carry -/

/-- What a tile is handed: its share of the arrays, the hidden rows good, and its rows of the output. -/
abbrev tileGo (c : Fin 2) (j : Fin 16) : sProp 𝕄 :=
  iprop(∃ fh : Buf (Elt F) (hLoc d), ⌜Group.Good a m d fh⌝ ∗ tilePay (mid m d fh) d c j (m (oLoc d)))

/-- What it hands back: its share of the positions and the weights, and its rows of the output at their values. -/
abbrev tileTd (c : Fin 2) (j : Fin 16) : sProp 𝕄 :=
  iprop((pLoc d ↦{tileShare c j} m (pLoc d)) ∗ (wLoc d ↦{tileShare c j} m (wLoc d)) ∗ outTile d (coords c j) (outBuf m d))

/-- Each core takes its sixteen tiles' pay, and each tile its own; all bring back what they hand back, the output at its values. -/
def P : (K (F := F)).Pay (nD := nD) (Val := Elt F) (Name := ℕ) (U := UU) where
  st := fun q d c => match q with | 0 => bigSep Finset.univ fun j : Fin 16 => tileGo m d a c j
  dn := fun q d c => match q with | 0 => bigSep Finset.univ fun j : Fin 16 => tileTd m d c j
  go := fun q d c j => match q with | 0 => tileGo m d a c j
  td := fun q d c j => match q with | 0 => tileTd m d c j
  x := fun _ _ => iprop(emp)

instance tilePay_storable (c : Fin 2) (j : Fin 16) (f : Buf (Elt F) (oLoc d)) : Storable (upEmb : UEmb _ 𝕄) (tilePay m d c j f) := by
  unfold tilePay Arrays outTile outPts; infer_instance

instance tileGo_storable (c : Fin 2) (j : Fin 16) : Storable (upEmb : UEmb _ 𝕄) (tileGo m d a c j) := by
  unfold tileGo; infer_instance

instance tileTd_storable (c : Fin 2) (j : Fin 16) : Storable (upEmb : UEmb _ 𝕄) (tileTd m d c j) := by
  unfold tileTd outTile outPts; infer_instance

instance P_storable : (P (F := F) m a).IsStorable where
  st q d c := match q with
    | 0 => (inferInstance : Storable (upEmb : UEmb _ 𝕄) (bigSep Finset.univ fun j : Fin 16 => tileGo m d a c j))
  dn q d c := match q with
    | 0 => (inferInstance : Storable (upEmb : UEmb _ 𝕄) (bigSep Finset.univ fun j : Fin 16 => tileTd m d c j))
  go q d c j := match q with | 0 => tileGo_storable m d a c j
  td q d c j := match q with | 0 => tileTd_storable m d c j

theorem defs₀_vector (c : Fin τ.nSC) (s : Fin τ.nSub) :
    defs₀ (F := F) (.scVector c s) 2 () = SparseCore.onTile hcore2 hsub2 (fun c s => printed (coords c s)) ⟨⟩ c s := rfl

variable {a m} in
/-- What a tile's task leaves is what it hands back. -/
theorem td_of (hok : Ok m a) {fh : Buf (Elt F) (hLoc d)} (hG : Group.Good a m d fh) (c : Fin 2) (j : Fin 16) :
    tilePay (mid m d fh) d c j (totBuf (mid m d fh) d) ⊢ tileTd m d c j := by
  unfold tilePay Arrays tileTd
  rw [mid_p, mid_w, tot_mid d hok hG]
  iintro ⟨⟨-, Hp, Hw, -⟩, Ho⟩
  isplitl [Hp]; · iexact Hp
  isplitl [Hw]; · iexact Hw
  iexact Ho

theorem obl_post {thr : Thread nD τ} {A A' B C : sProp 𝕄} (hA : A ⊢ A') {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

/-- What is handed under a quantifier may be taken before anything else. -/
theorem go_out {A B R C : sProp 𝕄} {X : Type} {φ : X → Prop} {Ψ : X → sProp 𝕄} (h : ∀ x, φ x → iprop(A ∗ B ∗ Ψ x ∗ R) ⊢ C) :
    iprop(A ∗ B ∗ (∃ x, ⌜φ x⌝ ∗ Ψ x) ∗ R) ⊢ C := by
  iintro ⟨HA, HB, ⟨%x, %hx, HΨ⟩, HR⟩
  iapply (h x hx)
  isplitl [HA]; · iexact HA
  isplitl [HB]; · iexact HB
  isplitl [HΨ] <;> iassumption

variable {a m} in
theorem tileObl (hok : Ok m a) : (K (F := F)).TileObl (D (F := F)) 𝒱 (P m a) v₀ 0 := by
  intro d c j O W hO _ _
  simp only [show (P m a).ox = fun _ _ => 0 from rfl, add_zero]
  have hcj : ((K (F := F)).core 0 c).val < grid2.bound 0 ∧ ((K (F := F)).sub 0 j).val < grid2.bound 1 := ⟨c.isLt, j.isLt⟩
  change _ ⊢ wp _ _ _ (Pipeline.liftProg (defs₀ (F := F) (.scVector ((K (F := F)).core 0 c) ((K (F := F)).sub 0 j)) 2 ())) _
  refine BI.Entails.trans ?_ (Pipeline.wp_liftProg (D (F := F)) (Pipeline.defs_kernel pcfgs defs₀) 𝒱₀ _ Set.univ none _ _)
  rw [defs₀_vector]; simp only [SparseCore.onTile, hcj, and_self, ↓reduceDIte]
  refine go_out (Ψ := fun fh => tilePay (mid m d fh) d ⟨_, hcj.1⟩ ⟨_, hcj.2⟩ (m (oLoc d))) fun fh hG => ?_
  have h := tile_body (mid m d fh) d (coords ⟨_, hcj.1⟩ ⟨_, hcj.2⟩) (pre_mid d hok fh) (tileShare ⟨_, hcj.1⟩ ⟨_, hcj.2⟩) O W hO
  rw [mid_o] at h
  exact h.trans (wp_mono frame _ _ fun _ => obl_post (td_of d hok hG _ _))

theorem vecSplit : (K (F := F)).VecSplit' (P m a) 0 := by
  intro d c
  show (bigSep Finset.univ fun j : Fin 16 => tileGo m d a c j) ⊢ |={Set.univ}=> iprop(
      (bigSep Finset.univ fun j : Fin 16 => tileGo m d a c j)
      ∗ ((bigSep Finset.univ fun j : Fin 16 => tileTd m d c j) -∗ bigSep Finset.univ fun j : Fin 16 => tileTd m d c j))
  iintro H; imodintro
  isplitl [H]; · iexact H
  iintro H; iexact H

/-! ## The launch element of the ghost state -/

/-- The handshakes' rounds, and the rounds of the calls on the TensorCore. -/
def u₀ : UU := (initOf (K (F := F)).hsCells (K (F := F)).hsToks,
  (initOf (Pipeline.cells (Pipeline.pin (pcfgs (F := F)) (adm a)) (cellOf_inj (adm a))) (Pipeline.launchToks (Pipeline.pin (pcfgs (F := F)) (adm a)) (cellOf_inj (adm a))), 1))

theorem emps {I : Type} (s : Finset I) : (bigSep s fun _ => iprop(emp)) = (iprop(emp) : sProp 𝕄) := bigSep_emp_const s

theorem hu₀ : (ownU (u₀ a) : sProp 𝕄)
    ⊢ |={Set.univ}=> iprop(BI.own (EH (initOf (K (F := F)).hsCells (K (F := F)).hsToks))
        ∗ (bigSep Finset.univ fun d : Dev nD => Pipeline.ghostOn (pcfgs (F := F)) (adm a) EP Finset.univ d)
        ∗ bigSep Finset.univ fun thr : Thread nD τ => bigSep Finset.univ fun q : Fin 1 => (P m a).x q thr) := by
  unfold u₀
  iintro Hu
  ihave H := (ownU_pair (initOf (K (F := F)).hsCells (K (F := F)).hsToks) _) $$ Hu
  icases H with ⟨HH, HR⟩
  have hs (x : UP) : (BI.own ((embR : Emb (UP × Counters) 𝕄) (x, (1 : Counters))) : sProp 𝕄) ⊢ BI.own (EP x) := (own_pair_emb (embR : Emb (UP × Counters) 𝕄) x (1 : Counters)).trans sep_elim_left
  ihave HP := (hs _) $$ HR
  imod (Pipeline.fund_ghost (Pipeline.pin (pcfgs (F := F)) (adm a)) EP (cellOf_inj (adm a))) $$ HP with ⟨Hg, Ht⟩
  imodintro
  isplitl [HH]; · iexact HH
  isplitl [Hg Ht]
  · unfold Pipeline.ghostOn Pipeline.PerCore.ghostOn
    simp only [bigSep_sep']
    isplitl [Hg] <;> iassumption
  rw [show (bigSep Finset.univ fun thr : Thread nD τ => bigSep Finset.univ fun q : Fin 1 => (P (F := F) m a).x q thr) = bigSep Finset.univ fun _ => iprop(emp) from
    bigSep_congr fun _ _ => bigSep_univ_of_subsingleton (0 : Fin 1), emps]
  iempintro

/-! ## The program on the TensorCore -/

theorem unscopedBufs_eq (W : (b : Ref sig .tc) → Buf (Elt F) ((d.tc : Thread nD τ).loc b)) :
    (unscopedBufs d W : sProp 𝕄) = iprop((argLoc d main_arg0 ↦{fullShare} W main_arg0) ∗ (argLoc d main_arg1 ↦{fullShare} W main_arg1) ∗ (argLoc d main_arg2 ↦{fullShare} W main_arg2)
      ∗ (argLoc d main_arg3 ↦{fullShare} W main_arg3) ∗ (argLoc d main_arg4 ↦{fullShare} W main_arg4) ∗ (argLoc d main_v0 ↦{fullShare} W main_v0)
      ∗ (argLoc d main_arg5 ↦{fullShare} W main_arg5) ∗ (argLoc d main_arg6 ↦{fullShare} W main_arg6) ∗ (argLoc d main_arg7 ↦{fullShare} W main_arg7)
      ∗ (argLoc d main_arg8 ↦{fullShare} W main_arg8) ∗ (argLoc d main_v1 ↦{fullShare} W main_v1) ∗ (argLoc d main_arg9 ↦{fullShare} W main_arg9)
      ∗ (argLoc d main_arg10 ↦{fullShare} W main_arg10) ∗ (argLoc d main_arg11 ↦{fullShare} W main_arg11) ∗ (argLoc d main_arg12 ↦{fullShare} W main_arg12)
      ∗ argLoc d main_v2 ↦{fullShare} W main_v2) := by
  unfold unscopedBufs
  rw [show (Finset.univ.filter fun b : Ref sig .tc => ¬ b.isScoped) = {main_arg0, main_arg1, main_arg2, main_arg3, main_arg4, main_v0, main_arg5, main_arg6, main_arg7, main_arg8,
      main_v1, main_arg9, main_arg10, main_arg11, main_arg12, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays with the hidden rows good give every core its tiles' pay. -/
theorem st0_of {fh : Buf (Elt F) (hLoc d)} (hG : Group.Good a m d fh) :
    iprop((hLoc d ↦{fullShare} fh) ∗ (pLoc d ↦{fullShare} m (pLoc d)) ∗ (wLoc d ↦{fullShare} m (wLoc d))
        ∗ (gLoc d ↦{fullShare} Shared.gsBuf m (O₀ (F := F)) d) ∗ oLoc d ↦{fullShare} m (oLoc d))
      ⊢ (bigSep Finset.univ fun c : Fin ((K (F := F)).nCore 0) => (P m a).st 0 d c : sProp 𝕄) := by
  have h := pay_tiles (mid m d fh) d (m (oLoc d))
  unfold Arrays at h
  rw [mid_h, mid_p, mid_w, mid_g] at h
  refine BIBase.Entails.trans ?_ ((Entails.of_eq h.symm).trans (bigSep_mono fun c _ => bigSep_mono fun j _ => ?_))
  · iintro ⟨H1, H2, H3, H4, H5⟩
    isplitr [H5]
    · isplitl [H1]; · iexact H1
      isplitl [H2]; · iexact H2
      isplitl [H3] <;> iassumption
    iexact H5
  · show _ ⊢ tileGo m d a c j
    unfold tileGo
    iintro H
    iexists fh
    isplitr; · ipureintro; exact hG
    iexact H

theorem dn0_eq : (bigSep Finset.univ fun c : Fin ((K (F := F)).nCore 0) => (P m a).dn 0 d c)
    = iprop((pLoc d ↦{fullShare} m (pLoc d)) ∗ (wLoc d ↦{fullShare} m (wLoc d)) ∗ oLoc d ↦{fullShare} outBuf m d) := by
  show (bigSep Finset.univ fun c : Fin 2 => bigSep Finset.univ fun j : Fin 16 => tileTd m d c j) = _
  rw [pts_tiles (m (pLoc d)), pts_tiles (m (wLoc d)), ← out_tiles]
  simp only [bigSep_pairs]

/-- What is held at the end: the arguments as they were, the output at its values. -/
abbrev FIN : sProp 𝕄 := iprop((argLoc d main_arg0 ↦{fullShare} m (argLoc d main_arg0)) ∗ (argLoc d main_arg1 ↦{fullShare} m (argLoc d main_arg1)) ∗ (argLoc d main_arg2 ↦{fullShare} m (argLoc d main_arg2))
  ∗ (argLoc d main_arg3 ↦{fullShare} m (argLoc d main_arg3)) ∗ (argLoc d main_arg4 ↦{fullShare} m (argLoc d main_arg4)) ∗ (argLoc d main_arg5 ↦{fullShare} m (argLoc d main_arg5))
  ∗ (argLoc d main_arg6 ↦{fullShare} m (argLoc d main_arg6)) ∗ (argLoc d main_arg7 ↦{fullShare} m (argLoc d main_arg7)) ∗ (argLoc d main_arg8 ↦{fullShare} m (argLoc d main_arg8))
  ∗ (argLoc d main_arg9 ↦{fullShare} m (argLoc d main_arg9)) ∗ (argLoc d main_arg10 ↦{fullShare} m (argLoc d main_arg10)) ∗ (argLoc d main_arg11 ↦{fullShare} m (argLoc d main_arg11))
  ∗ (argLoc d main_arg12 ↦{fullShare} m (argLoc d main_arg12)) ∗ oLoc d ↦{fullShare} outBuf m d)

/-- The two calls on the TensorCore come first, then the call on the SparseCores. -/
theorem main_eq : main (F := F) d = ((SparseCore.liftProg (calls d) : Prog (TpuEff nD τ sig (Elt F) _ .tc) PUnit) >>= fun _ => sc.run d 0 >>= fun _ => pure ⟨⟩) := rfl

/-- What the TensorCore owes may be taken out of its state before the call on the SparseCores, and put back. -/
theorem tc_owing : ((K (F := F)).tcSt EH d 0 : sProp 𝕄) ⊢ iprop(owing d ∗ (owing d -∗ (K (F := F)).tcSt EH d 0)) := by
  unfold SparseCore.Cfg.tcSt owing
  iintro ⟨⟨%W, %hW, HO⟩, HR⟩
  isplitl [HO]
  · iexists W
    isplitr
    · ipureintro
      intro p hp
      rcases hq : p.2 with _ | q
      · rfl
      · have h1 := hW p hp
        have h2 := (K (F := F)).lev_some_pos (SparseCore.T d, p.1) q
        rw [hq] at h1
        change _ ≤ 0 at h1
        omega
    iexact HO
  iintro ⟨%W2, %hW2, HO⟩
  isplitl [HO]
  · iexists W2
    isplitr
    · ipureintro
      intro p hp
      rw [hW2 p hp, SparseCore.Cfg.lev_none]
      exact Nat.zero_le _
    iexact HO
  iexact HR

variable {a m} in
theorem tabs_eq (hok : Ok m a) : (tabs a d : sProp 𝕄) = iprop((argLoc d main_arg9 ↦{fullShare} m (argLoc d main_arg9)) ∗ (argLoc d main_arg10 ↦{fullShare} m (argLoc d main_arg10))) := by
  unfold tabs
  rw [Group.tables_eq, show a.1 0 = m (argLoc d main_arg9) from hok.tab0 d, show a.1 1 = m (argLoc d main_arg10) from hok.tab1 d]

variable {a m} in
/-- The program on device `d`'s TensorCore. -/
theorem hmain (hok : Ok m a) (κ : GSem nD τ sig → ℕ) :
    iprop((K (F := F)).ctx EH (P m a) κ ∗ (K (F := F)).tcSt EH d 0 ∗ (K (F := F)).tcRes m ρ d ∗ Pipeline.ghostOn (pcfgs (F := F)) (adm a) EP Finset.univ d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, main_eq]
  simp only [wp_bind, wp_pure]
  iintro ⟨#Hctx, Hst, ⟨Hb, ⟨H0, H1, H2, H3, H4, Hv0, H5, H6, H7, H8, Hv1, H9, H10, H11, H12, Hv2⟩, Hts, Hpr⟩, Hgh⟩
  ihave Hst := (tc_owing d) $$ Hst
  icases Hst with ⟨HO, Hst⟩
  iapply (wp_wand frame _ _) $$ [H0 H1 H2 H3 H4 Hv0 H5 H6 H7 H8 Hv1 H9 H10 HO Hpr Hb Hgh]
  · iapply ((K (F := F)).wp_liftProg (D (F := F)) 𝒱 (SparseCore.T d) Set.univ none (calls d) _)
    iapply (wp_calls a m d iprop(emp))
    isplitl [H0 H1 H2 H3 H4 Hv0 H5 H6 H7 H8 Hv1 H9 H10 HO Hpr]
    · isplitl [H0 H1 H2 H3 H4 Hv0]
      · isplitl [H0]; · iexact H0
        isplitl [H1]; · iexact H1
        isplitl [H2]; · iexact H2
        isplitl [H3]; · iexact H3
        isplitl [H4] <;> iassumption
      isplitl [H5 H6 H7 H8 Hv1]
      · isplitl [H5]; · iexact H5
        isplitl [H6]; · iexact H6
        isplitl [H7]; · iexact H7
        isplitl [H8] <;> iassumption
      isplitl [H9 H10]
      · iapply (Entails.of_eq (tabs_eq d hok).symm)
        isplitl [H9] <;> iassumption
      isplitl [HO]; · iexact HO
      isplitl [Hpr]; · iexists (ρ d); iexact Hpr
      iempintro
    isplitl [Hb]; · iexact Hb
    isplitr [Hgh]; · iapply ((K (F := F)).ctx_levAts (EH := EH) (P := P m a) κ); iexact Hctx
    iexact Hgh
  iintro %_ ⟨⟨⟨H0, H1, H2, H3, H4, Hv0⟩, ⟨%fh, %hG, H5, H6, H7, H8, Hv1⟩, Htb, HO, -, -⟩, Hb⟩
  iapply ((K (F := F)).wp_run (D (F := F)) 𝒱 (EH := EH) (P := P m a) κ d 0)
  isplitr; · iexact Hctx
  isplitl [HO Hst]
  · iapply Hst; iexact HO
  isplitl [Hv1 H11 H12 Hv0 Hv2]
  · iapply (st0_of m d a hG)
    isplitl [Hv1]; · iexact Hv1
    isplitl [H11]; · iexact H11
    isplitl [H12]; · iexact H12
    isplitl [Hv0] <;> iassumption
  iintro ⟨Hst, Hdn⟩
  ihave Hdn' := (Entails.of_eq (dn0_eq m d a)) $$ Hdn
  icases Hdn' with ⟨H11, H12, Hv2⟩
  ihave Htb := (Entails.of_eq (tabs_eq d hok)) $$ Htb
  icases Htb with ⟨H9, H10⟩
  imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact Hv2
  isplitl [Hb] <;> iassumption

/-- The arguments. -/
def argRefs : List (Ref sig .tc) := [main_arg0, main_arg1, main_arg2, main_arg3, main_arg4, main_arg5, main_arg6, main_arg7, main_arg8, main_arg9, main_arg10, main_arg11, main_arg12]

/-- What the end says of the memory. -/
def fq (s' : Phys nD τ sig (Elt F)) : Prop :=
  (∀ b ∈ argRefs, s'.mem.mem (argLoc d b) = m (argLoc d b)) ∧ s'.mem.mem (oLoc d) = outBuf m d

/-- A buffer held whole tells its contents, -/
theorem agrees {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun x => h x (Finset.mem_univ x)
  iexact HSI

/-- and so does each of several. -/
theorem agrees_cons {ℓ : Loc nD τ sig} (f : Buf (Elt F) ℓ) (s' : Phys nD τ sig (Elt F)) {R : sProp 𝕄} {φ : Prop}
    (h : iprop(R ∗ SI s') ⊢ (iprop(⌜φ⌝) : sProp 𝕄)) : iprop(((ℓ ↦{fullShare} f) ∗ R) ∗ SI s') ⊢ (iprop(⌜s'.mem.mem ℓ = f ∧ φ⌝) : sProp 𝕄) := by
  iintro ⟨⟨H, HR⟩, HSI⟩
  ihave H := (agrees f s') $$ [H HSI]
  · isplitl [H] <;> iassumption
  icases H with ⟨%h1, HSI⟩
  ihave H := h $$ [HR HSI]
  · isplitl [HR] <;> iassumption
  icases H with %h2
  ipureintro; exact ⟨h1, h2⟩

theorem hfin (s' : Phys nD τ sig (Elt F)) : iprop(FIN m d ∗ SI s') ⊢ (⌜fq m d s'⌝ : sProp 𝕄) := by
  have h0 : iprop((oLoc d ↦{fullShare} outBuf m d) ∗ SI s') ⊢ (iprop(⌜s'.mem.mem (oLoc d) = outBuf m d⌝) : sProp 𝕄) := by
    iintro H
    ihave H := (agrees (outBuf m d) s') $$ H
    icases H with ⟨%h, -⟩
    ipureintro; exact h
  refine BIBase.Entails.trans (agrees_cons _ s' <| agrees_cons _ s' <| agrees_cons _ s' <| agrees_cons _ s' <| agrees_cons _ s' <| agrees_cons _ s' <| agrees_cons _ s' <|
    agrees_cons _ s' <| agrees_cons _ s' <| agrees_cons _ s' <| agrees_cons _ s' <| agrees_cons _ s' <| agrees_cons _ s' h0) ?_
  iintro %h
  ipureintro
  obtain ⟨h0, h1, h2, h3, h4, h5, h6, h7, h8, h9, h10, h11, h12, ho⟩ := h
  refine ⟨fun b hb => ?_, ho⟩
  simp only [argRefs, List.mem_cons, List.not_mem_nil, or_false] at hb
  rcases hb with rfl | rfl | rfl | rfl | rfl | rfl | rfl | rfl | rfl | rfl | rfl | rfl | rfl <;> assumption

/-! ## The run -/

/-- After the run: the arguments as they were, the output at its values, every semaphore at zero. -/
def QC : PUnit × MemSt nD τ sig (Elt F) → Prop := fun r =>
  (∀ c : Dev nD, (∀ b ∈ argRefs, r.2.mem (argLoc c b) = m (argLoc c b)) ∧ r.2.mem (oLoc c) = outBuf m c) ∧ r.2.sem = fun _ => 0

variable {a m} in
theorem run_main [∀ e, Nonempty (Elt F e)] (hok : Ok m a) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m a) (A := ∅) facts v₀
    (fun q hq => match q with | 0 => nomatch hq)
    (fun q _ => match q with | 0 => tileObl hok)
    (fun q _ => match q with | 0 => SparseCore.Cfg.VecSplit.of_plain (vecSplit m a))
    m ρ main (fun d => Pipeline.ghostOn (pcfgs (F := F)) (adm a) EP Finset.univ d) (fun d => FIN m d) (u₀ a) (sep_elim_left.trans (hu₀ m a))
    (fun κ d => hmain ρ d hok κ) (fun d => fq m d) (fun d => hfin m d) (QC m) (fun _ h hz => ⟨h, hz⟩)

end Cert.KernelIdeal.Combine

end
-- ==== Proof.Ready.lean ====
/- The precondition read as ranges: of the positions, of the blocks they lie in, and of the experts the blocks are of; and from these
   what the run of the program asks of its memory. It reads integers only, so it is stated for any interpretation of the floats. -/
module

public import proofs.«01_k».proof.Proof.Launch
public import proofs.«01_k».proof.Proof.Gen.Pre_in_range
public import Idealize.ShloMosaic.Lib.ReduceAll
public import Idealize.ShloMosaic.Lib.Routing.Words

@[expose] public section

set_option maxRecDepth 16384

noncomputable section

namespace Cert.Ready

open Idealize.ShloMosaic
open Cert.Pre_in_range
open Cert.KernelIdeal.Combine (argLoc pLoc Ok)
open Cert.KernelIdeal (grid1 pre1 pcfg1 k1_cond1)
open Cert.KernelIdeal.Gen (N_1)

/-- A word that is at least 0 and below a bound as a signed number is below it as an unsigned one. -/
theorem toNat_lt_of_signed (v b : BitVec 32) (hb : b.toNat < 2 ^ 31) (h0 : (0#32).toInt ≤ v.toInt) (h1 : v.toInt < b.toInt) : v.toNat < b.toNat := by
  have e0 : (0#32).toInt = 0 := by decide
  rw [e0, BitVec.toInt_eq_toNat_cond] at h0
  rw [BitVec.toInt_eq_toNat_cond, BitVec.toInt_eq_toNat_cond, if_pos (show 2 * b.toNat < 2 ^ 32 by omega)] at h1
  have := v.isLt
  split at h0 <;> rename_i hv
  · rw [if_pos hv] at h1; omega
  · omega

/-- Rounding a quotient towards zero is rounding it down when neither number is negative. -/
theorem floor_word {F : FTy → Type} [FloatOps F] (p : IVec S4096 32) (x : S4096.Idx) (h : (p x).toNat < 6144) :
    fn_floor_divide (F := F) p (constantI S_ 32 256#32) x = BitVec.ofNat 32 ((p x).toNat / 256) := by
  have ep : p x = BitVec.ofNat 32 (p x).toNat := BitVec.eq_of_toNat_eq (by rw [BitVec.toNat_ofNat]; omega)
  generalize (p x).toNat = n at h ep
  have hq : Host.divsi p (broadcastInDim S4096 ![] Facts.bcast_S_S4096 (constantI S_ 32 256#32)) x = BitVec.ofNat 32 (n / 256) := by
    show IntOp.divsi .host (p x) 256#32 = _
    rw [ep]; exact Routing.divsi_word .host (by omega) (by omega) (by omega)
  have hr : Host.remsi p (broadcastInDim S4096 ![] Facts.bcast_S_S4096 (constantI S_ 32 256#32)) x = BitVec.ofNat 32 (n % 256) := by
    show IntOp.remsi .host (p x) 256#32 = _
    rw [ep]; exact Routing.remsi_word .host (by omega) (by omega) (by omega)
  have hne (z : S_.Idx) : ¬ IntOp.andi (IntOp.cmpi .ne (signi p x) (signi (constantI S_ 32 256#32) z)) (IntOp.cmpi .ne (IntOp.remsi .host (p x) 256#32) 0#32) = 1#1 := by
    rw [show signi (constantI S_ 32 256#32) z = 1#32 from (show (if 256#32 = 0 then 0 else if (256#32).msb then -1 else 1) = 1#32 by decide)]
    intro hc
    obtain ⟨h1, h2⟩ := IntOp.andi_eq_one.1 hc
    rw [show IntOp.remsi .host (p x) 256#32 = BitVec.ofNat 32 (n % 256) from hr] at h2
    rcases Nat.eq_zero_or_pos n with h0 | h0
    · subst h0; exact absurd h2 (by decide)
    · have hs : signi p x = 1#32 := by
        unfold signi
        rw [ep, if_neg, if_neg]
        · rfl
        · rw [Bool.not_eq_true, BitVec.msb_eq_false_iff_two_mul_lt, BitVec.toNat_ofNat]; omega
        · intro hz
          have := congrArg BitVec.toNat hz
          rw [BitVec.toNat_ofNat] at this
          have e0 : (0 : BitVec 32).toNat = 0 := rfl
          omega
      rw [hs] at h1
      exact absurd h1 (by decide)
  exact (if_neg (hne _)).trans hq

/-- Block `x / 256` is in use when the first word of the table of counts is above it. -/
theorem cond_of_lt (t : Fin grid1.N) (n : BitVec 32) (h : (BitVec.ofNat 32 t.val).toInt < n.toInt) : k1_cond1 (grid1.coords t) n = 1#1 := by
  have hi : ∀ t : Fin grid1.N, (grid1.coords t 0).val = t.val := by decide +kernel
  unfold k1_cond1
  rw [hi]
  show IntOp.cmpi .ne ((IntOp.cmpi .slt (BitVec.ofNat 32 t.val) n).setWidth 32) 0#32 = 1#1
  rw [IntOp.cmpi_slt.2 h]
  decide

/-- What the predicate says of the tables and the positions. -/
theorem ranges {F : FTy → Type} [FloatOps F] (a0 a1 a2 : FVec F S2048x1024 .f32) (a3 : FVec F S1024x2048 .f32) (a4 : FVec F S1x1024 .f32)
    (a5 : FVec F S6144x1024 .f32) (a6 a7 : FVec F S8x768x1024 .f32) (a8 : FVec F S8x1024x768 .f32) (T : IVec S128 32) (N : IVec S8 32)
    (p : IVec S4096 32) (w : FVec F S2048x32 .f32) (e : Cert.Pre_in_range.fn (F := F) a0 a1 a2 a3 a4 a5 a6 a7 a8 T N p w = fun _ => 1#1) :
    (∀ x, (p x).toNat < 6144) ∧ (∀ x, (BitVec.ofNat 32 ((p x).toNat / 256)).toInt < (N (ValueIdx.ix1 0)).toInt) ∧ ∀ x, (T x).toNat < 8 := by
  haveI : Subsingleton (S_).Idx := ⟨fun a b => funext fun i => i.elim0⟩
  obtain ⟨ep, eT⟩ := IntOp.andi_eq_one.1 (congrFun e (fun a => a.elim0))
  have hp : ∀ x, (p x).toNat < 6144 := fun x => by
    obtain ⟨e0, e1⟩ := IntOp.andi_eq_one.1 (IntOp.andi_eq_one.1 (Host.reduce_andi_all _ _ _ _ (fun a => a.elim0) ep x)).1
    exact toNat_lt_of_signed _ 6144#32 (by decide) (IntOp.cmpi_sge.1 e0) (IntOp.cmpi_slt.1 e1)
  refine ⟨hp, fun x => ?_, fun x => ?_⟩
  · have h := IntOp.cmpi_slt.1 (IntOp.andi_eq_one.1 (Host.reduce_andi_all _ _ _ _ (fun a => a.elim0) ep x)).2
    rw [floor_word p x (hp x)] at h
    refine lt_of_lt_of_eq h (congrArg BitVec.toInt ?_)
    refine (shapeCast_apply _ _ _ (ValueIdx.ix1 (0 : Fin 1)) rfl).trans ?_
    refine congrArg N (funext fun a => Fin.ext ?_)
    match a with
    | ⟨0, _⟩ => rfl
  · obtain ⟨e0, e1⟩ := IntOp.andi_eq_one.1 (Host.reduce_andi_all _ _ _ _ (fun a => a.elim0) eT x)
    exact toNat_lt_of_signed _ 8#32 (by decide) (IntOp.cmpi_sge.1 e0) (IntOp.cmpi_slt.1 e1)

/-! ## What the run asks of its memory -/

variable {F : FTy → Type} [FloatOps F] (m : (ℓ : Loc Cert.KernelIdeal.nD Cert.KernelIdeal.τ Cert.KernelIdeal.sig) → Buf (Elt F) ℓ)

/-- The two tables, as the memory holds them. -/
def tables : pre1.Contents (Elt F) := fun k => m (argLoc 0 (pre1.ref k))

theorem tables_zero : (tables m 0 : S128.Idx → BitVec 32) = m (argLoc 0 Cert.KernelIdeal.main_arg9) := rfl
theorem tables_one : (tables m 1 : S8.Idx → BitVec 32) = m (argLoc 0 Cert.KernelIdeal.main_arg10) := rfl

/-- Every block's expert is one of the eight, so its weights lie inside the arrays. -/
theorem tables_ok (hT : ∀ x, ((m (argLoc 0 Cert.KernelIdeal.main_arg9) : S128.Idx → BitVec 32) x).toNat < 8) : Cert.KernelIdeal.ok1 (tables m) := by
  refine ⟨fun i => ⟨fun a => ?_, .inl rfl⟩, fun i => ⟨fun a => ?_, .inl rfl⟩, fun i => ⟨fun a => ?_, .inl rfl⟩⟩
  · match a with
    | ⟨0, _⟩ =>
      show (((tables m 0 : S128.Idx → BitVec 32) _).toNat + 1) * 1 ≤ 8
      rw [tables_zero, Nat.mul_one]
      exact hT _
    | ⟨1, _⟩ => show (0 + 1) * 768 ≤ 768; omega
    | ⟨2, _⟩ => show (0 + 1) * 1024 ≤ 1024; omega
  · match a with
    | ⟨0, _⟩ =>
      show (((tables m 0 : S128.Idx → BitVec 32) _).toNat + 1) * 1 ≤ 8
      rw [tables_zero, Nat.mul_one]
      exact hT _
    | ⟨1, _⟩ => show (0 + 1) * 768 ≤ 768; omega
    | ⟨2, _⟩ => show (0 + 1) * 1024 ≤ 1024; omega
  · match a with
    | ⟨0, _⟩ =>
      show (((tables m 0 : S128.Idx → BitVec 32) _).toNat + 1) * 1 ≤ 8
      rw [tables_zero, Nat.mul_one]
      exact hT _
    | ⟨1, _⟩ => show (0 + 1) * 1024 ≤ 1024; omega
    | ⟨2, _⟩ => show (0 + 1) * 768 ≤ 768; omega

/-- The tables with what they satisfy. -/
def adm (hT : ∀ x, ((m (argLoc 0 Cert.KernelIdeal.main_arg9) : S128.Idx → BitVec 32) x).toNat < 8) : (pcfg1 (F := F)).Adm := ⟨tables m, tables_ok m hT⟩

/-- The run may start from a memory whose positions and tables are in range. -/
theorem ok (hp : ∀ x, ((m (pLoc 0) : S4096.Idx → BitVec 32) x).toNat < 6144)
    (hn : ∀ x, (BitVec.ofNat 32 (((m (pLoc 0) : S4096.Idx → BitVec 32) x).toNat / 256)).toInt
      < ((m (argLoc 0 Cert.KernelIdeal.main_arg10) : S8.Idx → BitVec 32) (ValueIdx.ix1 0)).toInt)
    (hT : ∀ x, ((m (argLoc 0 Cert.KernelIdeal.main_arg9) : S128.Idx → BitVec 32) x).toNat < 8) : Ok m (adm m hT) where
  tab0 d := by obtain rfl : d = 0 := Subsingleton.elim _ _; rfl
  tab1 d := by obtain rfl : d = 0 := Subsingleton.elim _ _; rfl
  expert d t := by obtain rfl : d = 0 := Subsingleton.elim _ _; exact hT _
  inUse d x := by
    obtain rfl : d = 0 := Subsingleton.elim _ _
    have h := hp (ValueIdx.ix1 x)
    refine ⟨⟨_, by rw [N_1]; omega⟩, rfl, ?_⟩
    refine cond_of_lt _ _ (lt_of_lt_of_eq (hn (ValueIdx.ix1 x)) (congrArg BitVec.toInt ?_))
    show (m (argLoc 0 Cert.KernelIdeal.main_arg10) : S8.Idx → BitVec 32) _ = (m (argLoc 0 Cert.KernelIdeal.main_arg10) : S8.Idx → BitVec 32) _
    refine congrArg (m (argLoc 0 Cert.KernelIdeal.main_arg10) : S8.Idx → BitVec 32) (funext fun a => Fin.ext ?_)
    match a with
    | ⟨0, _⟩ => rfl

end Cert.Ready

end
-- ==== Proof.Same.lean ====
/- The two readings of the kernel are of one program: they differ in the names of their parts only, and every part of one is the
   part of the other of that name. A run of the one is so a run of the other. -/
module

public import proofs.«01_k».proof.Defs
public import proofs.«01_k».proof.Proof.Gen.Kernel
public import proofs.«01_k».proof.Proof.Gen.KernelIdeal
public import Idealize.ShloMosaic.Lib.StableHlo.Run

@[expose] public section

noncomputable section

namespace Cert.Same

open Idealize.ShloMosaic Idealize.SL.Sem
variable {F : FTy → Type} {nD : Nat} {τ : Topo} {sig : RefSig} {Λ₀ : Labels}

/-! ## The program, its parts given -/

/-- What a call on the SparseCores is made of: where it runs, its body's label, and the semaphores it starts and ends by. -/
structure Parts (τ : Topo) (sig : RefSig) (Λ₀ : Labels) where
  kind : Fin 1 → Kind
  nCore : Fin 1 → Nat
  nSub : Fin 1 → Nat
  hkind : ∀ q, kind q ≠ .tc
  hCore : ∀ q, nCore q ≤ τ.nSC
  hSub : ∀ q, nSub q ≤ τ.nSub
  label : Λ₀.Label
  arg : Λ₀.Args label
  start : Sem sig
  done : Sem sig
  go : Sem sig
  taskDone : Sem sig

variable (K : Parts τ sig Λ₀) (P : Fin 2 → Pipeline.PCfg sig Λ₀ (Elt F))

/-- The call on the SparseCores, beside the calls `P` on the TensorCore. -/
abbrev scOf : SparseCore.Cfg τ sig (Pipeline.Sig Λ₀ (Fin 2) fun p => (P p).Adm) 1 where
  kind := K.kind
  nCore := K.nCore
  nSub := K.nSub
  hkind := K.hkind
  hCore := K.hCore
  hSub := K.hSub
  body := fun | 0 => Pipeline.kernel K.label | ⟨_ + 1, h⟩ => absurd h (Nat.not_lt.2 (Nat.le_add_left _ _))
  args := fun | 0 => K.arg | ⟨_ + 1, h⟩ => absurd h (Nat.not_lt.2 (Nat.le_add_left _ _))
  start := K.start
  done := K.done
  go := K.go
  taskDone := K.taskDone

/-- The three calls in their order. -/
def mainOf : Dev nD → Prog (TpuEff nD τ sig (Elt F) (SparseCore.Sig (Pipeline.Sig Λ₀ (Fin 2) fun p => (P p).Adm) 1) .tc) PUnit := fun d => do
  Prog.lift (.customCall (SparseCore.inner (Pipeline.entry 0)) ())
  Prog.lift (.customCall (SparseCore.inner (Pipeline.entry 1)) ())
  (scOf K P).run d 0
  pure ⟨⟩

/-- The program of these parts and of the bodies `D` runs from a memory and ends as `Q` says. -/
def Runs (D : Defs nD τ sig (Elt F) Λ₀) (m : (ℓ : Loc nD τ sig) → Buf (Elt F) ℓ) (g : Dev nD → PrngReg) (Q : PUnit × MemSt nD τ sig (Elt F) → Prop) : Prop :=
  θ_run ((scOf K P).defs (Pipeline.defs P D)) ((scOf K P).threads (mainOf K P)) ⟨m, fun _ => 0, g⟩ Q

/-! ## The two programs -/

variable [FloatOps F]

/-- The one program's parts. -/
abbrev bitParts : Parts Kernel.τ Kernel.sig Kernel.Λ₀ :=
  ⟨Kernel.scKind, Kernel.scNCore, Kernel.scNSub, Kernel.Facts₀.hscKind, Kernel.Facts₀.hscCore, Kernel.Facts₀.hscSub, 2, ⟨⟩,
    Kernel.sc_start, Kernel.sc_done, Kernel.sc_go, Kernel.sc_taskDone⟩

/-- The other's. -/
abbrev idealParts : Parts KernelIdeal.τ KernelIdeal.sig KernelIdeal.Λ₀ :=
  ⟨KernelIdeal.scKind, KernelIdeal.scNCore, KernelIdeal.scNSub, KernelIdeal.Facts₀.hscKind, KernelIdeal.Facts₀.hscCore, KernelIdeal.Facts₀.hscSub, 2, ⟨⟩,
    KernelIdeal.sc_start, KernelIdeal.sc_done, KernelIdeal.sc_go, KernelIdeal.sc_taskDone⟩

theorem parts_eq : bitParts = idealParts := by exact rfl

theorem calls_eq : (Kernel.pcfgs (F := F)) = KernelIdeal.pcfgs := by
  funext p
  match p with
  | 0 => exact rfl
  | 1 => exact rfl

theorem bodies_eq : (Kernel.defs₀ (F := F)) = KernelIdeal.defs₀ := by
  funext p l a
  match p, l, a with
  | .tc, 0, (t, s) => exact rfl
  | .tc, 1, (t, s) => exact rfl
  | .tc, 2, _ => exact rfl
  | .scVector c s, 2, _ => exact rfl
  | .scVector c s, 1, _ => exact rfl
  | .scVector c s, 0, _ => exact rfl
  | .scScalar c, 2, _ => exact rfl
  | .scScalar c, 1, _ => exact rfl
  | .scScalar c, 0, _ => exact rfl

theorem ideal_runs (m : (ℓ : Loc KernelIdeal.nD KernelIdeal.τ KernelIdeal.sig) → Buf (Elt F) ℓ) (g : Dev KernelIdeal.nD → PrngReg)
    (Q : PUnit × MemSt KernelIdeal.nD KernelIdeal.τ KernelIdeal.sig (Elt F) → Prop)
    (h : θ_run (KernelIdeal.defs (F := F)) KernelIdeal.threads ⟨m, fun _ => 0, g⟩ Q) :
    Runs idealParts KernelIdeal.pcfgs KernelIdeal.defs₀ m g Q := h

theorem kernel_runs (m : (ℓ : Loc Kernel.nD Kernel.τ Kernel.sig) → Buf (Elt F) ℓ) (g : Dev Kernel.nD → PrngReg)
    (Q : PUnit × MemSt Kernel.nD Kernel.τ Kernel.sig (Elt F) → Prop)
    (h : Runs bitParts Kernel.pcfgs Kernel.defs₀ m g Q) :
    θ_run (Kernel.defs (F := F)) Kernel.threads ⟨m, fun _ => 0, g⟩ Q := h

/-- A run of the one is a run of the other. -/
theorem same (m : (ℓ : Loc KernelIdeal.nD KernelIdeal.τ KernelIdeal.sig) → Buf (Elt F) ℓ) (g : Dev KernelIdeal.nD → PrngReg)
    (Q : PUnit × MemSt KernelIdeal.nD KernelIdeal.τ KernelIdeal.sig (Elt F) → Prop)
    (h : θ_run (KernelIdeal.defs (F := F)) KernelIdeal.threads ⟨m, fun _ => 0, g⟩ Q) :
    θ_run (Kernel.defs (F := F)) Kernel.threads ⟨m, fun _ => 0, g⟩ Q := by
  refine kernel_runs m g Q ?_
  have e : Runs idealParts (Kernel.pcfgs (F := F)) Kernel.defs₀ m g Q := by
    rw [calls_eq, bodies_eq]
    exact ideal_runs m g Q h
  exact e

end Cert.Same

end
-- ==== Proof.Mlp.lean ====
/- The gated network over the extended reals, element by element: what the kernel's two calls on the TensorCore leave in a
   row, and what the reference's operations leave there. -/
module

public import proofs.«01_k».proof.Proof.Launch
public import proofs.«01_k».proof.Proof.Gen.ReferenceIdeal.Run
public import Idealize.ShloMosaic.Lib.ValueIdx
public import Idealize.ShloMosaic.Lib.ValueLayout
public import Idealize.ShloMosaic.Lib.IdealHost
public import Idealize.ShloMosaic.Lib.MatmulPlain
public import Idealize.ShloMosaic.Lib.StackMember
public import Idealize.ShloMosaic.Lib.Pipeline.Value

@[expose] public section

noncomputable section

namespace Cert.Mlp

open Idealize.ShloMosaic Idealize.SL.Sem
open Idealize.ShloMosaic.ValueIdx (ix0 ix1 ix2 ix3 eq_ix1 eq_ix2)
open scoped BigOperators

/-! ## The network -/

/-- A number times its logistic. -/
def silu (g : EReal) : EReal := g * Ideal.logistic g

/-- One output of the network: a row `x`, the two weights that widen it, one row of the weights that narrow it. -/
def net {k n : ℕ} (x : Fin k → EReal) (wg wu : Fin n → Fin k → EReal) (wd : Fin n → EReal) : EReal :=
  ∑ j : Fin n, silu (∑ i : Fin k, x i * wg j i) * (∑ i : Fin k, x i * wu j i) * wd j

/-! ## The kernel's products -/

section Kernel
open Cert.KernelIdeal Cert.KernelIdeal.Gen

/-- A product with the right side transposed, onto zero, at a row and a column. -/
theorem mul_t {M K N : ℕ} (lhs : FVec Ideal ⟨2, ![M, K]⟩ .f32) (rhs : FVec Ideal ⟨2, ![N, K]⟩ .f32) (r : Fin M) (c : Fin N) :
    matmul (DotDims.transposedRhs M K N) none lhs rhs (constant ⟨2, ![M, N]⟩ .f32 0x00000000#32) (ix2 r c)
      = ∑ k : Fin K, lhs (ix2 r k) * rhs (ix2 c k) := by
  refine (Ideal.matmul_transposedRhs_apply none lhs rhs _ r c).trans ?_
  rw [ValueIdx.constant_apply, Ideal.ofBits_zero_f32, zero_add]

/-- A row of a block of the experts' rows. -/
theorem pay1_apply (v4 : FVec Ideal S256x1024 .f32) (v5 v8 : FVec Ideal S1x768x1024 .f32) (v14 : FVec Ideal S1x1024x768 .f32) (r : Fin 256) (q : Fin 1024) :
    k1_pay1 (F := Ideal) v4 v5 v8 v14 (ix2 r q)
      = net (fun i => v4 (ix2 r i)) (fun j i => v5 (ix3 (0 : Fin 1) j i)) (fun j i => v8 (ix3 (0 : Fin 1) j i)) (fun j => v14 (ix3 (0 : Fin 1) q j)) := by
  unfold k1_pay1
  refine (mul_t (M := 256) (K := 768) (N := 1024) _ _ r q).trans ?_
  unfold net
  refine Finset.sum_congr rfl fun j _ => ?_
  rw [ValueIdx.shapeCast_1ab_ab_apply, ValueIdx.mulf_apply, ValueIdx.mulf_apply]
  have h1 : matmul dot_S256x1024_S768x1024_S256x768_1_1_0_0_n_n none v4 (shapeCast S768x1024 v5 shapeCasts_S1x768x1024_S768x1024) (constant S256x768 .f32 0x00000000#32) (ix2 r j)
      = ∑ i : Fin 1024, v4 (ix2 r i) * v5 (ix3 (0 : Fin 1) j i) := by
    refine (mul_t (M := 256) (K := 1024) (N := 768) _ _ r j).trans ?_
    exact Finset.sum_congr rfl fun i _ => by rw [ValueIdx.shapeCast_1ab_ab_apply]
  have h2 : matmul dot_S256x1024_S768x1024_S256x768_1_1_0_0_n_n none v4 (shapeCast S768x1024 v8 shapeCasts_S1x768x1024_S768x1024) (constant S256x768 .f32 0x00000000#32) (ix2 r j)
      = ∑ i : Fin 1024, v4 (ix2 r i) * v8 (ix3 (0 : Fin 1) j i) := by
    refine (mul_t (M := 256) (K := 1024) (N := 768) _ _ r j).trans ?_
    exact Finset.sum_congr rfl fun i _ => by rw [ValueIdx.shapeCast_1ab_ab_apply]
  rw [← h1, ← h2]
  rfl

/-- A row of a block of the shared expert's gated rows. -/
theorem pay0_apply (v0 : FVec Ideal S256x1024 .f32) (v1 v3 : FVec Ideal S2048x1024 .f32) (v8 : FVec Ideal S1024x2048 .f32) (v10 : FVec Ideal S1x1024 .f32)
    (r : Fin 256) (q : Fin 1024) :
    k0_pay1 (F := Ideal) v0 v1 v3 v8 v10 (ix2 r q)
      = Ideal.logistic (∑ i : Fin 1024, v0 (ix2 r i) * v10 (ix2 (0 : Fin 1) i))
        * net (fun i => v0 (ix2 r i)) (fun j i => v1 (ix2 j i)) (fun j i => v3 (ix2 j i)) (fun j => v8 (ix2 q j)) := by
  unfold k0_pay1
  rw [ValueIdx.mulf_apply]
  congr 1
  · refine (broadcastTo_apply _ _ _ (ix2 r (0 : Fin 1)) fun a => ?_).trans ?_
    · match a with
      | ⟨0, _⟩ => rfl
      | ⟨1, _⟩ => rfl
    · exact congrArg Ideal.logistic (mul_t (M := 256) (K := 1024) (N := 1) _ _ r 0)
  · refine (mul_t (M := 256) (K := 2048) (N := 1024) _ _ r q).trans ?_
    unfold net
    refine Finset.sum_congr rfl fun j _ => ?_
    rw [ValueIdx.mulf_apply, ValueIdx.mulf_apply]
    have h1 := mul_t (M := 256) (K := 1024) (N := 2048) v0 v1 r j
    have h2 := mul_t (M := 256) (K := 1024) (N := 2048) v0 v3 r j
    rw [← h1, ← h2]
    rfl

end Kernel

/-! ## The reference's products -/

section Reference
open Cert.ReferenceIdeal Cert.ReferenceIdeal.Gen

/-- One over one plus the exponential of the negation is the logistic. -/
theorem logistic_host {s : Shape} (h : S_.BroadcastsInDim s ![]) (g : FVec Ideal s .f32) (y : s.Idx) :
    Host.divf (broadcastInDim s ![] h (constant S_ .f32 0x3F800000#32)) (addf (broadcastInDim s ![] h (constant S_ .f32 0x3F800000#32)) (Host.exp (Host.negf g))) y
      = Ideal.logistic (g y) := by
  rw [ValueIdx.hostDivf_apply, ValueIdx.addf_apply, ValueIdx.broadcastInDim_scalar_apply, ValueIdx.constant_apply, Ideal.ofBits_one_f32]
  rfl

/-- Expert `e`'s matrix of a stack, its rows and columns exchanged. -/
abbrev matT (e : ℕ) (W : S8x768x1024.Idx → Ideal .f32) (h : S8x768x1024.Slices ![e, 0, 0] S1x768x1024) : S1024x768.Idx → Ideal .f32 :=
  transpose S1024x768 [1, 0] (shapeCast _ (extractStridedSlice S1x768x1024 ![e, 0, 0] W h) shapeCasts_S1x768x1024_S768x1024) transposes_S768x1024_S1024x768_1_0

/-- The same for the stack of matrices that narrow. -/
abbrev matD (e : ℕ) (W : S8x1024x768.Idx → Ideal .f32) (h : S8x1024x768.Slices ![e, 0, 0] S1x1024x768) : S768x1024.Idx → Ideal .f32 :=
  transpose S768x1024 [1, 0] (shapeCast _ (extractStridedSlice S1x1024x768 ![e, 0, 0] W h) shapeCasts_S1x1024x768_S1024x768) transposes_S1024x768_S768x1024_1_0

theorem matT_apply (e : Fin 8) (W : S8x768x1024.Idx → Ideal .f32) (h : S8x768x1024.Slices ![e.val, 0, 0] S1x768x1024) (i : Fin 1024) (j : Fin 768) :
    matT e.val W h (ix2 i j) = W (ix3 e j i) := by
  unfold matT
  rw [ValueIdx.transpose_ix2_apply, ValueIdx.shapeCast_1ab_ab_apply]
  refine extractStridedSlice_apply _ _ _ _ _ fun a => ?_
  match a with
  | ⟨0, _⟩ => rfl
  | ⟨1, _⟩ => show j.val = 0 + j.val; omega
  | ⟨2, _⟩ => show i.val = 0 + i.val; omega

theorem matD_apply (e : Fin 8) (W : S8x1024x768.Idx → Ideal .f32) (h : S8x1024x768.Slices ![e.val, 0, 0] S1x1024x768) (j : Fin 768) (q : Fin 1024) :
    matD e.val W h (ix2 j q) = W (ix3 e q j) := by
  unfold matD
  rw [ValueIdx.transpose_ix2_apply, ValueIdx.shapeCast_1ab_ab_apply]
  refine extractStridedSlice_apply _ _ _ _ _ fun a => ?_
  match a with
  | ⟨0, _⟩ => rfl
  | ⟨1, _⟩ => show q.val = 0 + q.val; omega
  | ⟨2, _⟩ => show j.val = 0 + j.val; omega

/-- All the rows widened by expert `e`. -/
abbrev wide (e : ℕ) (X : S6144x1024.Idx → Ideal .f32) (W : S8x768x1024.Idx → Ideal .f32) (h : S8x768x1024.Slices ![e, 0, 0] S1x768x1024) : FVec Ideal S6144x768 .f32 :=
  Host.dotGeneral (F := Ideal) (φ₁ := .f32) (φ₂ := .f32) dot_S6144x1024_S1024x768_S6144x768_1_0_0_1_n_n none X (matT e W h)

theorem wide_apply (e : Fin 8) (X : S6144x1024.Idx → Ideal .f32) (W : S8x768x1024.Idx → Ideal .f32) (h : S8x768x1024.Slices ![e.val, 0, 0] S1x768x1024)
    (a : Fin 6144) (j : Fin 768) : wide e.val X W h (ix2 a j) = ∑ i : Fin 1024, X (ix2 a i) * W (ix3 e j i) := by
  refine (StackMember.dotGeneral_plain_apply (m := 6144) (k := 1024) (n := 768) none X (matT e.val W h) a j).trans ?_
  exact Finset.sum_congr rfl fun i _ => by rw [matT_apply]

/-- All the rows through expert `e`. -/
abbrev expert (e : ℕ) (X : S6144x1024.Idx → Ideal .f32) (Wg Wu : S8x768x1024.Idx → Ideal .f32) (Wd : S8x1024x768.Idx → Ideal .f32)
    (h : S8x768x1024.Slices ![e, 0, 0] S1x768x1024) (hd : S8x1024x768.Slices ![e, 0, 0] S1x1024x768) : FVec Ideal S6144x1024 .f32 :=
  Host.dotGeneral (F := Ideal) (φ₁ := .f32) (φ₂ := .f32) dot_S6144x768_S768x1024_S6144x1024_1_0_0_1_n_n none
    (mulf (mulf (wide e X Wg h) (Host.divf (broadcastInDim S6144x768 ![] bcast_S_S6144x768 (constant S_ .f32 0x3F800000#32))
      (addf (broadcastInDim S6144x768 ![] bcast_S_S6144x768 (constant S_ .f32 0x3F800000#32)) (Host.exp (Host.negf (wide e X Wg h)))))) (wide e X Wu h))
    (matD e Wd hd)

theorem expert_apply (e : Fin 8) (X : S6144x1024.Idx → Ideal .f32) (Wg Wu : S8x768x1024.Idx → Ideal .f32) (Wd : S8x1024x768.Idx → Ideal .f32)
    (h : S8x768x1024.Slices ![e.val, 0, 0] S1x768x1024) (hd : S8x1024x768.Slices ![e.val, 0, 0] S1x1024x768) (a : Fin 6144) (q : Fin 1024) :
    expert e.val X Wg Wu Wd h hd (ix2 a q)
      = net (fun i => X (ix2 a i)) (fun j i => Wg (ix3 e j i)) (fun j i => Wu (ix3 e j i)) (fun j => Wd (ix3 e q j)) := by
  refine (StackMember.dotGeneral_plain_apply (m := 6144) (k := 768) (n := 1024) none _ (matD e.val Wd hd) a q).trans ?_
  unfold net
  refine Finset.sum_congr rfl fun j _ => ?_
  rw [matD_apply, ValueIdx.mulf_apply, ValueIdx.mulf_apply, logistic_host, wide_apply, wide_apply]
  rfl

/-- The same at an expert's number. -/
theorem expert_at (e : ℕ) (he : e < 8) (X : S6144x1024.Idx → Ideal .f32) (Wg Wu : S8x768x1024.Idx → Ideal .f32) (Wd : S8x1024x768.Idx → Ideal .f32)
    (h : S8x768x1024.Slices ![e, 0, 0] S1x768x1024) (hd : S8x1024x768.Slices ![e, 0, 0] S1x1024x768) (a : Fin 6144) (q : Fin 1024) :
    expert e X Wg Wu Wd h hd (ix2 a q)
      = net (fun i => X (ix2 a i)) (fun j i => Wg (ix3 (⟨e, he⟩ : Fin 8) j i)) (fun j i => Wu (ix3 (⟨e, he⟩ : Fin 8) j i)) (fun j => Wd (ix3 (⟨e, he⟩ : Fin 8) q j)) :=
  expert_apply ⟨e, he⟩ X Wg Wu Wd h hd a q

/-- Each row's expert, from the table of the blocks' experts. -/
abbrev owner (T : IVec S128 32) : IVec S6144 32 :=
  shapeCast _ (broadcastInDim S24x256 ![0] bcast_S24_S24x256_0 (extractStridedSlice S24 ![0] T slices_S128_S24_0)) shapeCasts_S24x256_S6144

theorem owner_apply (T : IVec S128 32) (a : Fin 6144) : owner T (ix1 a) = T (ix1 (⟨a.val / 256, by omega⟩ : Fin 128)) := by
  refine (shapeCast_apply _ _ _ (ix2 (⟨a.val / 256, by omega⟩ : Fin 24) (⟨a.val % 256, by omega⟩ : Fin 256)) ?_).trans ?_
  · rw [Shape.rowMajor_val_one, Shape.rowMajor_val_two]
    show a.val / 256 * 256 + a.val % 256 = a.val
    omega
  refine (broadcastInDim_apply _ _ _ _ (ix1 (⟨a.val / 256, by omega⟩ : Fin 24)) fun b => ?_).trans ?_
  · obtain rfl : b = 0 := Subsingleton.elim _ _
    rfl
  refine extractStridedSlice_apply _ _ _ _ _ fun b => ?_
  obtain rfl : b = 0 := Subsingleton.elim _ _
  show a.val / 256 = 0 + a.val / 256
  omega

/-- One where a row belongs to expert `e`, zero elsewhere, spread over the row. -/
abbrev mask (e : ℕ) (T : IVec S128 32) : FVec Ideal S6144x1024 .f32 :=
  broadcastInDim S6144x1024 ![0, 1] bcast_S6144x1_S6144x1024_0_1 (id (broadcastInDim S6144x1 ![0] bcast_S6144_S6144x1_0
    (select (cmpi .eq (owner T) (broadcastInDim S6144 ![] bcast_S_S6144 (constantI S_ 32 (BitVec.ofNat 32 e))))
      (broadcastInDim S6144 ![] bcast_S_S6144 (constant S_ .f32 0x3F800000#32)) (broadcastInDim S6144 ![] bcast_S_S6144 (constant S_ .f32 0x00000000#32)))))

theorem mask_apply (e : ℕ) (T : IVec S128 32) (a : Fin 6144) (q : Fin 1024) :
    mask e T (ix2 a q) = if T (ix1 (⟨a.val / 256, by omega⟩ : Fin 128)) = BitVec.ofNat 32 e then (1 : EReal) else 0 := by
  refine (broadcastInDim_apply _ _ _ _ (ix2 a (0 : Fin 1)) fun b => ?_).trans ?_
  · match b with
    | ⟨0, _⟩ => rfl
    | ⟨1, _⟩ => rfl
  refine (broadcastInDim_apply _ _ _ _ (ix1 a) fun b => ?_).trans ?_
  · obtain rfl : b = 0 := Subsingleton.elim _ _
    rfl
  rw [ValueIdx.select_apply, ValueIdx.broadcastInDim_scalar_apply, ValueIdx.broadcastInDim_scalar_apply, ValueIdx.constant_apply, ValueIdx.constant_apply,
    Ideal.ofBits_one_f32, Ideal.ofBits_zero_f32]
  show (if IntOp.cmpi .eq (owner T (ix1 a)) (BitVec.ofNat 32 e) = 1#1 then (1 : EReal) else 0) = _
  rw [owner_apply]
  by_cases hx : T (ix1 (⟨a.val / 256, by omega⟩ : Fin 128)) = BitVec.ofNat 32 e
  · rw [if_pos hx, if_pos (IntOp.cmpi_eq.2 hx)]
  · rw [if_neg hx, if_neg fun h => hx (IntOp.cmpi_eq.1 h)]

/-- The reference's experts' rows: the eight experts' rows, each times its mask, added up from zero. -/
def refHs (X : S6144x1024.Idx → Ideal .f32) (Wg Wu : S8x768x1024.Idx → Ideal .f32) (Wd : S8x1024x768.Idx → Ideal .f32) (T : IVec S128 32) : FVec Ideal S6144x1024 .f32 :=
  addf (addf (addf (addf (addf (addf (addf (addf (broadcastInDim S6144x1024 ![] bcast_S_S6144x1024 (constant S_ .f32 0x00000000#32))
    (mulf (mask 0 T) (expert 0 X Wg Wu Wd slices_S8x768x1024_S1x768x1024_0_0_0 slices_S8x1024x768_S1x1024x768_0_0_0)))
    (mulf (mask 1 T) (expert 1 X Wg Wu Wd slices_S8x768x1024_S1x768x1024_1_0_0 slices_S8x1024x768_S1x1024x768_1_0_0)))
    (mulf (mask 2 T) (expert 2 X Wg Wu Wd slices_S8x768x1024_S1x768x1024_2_0_0 slices_S8x1024x768_S1x1024x768_2_0_0)))
    (mulf (mask 3 T) (expert 3 X Wg Wu Wd slices_S8x768x1024_S1x768x1024_3_0_0 slices_S8x1024x768_S1x1024x768_3_0_0)))
    (mulf (mask 4 T) (expert 4 X Wg Wu Wd slices_S8x768x1024_S1x768x1024_4_0_0 slices_S8x1024x768_S1x1024x768_4_0_0)))
    (mulf (mask 5 T) (expert 5 X Wg Wu Wd slices_S8x768x1024_S1x768x1024_5_0_0 slices_S8x1024x768_S1x1024x768_5_0_0)))
    (mulf (mask 6 T) (expert 6 X Wg Wu Wd slices_S8x768x1024_S1x768x1024_6_0_0 slices_S8x1024x768_S1x1024x768_6_0_0)))
    (mulf (mask 7 T) (expert 7 X Wg Wu Wd slices_S8x768x1024_S1x768x1024_7_0_0 slices_S8x1024x768_S1x1024x768_7_0_0))

/-- A sum over eight experts in which one alone has a mask that is not zero. -/
theorem pick (f : Fin 8 → EReal) (v : BitVec 32) (e : Fin 8) (hv : v = BitVec.ofNat 32 e.val) :
    ((((((((0 + (if v = 0#32 then (1 : EReal) else 0) * f 0) + (if v = 1#32 then (1 : EReal) else 0) * f 1) + (if v = 2#32 then (1 : EReal) else 0) * f 2)
      + (if v = 3#32 then (1 : EReal) else 0) * f 3) + (if v = 4#32 then (1 : EReal) else 0) * f 4) + (if v = 5#32 then (1 : EReal) else 0) * f 5)
      + (if v = 6#32 then (1 : EReal) else 0) * f 6) + (if v = 7#32 then (1 : EReal) else 0) * f 7) = f e := by
  subst hv
  fin_cases e <;> simp

/-- A row of the reference's experts' rows is its expert's network of the row. -/
theorem refHs_apply (X : S6144x1024.Idx → Ideal .f32) (Wg Wu : S8x768x1024.Idx → Ideal .f32) (Wd : S8x1024x768.Idx → Ideal .f32) (T : IVec S128 32)
    (a : Fin 6144) (q : Fin 1024) (e : Fin 8) (he : T (ix1 (⟨a.val / 256, by omega⟩ : Fin 128)) = BitVec.ofNat 32 e.val) :
    refHs X Wg Wu Wd T (ix2 a q) = net (fun i => X (ix2 a i)) (fun j i => Wg (ix3 e j i)) (fun j i => Wu (ix3 e j i)) (fun j => Wd (ix3 e q j)) := by
  unfold refHs
  simp only [ValueIdx.addf_apply, ValueIdx.mulf_apply]
  rw [mask_apply 0, mask_apply 1, mask_apply 2, mask_apply 3, mask_apply 4, mask_apply 5, mask_apply 6, mask_apply 7,
    expert_at 0 (by omega), expert_at 1 (by omega), expert_at 2 (by omega), expert_at 3 (by omega), expert_at 4 (by omega), expert_at 5 (by omega),
    expert_at 6 (by omega), expert_at 7 (by omega),
    ValueIdx.broadcastInDim_scalar_apply, ValueIdx.constant_apply, Ideal.ofBits_zero_f32]
  exact pick (fun e => net (fun i => X (ix2 a i)) (fun j i => Wg (ix3 e j i)) (fun j i => Wu (ix3 e j i)) (fun j => Wd (ix3 e q j))) _ e he

/-- The tokens widened by the shared expert. -/
abbrev wideS (X : S2048x1024.Idx → Ideal .f32) (W : S2048x1024.Idx → Ideal .f32) : FVec Ideal S2048x2048 .f32 :=
  Host.dotGeneral (F := Ideal) (φ₁ := .f32) (φ₂ := .f32) dot_S2048x1024_S1024x2048_S2048x2048_1_0_0_1_n_n none X
    (transpose S1024x2048 [1, 0] W transposes_S2048x1024_S1024x2048_1_0)

theorem wideS_apply (X W : S2048x1024.Idx → Ideal .f32) (t j : Fin 2048) : wideS X W (ix2 t j) = ∑ i : Fin 1024, X (ix2 t i) * W (ix2 j i) := by
  refine (StackMember.dotGeneral_plain_apply (m := 2048) (k := 1024) (n := 2048) none X _ t j).trans ?_
  exact Finset.sum_congr rfl fun i _ => by rw [ValueIdx.transpose_ix2_apply]

/-- The reference's gated rows of the shared expert. -/
def refGs (X Wg Wu : S2048x1024.Idx → Ideal .f32) (Wd : S1024x2048.Idx → Ideal .f32) (G : S1x1024.Idx → Ideal .f32) : FVec Ideal S2048x1024 .f32 :=
  mulf (broadcastInDim S2048x1024 ![0, 1] bcast_S2048x1_S2048x1024_0_1 (Host.divf (broadcastInDim S2048x1 ![] bcast_S_S2048x1 (constant S_ .f32 0x3F800000#32))
    (addf (broadcastInDim S2048x1 ![] bcast_S_S2048x1 (constant S_ .f32 0x3F800000#32)) (Host.exp (Host.negf
      (Host.dotGeneral (F := Ideal) (φ₁ := .f32) (φ₂ := .f32) dot_S2048x1024_S1024x1_S2048x1_1_0_0_1_n_n none X (transpose S1024x1 [1, 0] G transposes_S1x1024_S1024x1_1_0)))))))
  (Host.dotGeneral (F := Ideal) (φ₁ := .f32) (φ₂ := .f32) dot_S2048x2048_S2048x1024_S2048x1024_1_0_0_1_n_n none
    (mulf (mulf (wideS X Wg) (Host.divf (broadcastInDim S2048x2048 ![] bcast_S_S2048x2048 (constant S_ .f32 0x3F800000#32))
      (addf (broadcastInDim S2048x2048 ![] bcast_S_S2048x2048 (constant S_ .f32 0x3F800000#32)) (Host.exp (Host.negf (wideS X Wg)))))) (wideS X Wu))
    (transpose S2048x1024 [1, 0] Wd transposes_S1024x2048_S2048x1024_1_0))

/-- A row of it is the token's gate times the shared expert's network of the token. -/
theorem refGs_apply (X Wg Wu : S2048x1024.Idx → Ideal .f32) (Wd : S1024x2048.Idx → Ideal .f32) (G : S1x1024.Idx → Ideal .f32) (t : Fin 2048) (q : Fin 1024) :
    refGs X Wg Wu Wd G (ix2 t q) = Ideal.logistic (∑ i : Fin 1024, X (ix2 t i) * G (ix2 (0 : Fin 1) i))
      * net (fun i => X (ix2 t i)) (fun j i => Wg (ix2 j i)) (fun j i => Wu (ix2 j i)) (fun j => Wd (ix2 q j)) := by
  unfold refGs
  rw [ValueIdx.mulf_apply]
  congr 1
  · refine (broadcastInDim_apply _ _ _ _ (ix2 t (0 : Fin 1)) fun b => ?_).trans ?_
    · match b with
      | ⟨0, _⟩ => rfl
      | ⟨1, _⟩ => rfl
    rw [logistic_host]
    refine congrArg Ideal.logistic ((StackMember.dotGeneral_plain_apply (m := 2048) (k := 1024) (n := 1) none X _ t 0).trans ?_)
    exact Finset.sum_congr rfl fun i _ => by rw [ValueIdx.transpose_ix2_apply]
  · refine (StackMember.dotGeneral_plain_apply (m := 2048) (k := 2048) (n := 1024) none _ _ t q).trans ?_
    unfold net
    refine Finset.sum_congr rfl fun j _ => ?_
    rw [ValueIdx.transpose_ix2_apply, ValueIdx.mulf_apply, ValueIdx.mulf_apply, logistic_host, wideS_apply, wideS_apply]
    rfl

end Reference

/-! ## The two sides meet -/

section Meet
open Cert.KernelIdeal Cert.KernelIdeal.Gen Cert.KernelIdeal.Combine

variable (m : (ℓ : Loc nD τ sig) → Buf (Elt Ideal) ℓ) (d : Dev nD)

/-- The experts' rows, where every block's expert is one of the eight. -/
theorem hs_eq (hT : ∀ x : S128.Idx, ((m (argLoc d main_arg9) : S128.Idx → BitVec 32) x).toNat < 8) :
    refHs (m (argLoc d main_arg5)) (m (argLoc d main_arg6)) (m (argLoc d main_arg7)) (m (argLoc d main_arg8)) (m (argLoc d main_arg9)) = hsRows m d := by
  suffices hs : ∀ (a : Fin 6144) (q : Fin 1024), refHs (m (argLoc d main_arg5)) (m (argLoc d main_arg6)) (m (argLoc d main_arg7)) (m (argLoc d main_arg8))
      (m (argLoc d main_arg9)) (ix2 a q) = hsRows m d (ix2 a q) by
    funext y; rw [eq_ix2 y]; exact hs (y 0) (y 1)
  intro a q
  have ha := a.isLt
  have hN := N_1
  let t : Fin grid1.N := ⟨a.val / 256, by omega⟩
  have hv : (Group.expertAt (m (argLoc d main_arg9)) t).toNat < 8 := hT _
  have he : ((m (argLoc d main_arg9) : S128.Idx → BitVec 32) (ix1 (⟨a.val / 256, by omega⟩ : Fin 128))) = BitVec.ofNat 32 (expertOf m d t).val := by
    refine BitVec.eq_of_toNat_eq ?_
    show (Group.expertAt (m (argLoc d main_arg9)) t).toNat = (BitVec.ofNat 32 (min (Group.expertAt (m (argLoc d main_arg9)) t).toNat 7)).toNat
    rw [BitVec.toNat_ofNat, Nat.min_eq_left (by omega), Nat.mod_eq_of_lt (by omega)]
  refine (refHs_apply _ _ _ _ _ a q (expertOf m d t) he).trans ?_
  have hrow : Group.rowAt t (⟨a.val % 256, by omega⟩ : Fin 256) = a := Fin.ext (by show 256 * (a.val / 256) + a.val % 256 = a.val; omega)
  refine Eq.symm ((pay1_apply _ _ _ _ (⟨a.val % 256, by omega⟩ : Fin 256) q).trans ?_)
  show net (fun i => (m (argLoc d main_arg5) : S6144x1024.Idx → EReal) (ix2 (Group.rowAt t (⟨a.val % 256, by omega⟩ : Fin 256)) i)) _ _ _ = _
  rw [hrow]

/-- The shared expert's gated rows. -/
theorem gs_eq : refGs (m (argLoc d main_arg0)) (m (argLoc d main_arg1)) (m (argLoc d main_arg2)) (m (argLoc d main_arg3)) (m (argLoc d main_arg4))
    = Shared.gsBuf m (O₀ (F := Ideal)) d := by
  suffices hs : ∀ (a : Fin 2048) (q : Fin 1024), refGs (m (argLoc d main_arg0)) (m (argLoc d main_arg1)) (m (argLoc d main_arg2)) (m (argLoc d main_arg3))
      (m (argLoc d main_arg4)) (ix2 a q) = (Shared.gsBuf m (O₀ (F := Ideal)) d : S2048x1024.Idx → EReal) (ix2 a q) by
    funext y; rw [eq_ix2 y]; exact hs (y 0) (y 1)
  intro a q
  have ha := a.isLt
  have hN := N_0
  let t : Fin grid0.N := ⟨a.val / 256, by omega⟩
  have hrow : Shared.rowAt t (⟨a.val % 256, by omega⟩ : Fin 256) = a := Fin.ext (by show 256 * (a.val / 256) + a.val % 256 = a.val; omega)
  refine (refGs_apply _ _ _ _ _ a q).trans ?_
  have h := (Shared.gs_row m (O₀ (F := Ideal)) d t (⟨a.val % 256, by omega⟩ : Fin 256) q).trans (pay0_apply _ _ _ _ _ (⟨a.val % 256, by omega⟩ : Fin 256) q)
  rw [hrow] at h
  refine Eq.symm (h.trans ?_)
  let X : S2048x1024.Idx → EReal := m (argLoc d main_arg0)
  let G : S1x1024.Idx → EReal := m (argLoc d main_arg4)
  show Ideal.logistic (∑ i : Fin 1024, X (ix2 (Shared.rowAt t (⟨a.val % 256, by omega⟩ : Fin 256)) i) * G (ix2 (0 : Fin 1) i))
    * net (fun i => X (ix2 (Shared.rowAt t (⟨a.val % 256, by omega⟩ : Fin 256)) i)) _ _ _ = _
  rw [hrow]

end Meet

end Cert.Mlp

end
-- ==== Proof.Value.lean ====
/- The reference's result read element by element, over the extended reals: the rows its lists of positions name, of the experts' rows,
   weighed and summed, and its shared expert's row added. -/
module

public import proofs.«01_k».proof.Proof.Mlp
public import proofs.«01_k».proof.Proof.Gen.ReferenceIdeal.Run
public import Idealize.ShloMosaic.Lib.ValueIdx
public import Idealize.ShloMosaic.Lib.ValueLayout
public import Idealize.ShloMosaic.Lib.IdealHost
public import Idealize.ShloMosaic.Lib.Pipeline.Value

@[expose] public section

noncomputable section

namespace Cert.Combine.Value

open Idealize.ShloMosaic Idealize.SL.Sem
open Cert.ReferenceIdeal Cert.ReferenceIdeal.Gen
open Idealize.ShloMosaic.ValueIdx (ix1 ix2 ix4 eq_ix1 eq_ix2)
open Cert.KernelIdeal.Combine (tabRow place rowAll weAll total)
open Cert.Mlp (refHs refGs)

/-! ## The reference's operations at an index -/

variable {α : Type}

/-- The reference's gather of whole rows. -/
local notation "G" => gather_S6144x1024_S2048x1_S2048x1024_1_0_n_n_0_1_11024

theorem gather_row (idx : IVec S2048x1 32) (t : Fin 2048) (c : Fin 1024) :
    GatherDims.start G (ix2 t c) idx 0 + GatherDims.batchCoord G (ix2 t c) 0 + GatherDims.offCoord G (ix2 t c) 0 = min (idx (ix2 t 0)).toInt.toNat 6143 := by
  rw [GatherDims.batchCoord_eq_zero _ _ _ List.not_mem_nil,
    GatherDims.offCoord_eq_zero _ _ _ (fun h => ((GatherDims.mem_sKept _ _).mp h).1 (List.mem_singleton.mpr rfl))]
  rw [Nat.add_zero]
  unfold GatherDims.start
  refine (dif_pos (c := (0 : Fin 2) ∈ [(0 : Fin 2)]) (List.mem_singleton.mpr rfl)).trans ?_
  refine congrArg (fun z => min (idx z).toInt.toNat 6143) (funext fun b => Fin.ext ?_)
  match b with
  | ⟨0, _⟩ => rfl
  | ⟨1, _⟩ => rfl

theorem gather_col (idx : IVec S2048x1 32) (t : Fin 2048) (c : Fin 1024) :
    GatherDims.start G (ix2 t c) idx 1 + GatherDims.batchCoord G (ix2 t c) 1 + GatherDims.offCoord G (ix2 t c) 1 = c.val := by
  rw [GatherDims.batchCoord_eq_zero _ _ _ List.not_mem_nil]
  have hs : GatherDims.start G (ix2 t c) idx 1 = 0 := by
    unfold GatherDims.start
    exact dif_neg (show ¬ (1 : Fin 2) ∈ [(0 : Fin 2)] by decide)
  rw [hs, Nat.zero_add]
  unfold GatherDims.offCoord
  exact dif_pos ((GatherDims.mem_sKept _ _).mpr ⟨show ¬ (1 : Fin 2) ∈ [(0 : Fin 2)] by decide, List.not_mem_nil⟩)

/-- A row gather reads, at token `t` and column `c`, column `c` of the row its index names, read signed and kept inside the table. -/
theorem rowGather_apply (x : S6144x1024.Idx → α) (idx : IVec S2048x1 32) (t : Fin 2048) (c : Fin 1024) :
    Host.gather G x idx (ix2 t c) = x (ix2 ⟨min (idx (ix2 t 0)).toInt.toNat 6143, by omega⟩ c) := by
  unfold Host.gather
  refine congrArg x (funext fun a => Fin.ext ?_)
  match a with
  | ⟨0, _⟩ => exact gather_row idx t c
  | ⟨1, _⟩ => exact gather_col idx t c

/-- List `l` of the positions, at token `t`. -/
theorem list_apply (l : Fin 2) (p : IVec S4096 32) (h : S2x2048.Slices ![l.val, 0] S1x2048) (t : Fin 2048) :
    shapeCast S2048 (extractStridedSlice S1x2048 ![l.val, 0] (shapeCast S2x2048 p shapeCasts_S4096_S2x2048) h) shapeCasts_S1x2048_S2048 (ValueIdx.ix1 t)
      = p (ValueIdx.ix1 (place l t)) := by
  refine (ValueIdx.shapeCast_1a_a_apply _ _ t).trans ?_
  refine shapeCast_apply _ _ _ _ ?_
  rw [Shape.rowMajor_val_one, Shape.rowMajor_val_two]
  show 2048 * l.val + t.val = (l.val + 0) * 2048 + (0 + t.val)
  omega

/-- The negative-index correction leaves a position in range alone. -/
theorem wrap_apply (q : IVec S2048 32) (t : S2048.Idx) (hq : (q t).toNat < 6144) :
    select (cmpi .slt q (broadcastInDim S2048 ![] bcast_S_S2048 (constantI S_ 32 0#32)))
      (addi q (broadcastInDim S2048 ![] bcast_S_S2048 (constantI S_ 32 6144#32))) q t = q t := by
  rw [ValueIdx.select_apply]
  have hc : cmpi .slt q (broadcastInDim S2048 ![] bcast_S_S2048 (constantI S_ 32 0#32)) t = 0#1 := by
    refine ValueIdx.eq_zero_of_ne_one fun e => ?_
    have e' := IntOp.cmpi_slt.1 e
    have e0 : (0#32).toInt = 0 := by decide
    rw [show (broadcastInDim S2048 ![] bcast_S_S2048 (constantI S_ 32 0#32)) t = 0#32 from rfl, e0, BitVec.toInt_eq_toNat_cond,
      if_pos (by omega)] at e'
    omega
  rw [hc]; rfl

/-- A weight of choice `k`, spread over a row. -/
theorem spread_apply (k : Fin 2) (w : S2048x32.Idx → α) (h : S2048x32.Slices ![0, 16 * k.val] S2048x16) (t : Fin 2048) (c : Fin 1024) :
    shapeCast S2048x1024 (broadcastInDim S1x2048x64x16 ![0, 1, 2, 3] bcast_S1x2048x1x16_S1x2048x64x16_0_1_2_3
      (shapeCast S1x2048x1x16 (extractStridedSlice S2048x16 ![0, 16 * k.val] w h) shapeCasts_S2048x16_S1x2048x1x16))
      shapeCasts_S1x2048x64x16_S2048x1024 (ix2 t c) = w (ix2 t ⟨16 * k.val + c.val % 16, by have := k.isLt; omega⟩) := by
  have hc := c.isLt
  refine (shapeCast_apply _ _ (ix2 t c) (ix4 (0 : Fin 1) t (⟨c.val / 16, by omega⟩ : Fin 64) (⟨c.val % 16, by omega⟩ : Fin 16)) ?_).trans ?_
  · rw [Shape.rowMajor_val_four, Shape.rowMajor_val_two]
    show ((0 * 2048 + t.val) * 64 + c.val / 16) * 16 + c.val % 16 = t.val * 1024 + c.val
    omega
  refine (shapeCast_apply _ _ _ (ix2 t (⟨c.val % 16, by omega⟩ : Fin 16)) ?_).trans ?_
  · rw [Shape.rowMajor_val_four, Shape.rowMajor_val_two]
    show t.val * 16 + c.val % 16 = ((0 * 2048 + t.val) * 1 + 0) * 16 + c.val % 16
    omega
  refine congrArg w (funext fun a => Fin.ext ?_)
  match a with
  | ⟨0, _⟩ => show 0 + t.val = t.val; omega
  | ⟨1, _⟩ => rfl

/-- The weights of choice `k`, as the reference spreads them. -/
abbrev spread (k : Fin 2) (w : S2048x32.Idx → α) (h : S2048x32.Slices ![0, 16 * k.val] S2048x16) : S2048x1024.Idx → α :=
  shapeCast S2048x1024 (broadcastInDim S1x2048x64x16 ![0, 1, 2, 3] bcast_S1x2048x1x16_S1x2048x64x16_0_1_2_3
    (shapeCast S1x2048x1x16 (extractStridedSlice S2048x16 ![0, 16 * k.val] w h) shapeCasts_S2048x16_S1x2048x1x16))
    shapeCasts_S1x2048x64x16_S2048x1024

theorem spread_eq (k : Fin 2) (w : S2048x32.Idx → Ideal .f32) (h : S2048x32.Slices ![0, 16 * k.val] S2048x16) : spread k w h = weAll (F := Ideal) w k := by
  funext y
  rw [eq_ix2 y]
  exact spread_apply k w h (y 0) (y 1)

/-! ## The reference's result -/

/-- The list a gather takes, one index per token. -/
abbrev column (q : IVec S2048 32) : IVec S2048x1 32 :=
  broadcastInDim S2048x1 ![0] bcast_S2048_S2048x1_0 (select (cmpi .slt q (broadcastInDim S2048 ![] bcast_S_S2048 (constantI S_ 32 0#32)))
    (addi q (broadcastInDim S2048 ![] bcast_S_S2048 (constantI S_ 32 6144#32))) q)

theorem column_apply (q : IVec S2048 32) (t : Fin 2048) (hq : (q (ValueIdx.ix1 t)).toNat < 6144) : column q (ix2 t 0) = q (ValueIdx.ix1 t) := by
  refine Eq.trans ?_ (wrap_apply q (ValueIdx.ix1 t) hq)
  refine congrArg (select _ _ q) (funext fun a => ?_)
  obtain rfl : a = 0 := Subsingleton.elim _ _
  rfl

/-- The rows a list names, as the reference gathers them. -/
theorem rows_eq (l : Fin 2) (x : S6144x1024.Idx → Ideal .f32) (p : IVec S4096 32) (hp : ∀ z, (p z).toNat < 6144) (q : IVec S2048 32)
    (hq : ∀ t, q (ValueIdx.ix1 t) = p (ValueIdx.ix1 (place l t))) : Host.gather G x (column q) = rowAll (F := Ideal) x p l := by
  suffices hs : ∀ (t : Fin 2048) (c : Fin 1024), Host.gather G x (column q) (ix2 t c) = rowAll (F := Ideal) x p l (ix2 t c) by
    funext y; rw [eq_ix2 y]; exact hs (y 0) (y 1)
  intro t c
  refine (rowGather_apply x (column q) t c).trans ?_
  have hv := hp (ValueIdx.ix1 (place l t))
  have e : column q (ix2 t 0) = p (ValueIdx.ix1 (place l t)) := (column_apply q t (by rw [hq]; exact hv)).trans (hq t)
  refine congrArg x (funext fun a => Fin.ext ?_)
  match a with
  | ⟨0, _⟩ =>
    show min (column q (ix2 t 0)).toInt.toNat 6143 = min (p (ValueIdx.ix1 (place l t))).toNat 6143
    rw [e, BitVec.toInt_eq_toNat_cond, if_pos (by omega)]; rfl
  | ⟨1, _⟩ => rfl

/-- Zero added on the left changes nothing. -/
theorem zero_addf (x : FVec Ideal S2048x1024 .f32) :
    addf (broadcastInDim S2048x1024 ![] bcast_S_S2048x1024 (constant S_ .f32 0x00000000#32)) x = x := by
  funext y
  rw [ValueIdx.addf_apply]
  refine (congrArg (· + x y) (show _ = Ideal.ofBits .f32 0x00000000#32 from rfl)).trans ?_
  rw [Ideal.ofBits_zero_f32]
  exact zero_add _

/-- The positions of list `l`, as the reference cuts them out. -/
abbrev list (l : Fin 2) (p : IVec S4096 32) (h : S2x2048.Slices ![l.val, 0] S1x2048) : IVec S2048 32 :=
  shapeCast S2048 (extractStridedSlice S1x2048 ![l.val, 0] (shapeCast S2x2048 p shapeCasts_S4096_S2x2048) h) shapeCasts_S1x2048_S2048

/-- The reference's result, its operations in the order it performs them. -/
def refOut (x : FVec Ideal S6144x1024 .f32) (g : FVec Ideal S2048x1024 .f32) (p : IVec S4096 32) (w : FVec Ideal S2048x32 .f32) :
    FVec Ideal S2048x1024 .f32 :=
  addf (addf (addf (broadcastInDim S2048x1024 ![] bcast_S_S2048x1024 (constant S_ .f32 0x00000000#32))
    (mulf (spread 0 w slices_S2048x32_S2048x16_0_0) (Host.gather G x (column (list 0 p slices_S2x2048_S1x2048_0_0)))))
    (mulf (spread 1 w slices_S2048x32_S2048x16_0_16) (Host.gather G x (column (list 1 p slices_S2x2048_S1x2048_1_0))))) g

/-- It is the kernel's output when every position names a row. -/
theorem refOut_eq (x : FVec Ideal S6144x1024 .f32) (g : FVec Ideal S2048x1024 .f32) (p : IVec S4096 32) (w : FVec Ideal S2048x32 .f32)
    (hp : ∀ z, (p z).toNat < 6144) : refOut x g p w = total x g p w := by
  unfold refOut total
  rw [zero_addf, spread_eq 0 w, spread_eq 1 w, rows_eq 0 x p hp _ (list_apply 0 p _), rows_eq 1 x p hp _ (list_apply 1 p _)]

/-- The reference runs to its end and leaves `refOut` of its experts' rows and of its shared expert's, and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v230) = refOut
          (refHs (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
          (refGs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  Cert.ReferenceIdeal.Value.run m ρ

end Cert.Combine.Value

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Pre_in_range
public import proofs.«01_k».proof.Proof.Launch
public import proofs.«01_k».proof.Proof.Ready
public import proofs.«01_k».proof.Proof.Same
public import proofs.«01_k».proof.Proof.Mlp
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem
open Cert.KernelIdeal.Combine (QC argRefs argLoc run_main outBuf)
open Cert.Combine.Value (refOut refOut_eq run_ref)

/-- The kernel's run from a memory its precondition admits, for any interpretation of the floats. -/
theorem run_kernel {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg)
    (h : Cert.Pre_in_range.fn (F := F) (m (argLoc 0 Cert.KernelIdeal.main_arg0)) (m (argLoc 0 Cert.KernelIdeal.main_arg1)) (m (argLoc 0 Cert.KernelIdeal.main_arg2)) (m (argLoc 0 Cert.KernelIdeal.main_arg3)) (m (argLoc 0 Cert.KernelIdeal.main_arg4)) (m (argLoc 0 Cert.KernelIdeal.main_arg5)) (m (argLoc 0 Cert.KernelIdeal.main_arg6)) (m (argLoc 0 Cert.KernelIdeal.main_arg7)) (m (argLoc 0 Cert.KernelIdeal.main_arg8)) (m (argLoc 0 Cert.KernelIdeal.main_arg9)) (m (argLoc 0 Cert.KernelIdeal.main_arg10)) (m (argLoc 0 Cert.KernelIdeal.main_arg11)) (m (argLoc 0 Cert.KernelIdeal.main_arg12)) = fun _ => 1#1) :
    θ_run (Cert.KernelIdeal.defs (F := F)) (Cert.KernelIdeal.threads (F := F)) ⟨m, fun _ => 0, g⟩ (QC m) := by
  obtain ⟨hp, hn, hT⟩ := Cert.Ready.ranges _ _ _ _ _ _ _ _ _ _ _ _ _ h
  exact run_main g (Cert.Ready.ok m hp hn hT)

/-- The kernel at bits runs, ends quiescent and leaves its arguments as they were. -/
theorem frame_kernel : Cert.quiescent_Kernel := by
  intro m g h
  exact (θ_run Cert.Kernel.defs _ _).mono (fun r e => ⟨fun c => ⟨(e.1 c).1 Cert.KernelIdeal.main_arg0 (by simp [argRefs]), (e.1 c).1 Cert.KernelIdeal.main_arg1 (by simp [argRefs]), (e.1 c).1 Cert.KernelIdeal.main_arg2 (by simp [argRefs]), (e.1 c).1 Cert.KernelIdeal.main_arg3 (by simp [argRefs]), (e.1 c).1 Cert.KernelIdeal.main_arg4 (by simp [argRefs]), (e.1 c).1 Cert.KernelIdeal.main_arg5 (by simp [argRefs]), (e.1 c).1 Cert.KernelIdeal.main_arg6 (by simp [argRefs]), (e.1 c).1 Cert.KernelIdeal.main_arg7 (by simp [argRefs]), (e.1 c).1 Cert.KernelIdeal.main_arg8 (by simp [argRefs]), (e.1 c).1 Cert.KernelIdeal.main_arg9 (by simp [argRefs]), (e.1 c).1 Cert.KernelIdeal.main_arg10 (by simp [argRefs]), (e.1 c).1 Cert.KernelIdeal.main_arg11 (by simp [argRefs]), (e.1 c).1 Cert.KernelIdeal.main_arg12 (by simp [argRefs])⟩, e.2⟩)
    (Cert.Same.same (F := Bits) m g _ (run_kernel (F := Bits) m g (h 0)))

/-- The same at the extended reals. -/
theorem frame_ideal : Cert.quiescent_KernelIdeal := by
  intro m g h
  exact (θ_run Cert.KernelIdeal.defs _ _).mono (fun r e => ⟨fun c => ⟨(e.1 c).1 Cert.KernelIdeal.main_arg0 (by simp [argRefs]), (e.1 c).1 Cert.KernelIdeal.main_arg1 (by simp [argRefs]), (e.1 c).1 Cert.KernelIdeal.main_arg2 (by simp [argRefs]), (e.1 c).1 Cert.KernelIdeal.main_arg3 (by simp [argRefs]), (e.1 c).1 Cert.KernelIdeal.main_arg4 (by simp [argRefs]), (e.1 c).1 Cert.KernelIdeal.main_arg5 (by simp [argRefs]), (e.1 c).1 Cert.KernelIdeal.main_arg6 (by simp [argRefs]), (e.1 c).1 Cert.KernelIdeal.main_arg7 (by simp [argRefs]), (e.1 c).1 Cert.KernelIdeal.main_arg8 (by simp [argRefs]), (e.1 c).1 Cert.KernelIdeal.main_arg9 (by simp [argRefs]), (e.1 c).1 Cert.KernelIdeal.main_arg10 (by simp [argRefs]), (e.1 c).1 Cert.KernelIdeal.main_arg11 (by simp [argRefs]), (e.1 c).1 Cert.KernelIdeal.main_arg12 (by simp [argRefs])⟩, e.2⟩)
    (run_kernel (F := Ideal) m g (h 0))

/-- The reference runs from every memory; it declares no semaphore. -/
theorem frame_reference : Cert.quiescent_ReferenceIdeal := by
  intro m g _
  exact (θ_run Cert.ReferenceIdeal.defs _ _).mono (fun r e => ⟨fun c => (e c).2, sem_eq_zero_of_no_sems (by decide) r.2⟩) (run_ref m g)

/-- The kernel and the reference end with equal results: both pass each row through its block's expert, weigh and sum each token's
    two rows, and add its shared-expert row. -/
theorem value : Cert.algebraic_KernelIdeal_ReferenceIdeal := by
  intro m g m' g' h ha
  refine ⟨fun c => outBuf m c, ?_, ?_⟩
  · exact (θ_run Cert.KernelIdeal.defs _ _).mono
      (fun r e c => ⟨(e.1 c).2, (e.1 c).1 Cert.KernelIdeal.main_arg0 (by simp [argRefs]), (e.1 c).1 Cert.KernelIdeal.main_arg1 (by simp [argRefs]), (e.1 c).1 Cert.KernelIdeal.main_arg2 (by simp [argRefs]), (e.1 c).1 Cert.KernelIdeal.main_arg3 (by simp [argRefs]), (e.1 c).1 Cert.KernelIdeal.main_arg4 (by simp [argRefs]), (e.1 c).1 Cert.KernelIdeal.main_arg5 (by simp [argRefs]), (e.1 c).1 Cert.KernelIdeal.main_arg6 (by simp [argRefs]), (e.1 c).1 Cert.KernelIdeal.main_arg7 (by simp [argRefs]), (e.1 c).1 Cert.KernelIdeal.main_arg8 (by simp [argRefs]), (e.1 c).1 Cert.KernelIdeal.main_arg9 (by simp [argRefs]), (e.1 c).1 Cert.KernelIdeal.main_arg10 (by simp [argRefs]), (e.1 c).1 Cert.KernelIdeal.main_arg11 (by simp [argRefs]), (e.1 c).1 Cert.KernelIdeal.main_arg12 (by simp [argRefs])⟩) (run_kernel (F := Ideal) m g (h 0))
  · refine (θ_run Cert.ReferenceIdeal.defs _ _).mono (fun r e c => ⟨(e c).1.trans ?_, (e c).2⟩) (run_ref m' g')
    obtain ⟨h0, h1, h2, h3, h4, h5, h6, h7, h8, h9, h10, h11, h12⟩ := ha c
    obtain ⟨hp, -, hT⟩ := Cert.Ready.ranges _ _ _ _ _ _ _ _ _ _ _ _ _ (h c)
    rw [h0, h1, h2, h3, h4, h5, h6, h7, h8, h9, h11, h12]
    refine (refOut_eq _ _ _ _ hp).trans ?_
    exact congrArg₂ (fun x y => Cert.KernelIdeal.Combine.total (F := Ideal) x y _ _) (Cert.Mlp.hs_eq m c hT) (Cert.Mlp.gs_eq m c)

/-- Everything claimed. -/
theorem claim : Cert.Claim :=
  ⟨Cert.Kernel.Gen.facts, Cert.KernelIdeal.Gen.facts, Cert.ReferenceIdeal.Gen.facts, Cert.Pre_in_range.Gen.facts,
    frame_kernel, frame_ideal, frame_reference, fun m g _ => frame_reference m g trivial, trivial, value⟩

end Cert.Proof

end
